-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def preserves_Kernel_KernelIdeal : Prop :=
  IdealRules.named_const.Statement Cert.KernelIdeal.κ "scale2" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v69) = v1 c
          ∧ r.2.mem ((c.tc : Thread Cert.Reference3Ideal.nD Cert.Reference3Ideal.τ).loc Cert.Reference3Ideal.main_v70) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v105) = v0 c
          ∧ r.2.mem ((c.tc : Thread Cert.Reference6Ideal.nD Cert.Reference6Ideal.τ).loc Cert.Reference6Ideal.main_v109) = v1 c
          ∧ r.2.mem ((c.tc : Thread Cert.Reference6Ideal.nD Cert.Reference6Ideal.τ).loc Cert.Reference6Ideal.main_v112) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite3 : Cert.Pre_finite3.Facts) (hPre_finite4 : Cert.Pre_finite4.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S8192x11264 : Shape := ⟨2, ![8192, 11264]⟩
abbrev S8x513 : Shape := ⟨2, ![8, 513]⟩
abbrev S_ : Shape := ⟨0, ![]⟩

class Facts : Prop where
  bitsLt_bf16_f32 : FTy.bits .bf16 < FTy.bits .f32
  bcast_S_S8192x11264 : S_.BroadcastsInDim S8192x11264 (![] : Fin 0 → Fin S8192x11264.rank)
  bcast_S_S8x513 : S_.BroadcastsInDim S8x513 (![] : Fin 0 → Fin S8x513.rank)

variable [Facts]

def fn {F : FTy → Type} [FloatOps F] (main_arg0 : FVec F S8192x11264 .bf16) (main_arg1 : FVec F S8x513 .f32) : IVec S8192x11264 1 × IVec S8x513 1 :=
  let main_v0 : FVec F S8192x11264 .f32 := (extf .f32 · bitsLt_bf16_f32) main_arg0
  let main_v1 : FVec F S8192x11264 .f32 := Host.absf main_v0
  let main_cst : FVec F S_ .f32 := constant S_ .f32 0x7F800000#32
  let main_v2 : FVec F S8192x11264 .f32 := broadcastInDim S8192x11264 ![] bcast_S_S8192x11264 main_cst
  let main_v3 : IVec S8192x11264 1 := cmpf .olt main_v1 main_v2
  let main_v4 : FVec F S8x513 .f32 := Host.absf main_arg1
  let main_cst_0 : FVec F S_ .f32 := constant S_ .f32 0x7F800000#32
  let main_v5 : FVec F S8x513 .f32 := broadcastInDim S8x513 ![] bcast_S_S8x513 main_cst_0
  let main_v6 : IVec S8x513 1 := cmpf .olt main_v4 main_v5
  (main_v3, main_v6)
-- ==== Pre_finite3.lean ====
abbrev S8192x1024 : Shape := ⟨2, ![8192, 1024]⟩
abbrev S8192x11264 : Shape := ⟨2, ![8192, 11264]⟩
abbrev S4x1024x2048 : Shape := ⟨3, ![4, 1024, 2048]⟩
abbrev S4x2048x2048 : Shape := ⟨3, ![4, 2048, 2048]⟩
abbrev S8192x2048 : Shape := ⟨2, ![8192, 2048]⟩
abbrev S4x6x2048 : Shape := ⟨3, ![4, 6, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x11264 : S_.BroadcastsInDim S8192x11264 (![] : Fin 0 → Fin S8192x11264.rank)
  bcast_S_S4x1024x2048 : S_.BroadcastsInDim S4x1024x2048 (![] : Fin 0 → Fin S4x1024x2048.rank)
  bcast_S_S4x2048x2048 : S_.BroadcastsInDim S4x2048x2048 (![] : Fin 0 → Fin S4x2048x2048.rank)
  bcast_S_S8192x2048 : S_.BroadcastsInDim S8192x2048 (![] : Fin 0 → Fin S8192x2048.rank)
  bcast_S_S4x6x2048 : S_.BroadcastsInDim S4x6x2048 (![] : Fin 0 → Fin S4x6x2048.rank)
  bcast_S_S2048 : S_.BroadcastsInDim S2048 (![] : Fin 0 → Fin S2048.rank)

variable [Facts]

def fn_part1 {F : FTy → Type} [FloatOps F] (main_arg6 : FVec F S8192x2048 .f32) (main_arg7 : FVec F S4x6x2048 .f32) (main_arg8 : FVec F S2048 .f32) (main_v3 : IVec S8192x1024 1) (main_v7 : IVec S8192x1024 1) (main_v11 : IVec S8192x11264 1) (main_v14 : IVec S4x1024x2048 1) (main_v17 : IVec S4x1024x2048 1) (main_v18 : FVec F S4x2048x2048 .f32) : IVec S8192x1024 1 × IVec S8192x1024 1 × IVec S8192x11264 1 × IVec S4x1024x2048 1 × IVec S4x1024x2048 1 × IVec S4x2048x2048 1 × IVec S8192x2048 1 × IVec S4x6x2048 1 × IVec S2048 1 :=
  let main_cst_4 : FVec F S_ .f32 := constant S_ .f32 0x7F800000#32
  let main_v19 : FVec F S4x2048x2048 .f32 := broadcastInDim S4x2048x2048 ![] bcast_S_S4x2048x2048 main_cst_4
  let main_v20 : IVec S4x2048x2048 1 := cmpf .olt main_v18 main_v19
  let main_v21 : FVec F S8192x2048 .f32 := Host.absf main_arg6
  let main_cst_5 : FVec F S_ .f32 := constant S_ .f32 0x7F800000#32
  let main_v22 : FVec F S8192x2048 .f32 := broadcastInDim S8192x2048 ![] bcast_S_S8192x2048 main_cst_5
  let main_v23 : IVec S8192x2048 1 := cmpf .olt main_v21 main_v22
  let main_v24 : FVec F S4x6x2048 .f32 := Host.absf main_arg7
  let main_cst_6 : FVec F S_ .f32 := constant S_ .f32 0x7F800000#32
  let main_v25 : FVec F S4x6x2048 .f32 := broadcastInDim S4x6x2048 ![] bcast_S_S4x6x2048 main_cst_6
  let main_v26 : IVec S4x6x2048 1 := cmpf .olt main_v24 main_v25
  let main_v27 : FVec F S2048 .f32 := Host.absf main_arg8
  let main_cst_7 : FVec F S_ .f32 := constant S_ .f32 0x7F800000#32
  let main_v28 : FVec F S2048 .f32 := broadcastInDim S2048 ![] bcast_S_S2048 main_cst_7
  let main_v29 : IVec S2048 1 := cmpf .olt main_v27 main_v28
  (main_v3, main_v7, main_v11, main_v14, main_v17, main_v20, main_v23, main_v26, main_v29)

def fn {F : FTy → Type} [FloatOps F] (main_arg0 : FVec F S8192x1024 .bf16) (main_arg1 : FVec F S8192x1024 .bf16) (main_arg2 : FVec F S8192x11264 .bf16) (main_arg3 : FVec F S4x1024x2048 .f32) (main_arg4 : FVec F S4x1024x2048 .f32) (main_arg5 : FVec F S4x2048x2048 .f32) (main_arg6 : FVec F S8192x2048 .f32) (main_arg7 : FVec F S4x6x2048 .f32) (main_arg8 : FVec F S2048 .f32) (main_arg9 : FVec F S2048x4 .f32) (main_arg10 : FVec F S4 .f32) (main_arg11 : FVec F S2048x32 .f32) (main_arg12 : FVec F S32 .f32) : IVec S8192x1024 1 × IVec S8192x1024 1 × IVec S8192x11264 1 × IVec S4x1024x2048 1 × IVec S4x1024x2048 1 × IVec S4x2048x2048 1 × IVec S8192x2048 1 × IVec S4x6x2048 1 × IVec S2048 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x11264 .f32 := (extf .f32 · bitsLt_bf16_f32) main_arg2
  let main_v9 : FVec F S8192x11264 .f32 := Host.absf main_v8
  let main_cst_1 : FVec F S_ .f32 := constant S_ .f32 0x7F800000#32
  let main_v10 : FVec F S8192x11264 .f32 := broadcastInDim S8192x11264 ![] bcast_S_S8192x11264 main_cst_1
  let main_v11 : IVec S8192x11264 1 := cmpf .olt main_v9 main_v10
  let main_v12 : FVec F S4x1024x2048 .f32 := Host.absf main_arg3
  let main_cst_2 : FVec F S_ .f32 := constant S_ .f32 0x7F800000#32
  let main_v13 : FVec F S4x1024x2048 .f32 := broadcastInDim S4x1024x2048 ![] bcast_S_S4x1024x2048 main_cst_2
  let main_v14 : IVec S4x1024x2048 1 := cmpf .olt main_v12 main_v13
  let main_v15 : FVec F S4x1024x2048 .f32 := Host.absf main_arg4
  let main_cst_3 : FVec F S_ .f32 := constant S_ .f32 0x7F800000#32
  let main_v16 : FVec F S4x1024x2048 .f32 := broadcastInDim S4x1024x2048 ![] bcast_S_S4x1024x2048 main_cst_3
  let main_v17 : IVec S4x1024x2048 1 := cmpf .olt main_v15 main_v16
  let main_v18 : FVec F S4x2048x2048 .f32 := Host.absf main_arg5
  fn_part1 (F := F) main_arg6 main_arg7 main_arg8 main_v3 main_v7 main_v11 main_v14 main_v17 main_v18
-- ==== Pre_finite4.lean ====
abbrev S4x2048 : Shape := ⟨2, ![4, 2048]⟩
abbrev S4x2048x12288 : Shape := ⟨3, ![4, 2048, 12288]⟩
abbrev S4x12288 : Shape := ⟨2, ![4, 12288]⟩
abbrev S_ : Shape := ⟨0, ![]⟩

class Facts : Prop where
  bcast_S_S4x2048 : S_.BroadcastsInDim S4x2048 (![] : Fin 0 → Fin S4x2048.rank)

variable [Facts]

def fn {F : FTy → Type} [FloatOps F] (main_arg0 : FVec F S4x2048 .f32) (main_arg1 : FVec F S4x2048x12288 .f32) (main_arg2 : FVec F S4x12288 .f32) : IVec S4x2048 1 :=
  let main_v0 : FVec F S4x2048 .f32 := Host.absf main_arg0
  let main_cst : FVec F S_ .f32 := constant S_ .f32 0x7F800000#32
  let main_v1 : FVec F S4x2048 .f32 := broadcastInDim S4x2048 ![] bcast_S_S4x2048 main_cst
  let main_v2 : IVec S4x2048 1 := cmpf .olt main_v0 main_v1
  main_v2
-- ==== Pre_finite6.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)

variable [Facts]

def fn {F : FTy → Type} [FloatOps F] (main_arg0 : FVec F S8192x128 .f32) : IVec S8192x128 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  main_v2
-- ==== Kernel.lean ====
abbrev S8192x11264 : Shape := ⟨2, ![8192, 11264]⟩
abbrev S8x513 : Shape := ⟨2, ![8, 513]⟩
abbrev S256 : Shape := ⟨1, ![256]⟩
abbrev S256x1 : Shape := ⟨2, ![256, 1]⟩
abbrev S768 : Shape := ⟨1, ![768]⟩
abbrev S1x768 : Shape := ⟨2, ![1, 768]⟩
abbrev S8x1 : Shape := ⟨2, ![8, 1]⟩
abbrev S8x512 : Shape := ⟨2, ![8, 512]⟩
abbrev S8x0 : Shape := ⟨2, ![8, 0]⟩
abbrev S8x1024 : Shape := ⟨2, ![8, 1024]⟩
abbrev S1x8x1x1024 : Shape := ⟨4, ![1, 8, 1, 1024]⟩
abbrev S1x8x257x1024 : Shape := ⟨4, ![1, 8, 257, 1024]⟩
abbrev S8x263168 : Shape := ⟨2, ![8, 263168]⟩
abbrev S8x261888 : Shape := ⟨2, ![8, 261888]⟩
abbrev S8x256x1023 : Shape := ⟨3, ![8, 256, 1023]⟩
abbrev S8x256x768 : Shape := ⟨3, ![8, 256, 768]⟩
abbrev S_ : Shape := ⟨0, ![]⟩
abbrev S256x768 : Shape := ⟨2, ![256, 768]⟩
abbrev S1x256x768 : Shape := ⟨3, ![1, 256, 768]⟩
abbrev S1x8x256x768 : Shape := ⟨4, ![1, 8, 256, 768]⟩
abbrev S3x8x256x768 : Shape := ⟨4, ![3, 8, 256, 768]⟩
abbrev S8192x1024 : Shape := ⟨2, ![8192, 1024]⟩
abbrev S256x1024 : Shape := ⟨2, ![256, 1024]⟩
abbrev S128x128 : Shape := ⟨2, ![128, 128]⟩
abbrev S256x128 : Shape := ⟨2, ![256, 128]⟩
abbrev S128x256 : Shape := ⟨2, ![128, 256]⟩
abbrev S128x640 : Shape := ⟨2, ![128, 640]⟩
abbrev S1x128x640 : Shape := ⟨3, ![1, 128, 640]⟩
abbrev S4x128x640 : Shape := ⟨3, ![4, 128, 640]⟩
abbrev S1x4x128x640 : Shape := ⟨4, ![1, 4, 128, 640]⟩
abbrev S4x128 : Shape := ⟨2, ![4, 128]⟩
abbrev S4x128x1 : Shape := ⟨3, ![4, 128, 1]⟩
abbrev S1x128x256 : Shape := ⟨3, ![1, 128, 256]⟩
abbrev S1x128x128 : Shape := ⟨3, ![1, 128, 128]⟩
abbrev S1x128x1 : Shape := ⟨3, ![1, 128, 1]⟩
abbrev S128x1 : Shape := ⟨2, ![128, 1]⟩

abbrev nBuf : Space → Nat
  | .hbm => 106
  | .vmem => 18
  | .smem => 0
  | _ => 0

abbrev bufTy : (tb : Table) → Fin (tcTables nBuf tb) → BufTy
  | .hbm, ⟨0, _⟩ => ⟨S8192x11264, .bf16⟩
  | .hbm, ⟨1, _⟩ => ⟨S8x513, .f32⟩
  | .hbm, ⟨2, _⟩ => ⟨S256, .i32⟩
  | .hbm, ⟨3, _⟩ => ⟨S256x1, .i32⟩
  | .hbm, ⟨4, _⟩ => ⟨S768, .i32⟩
  | .hbm, ⟨5, _⟩ => ⟨S1x768, .i32⟩
  | .hbm, ⟨6, _⟩ => ⟨S8x1, .f32⟩
  | .hbm, ⟨7, _⟩ => ⟨S8x512, .f32⟩
  | .hbm, ⟨8, _⟩ => ⟨S8x512, .f32⟩
  | .hbm, ⟨9, _⟩ => ⟨S8x512, .f32⟩
  | .hbm, ⟨10, _⟩ => ⟨S8x1, .f32⟩
  | .hbm, ⟨11, _⟩ => ⟨S8x0, .f32⟩
  | .hbm, ⟨12, _⟩ => ⟨S8x1024, .f32⟩
  | .hbm, ⟨13, _⟩ => ⟨S1x8x1x1024, .f32⟩
  | .hbm, ⟨14, _⟩ => ⟨S1x8x257x1024, .f32⟩
  | .hbm, ⟨15, _⟩ => ⟨S8x263168, .f32⟩
  | .hbm, ⟨16, _⟩ => ⟨S8x261888, .f32⟩
  | .hbm, ⟨17, _⟩ => ⟨S8x256x1023, .f32⟩
  | .hbm, ⟨18, _⟩ => ⟨S8x256x768, .f32⟩
  | .hbm, ⟨19, _⟩ => ⟨S_, .i32⟩
  | .hbm, ⟨20, _⟩ => ⟨S_, .i32⟩
  | .hbm, ⟨21, _⟩ => ⟨S256x1, .i32⟩
  | .hbm, ⟨22, _⟩ => ⟨S256x1, .i32⟩
  | .hbm, ⟨23, _⟩ => ⟨S256x1, .i32⟩
  | .hbm, ⟨24, _⟩ => ⟨S_, .i32⟩
  | .hbm, ⟨25, _⟩ => ⟨S256x1, .i32⟩
  | .hbm, ⟨26, _⟩ => ⟨S256x1, .i1⟩
  | .hbm, ⟨27, _⟩ => ⟨S256x1, .i32⟩
  | .hbm, ⟨28, _⟩ => ⟨S256x1, .i32⟩
  | .hbm, ⟨29, _⟩ => ⟨S_, .i32⟩
  | .hbm, ⟨30, _⟩ => ⟨S256x1, .i32⟩
  | .hbm, ⟨31, _⟩ => ⟨S256x1, .i1⟩
  | .hbm, ⟨32, _⟩ => ⟨S256x1, .i1⟩
  | .hbm, ⟨33, _⟩ => ⟨S_, .i32⟩
  | .hbm, ⟨34, _⟩ => ⟨S256x1, .i32⟩
  | .hbm, ⟨35, _⟩ => ⟨S256x1, .i32⟩
  | .hbm, ⟨36, _⟩ => ⟨S256x1, .i32⟩
  | .hbm, ⟨37, _⟩ => ⟨S_, .i32⟩
  | .hbm, ⟨38, _⟩ => ⟨S256x1, .i32⟩
  | .hbm, ⟨39, _⟩ => ⟨S256x1, .i32⟩
  | .hbm, ⟨40, _⟩ => ⟨S_, .i32⟩
  | .hbm, ⟨41, _⟩ => ⟨S_, .i32⟩
  | .hbm, ⟨42, _⟩ => ⟨S1x768, .i32⟩
  | .hbm, ⟨43, _⟩ => ⟨S1x768, .i32⟩
  | .hbm, ⟨44, _⟩ => ⟨S1x768, .i32⟩
  | .hbm, ⟨45, _⟩ => ⟨S_, .i32⟩
  | .hbm, ⟨46, _⟩ => ⟨S1x768, .i32⟩
  | .hbm, ⟨47, _⟩ => ⟨S1x768, .i1⟩
  | .hbm, ⟨48, _⟩ => ⟨S1x768, .i32⟩
  | .hbm, ⟨49, _⟩ => ⟨S1x768, .i32⟩
  | .hbm, ⟨50, _⟩ => ⟨S_, .i32⟩
  | .hbm, ⟨51, _⟩ => ⟨S1x768, .i32⟩
  | .hbm, ⟨52, _⟩ => ⟨S1x768, .i1⟩
  | .hbm, ⟨53, _⟩ => ⟨S1x768, .i1⟩
  | .hbm, ⟨54, _⟩ => ⟨S_, .i32⟩
  | .hbm, ⟨55, _⟩ => ⟨S1x768, .i32⟩
  | .hbm, ⟨56, _⟩ => ⟨S1x768, .i32⟩
  | .hbm, ⟨57, _⟩ => ⟨S1x768, .i32⟩
  | .hbm, ⟨58, _⟩ => ⟨S256x768, .i32⟩
  | .hbm, ⟨59, _⟩ => ⟨S256x768, .i32⟩
  | .hbm, ⟨60, _⟩ => ⟨S256x768, .i1⟩
  | .hbm, ⟨61, _⟩ => ⟨S_, .i32⟩
  | .hbm, ⟨62, _⟩ => ⟨S256x1, .i32⟩
  | .hbm, ⟨63, _⟩ => ⟨S256x1, .i32⟩
  | .hbm, ⟨64, _⟩ => ⟨S256x768, .i32⟩
  | .hbm, ⟨65, _⟩ => ⟨S256x768, .i32⟩
  | .hbm, ⟨66, _⟩ => ⟨S256x768, .i1⟩
  | .hbm, ⟨67, _⟩ => ⟨S256x768, .i1⟩
  | .hbm, ⟨68, _⟩ => ⟨S_, .i32⟩
  | .hbm, ⟨69, _⟩ => ⟨S1x768, .i32⟩
  | .hbm, ⟨70, _⟩ => ⟨S1x768, .i1⟩
  | .hbm, ⟨71, _⟩ => ⟨S256x768, .i1⟩
  | .hbm, ⟨72, _⟩ => ⟨S256x768, .i1⟩
  | .hbm, ⟨73, _⟩ => ⟨S1x256x768, .i1⟩
  | .hbm, ⟨74, _⟩ => ⟨S_, .f32⟩
  | .hbm, ⟨75, _⟩ => ⟨S_, .f32⟩
  | .hbm, ⟨76, _⟩ => ⟨S8x256x768, .i1⟩
  | .hbm, ⟨77, _⟩ => ⟨S8x256x768, .f32⟩
  | .hbm, ⟨78, _⟩ => ⟨S8x256x768, .f32⟩
  | .hbm, ⟨79, _⟩ => ⟨S_, .i32⟩
  | .hbm, ⟨80, _⟩ => ⟨S1x768, .i32⟩
  | .hbm, ⟨81, _⟩ => ⟨S1x768, .i1⟩
  | .hbm, ⟨82, _⟩ => ⟨S256x768, .i1⟩
  | .hbm, ⟨83, _⟩ => ⟨S256x768, .i1⟩
  | .hbm, ⟨84, _⟩ => ⟨S1x256x768, .i1⟩
  | .hbm, ⟨85, _⟩ => ⟨S_, .f32⟩
  | .hbm, ⟨86, _⟩ => ⟨S_, .f32⟩
  | .hbm, ⟨87, _⟩ => ⟨S8x256x768, .i1⟩
  | .hbm, ⟨88, _⟩ => ⟨S8x256x768, .f32⟩
  | .hbm, ⟨89, _⟩ => ⟨S8x256x768, .f32⟩
  | .hbm, ⟨90, _⟩ => ⟨S_, .i32⟩
  | .hbm, ⟨91, _⟩ => ⟨S1x768, .i32⟩
  | .hbm, ⟨92, _⟩ => ⟨S1x768, .i1⟩
  | .hbm, ⟨93, _⟩ => ⟨S256x768, .i1⟩
  | .hbm, ⟨94, _⟩ => ⟨S256x768, .i1⟩
  | .hbm, ⟨95, _⟩ => ⟨S1x256x768, .i1⟩
  | .hbm, ⟨96, _⟩ => ⟨S_, .f32⟩
  | .hbm, ⟨97, _⟩ => ⟨S_, .f32⟩
  | .hbm, ⟨98, _⟩ => ⟨S8x256x768, .i1⟩
  | .hbm, ⟨99, _⟩ => ⟨S8x256x768, .f32⟩
  | .hbm, ⟨100, _⟩ => ⟨S8x256x768, .f32⟩
  | .hbm, ⟨101, _⟩ => ⟨S1x8x256x768, .f32⟩
  | .hbm, ⟨102, _⟩ => ⟨S1x8x256x768, .f32⟩
  | .hbm, ⟨103, _⟩ => ⟨S1x8x256x768, .f32⟩
  | .hbm, ⟨104, _⟩ => ⟨S3x8x256x768, .f32⟩
  | .hbm, ⟨105, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x8x256x768, .f32⟩
  | .local _ .vmem, ⟨15, _⟩ => ⟨S1x8x256x768, .f32⟩
  | .local _ .vmem, ⟨16, _⟩ => ⟨S256x1024, .bf16⟩
  | .local _ .vmem, ⟨17, _⟩ => ⟨S256x1024, .bf16⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v17 : Ref sig .tc := ⟨.hbm, 36, rfl⟩
abbrev main_c_0 : Ref sig .tc := ⟨.hbm, 37, rfl⟩
abbrev main_v18 : Ref sig .tc := ⟨.hbm, 38, rfl⟩
abbrev main_v19 : Ref sig .tc := ⟨.hbm, 39, rfl⟩
abbrev main_c_1 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_c_2 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_c_3 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v35 : Ref sig .tc := ⟨.hbm, 78, rfl⟩
abbrev main_c_4 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_5 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v41 : Ref sig .tc := ⟨.hbm, 89, rfl⟩
abbrev main_c_6 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_cst_7 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.subi arg0 c2_i32
  let c0_i32 : BitVec 32 := 0#32
  let v2 : BitVec 32 := Scalar.maxsi v1 c0_i32
  let v3 : BitVec 32 := Scalar.addi v0 v2
  let c1_i32 : BitVec 32 := 1#32
  let c0_i32_0 : BitVec 32 := 0#32
  ![v3.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi arg0 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  ![v3.toNat, c1_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.subi arg0 c0_i32
  let c0_i32_0 : BitVec 32 := 0#32
  let v2 : BitVec 32 := Scalar.maxsi v1 c0_i32_0
  let v3 : BitVec 32 := Scalar.addi v0 v2
  let c1_i32 : BitVec 32 := 1#32
  let c0_i32_1 : BitVec 32 := 0#32
  ![v3.toNat, c1_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.subi arg0 c2_i32
  let c0_i32 : BitVec 32 := 0#32
  let v2 : BitVec 32 := Scalar.maxsi v1 c0_i32
  let v3 : BitVec 32 := Scalar.addi v0 v2
  let c2_i32_0 : BitVec 32 := 2#32
  let c0_i32_1 : BitVec 32 := 0#32
  ![v3.toNat, c2_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi arg0 c1_i32
  let c0_i32 : BitVec 32 := 0#32
  let v2 : BitVec 32 := Scalar.maxsi v1 c0_i32
  let v3 : BitVec 32 := Scalar.addi v0 v2
  let c2_i32 : BitVec 32 := 2#32
  let c0_i32_0 : BitVec 32 := 0#32
  ![v3.toNat, c2_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.subi arg0 c0_i32
  let c0_i32_0 : BitVec 32 := 0#32
  let v2 : BitVec 32 := Scalar.maxsi v1 c0_i32_0
  let v3 : BitVec 32 := Scalar.addi v0 v2
  let c2_i32 : BitVec 32 := 2#32
  let c0_i32_1 : BitVec 32 := 0#32
  ![v3.toNat, c2_i32.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.minsi arg0 c2_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "scale2" => some (((Real.sqrt 128)⁻¹ * (Real.log 2)⁻¹ : ℝ) : EReal)
  | _ => none
-- ==== ReferenceIdeal.lean ====
abbrev S8192x11264 : Shape := ⟨2, ![8192, 11264]⟩
abbrev S8x513 : Shape := ⟨2, ![8, 513]⟩
abbrev S8192x1024 : Shape := ⟨2, ![8192, 1024]⟩
abbrev S4x2048x8x128 : Shape := ⟨4, ![4, 2048, 8, 128]⟩
abbrev S4x32x64x8x128 : Shape := ⟨5, ![4, 32, 64, 8, 128]⟩
abbrev S_ : Shape := ⟨0, ![]⟩
abbrev S4x40x64x8x128 : Shape := ⟨5, ![4, 40, 64, 8, 128]⟩
abbrev S32 : Shape := ⟨1, ![32]⟩
abbrev S32x1 : Shape := ⟨2, ![32, 1]⟩
abbrev S9 : Shape := ⟨1, ![9]⟩
abbrev S1x9 : Shape := ⟨2, ![1, 9]⟩
abbrev S32x9 : Shape := ⟨2, ![32, 9]⟩
abbrev S32x9x1 : Shape := ⟨3, ![32, 9, 1]⟩
abbrev S4x32x9x64x8x128 : Shape := ⟨6, ![4, 32, 9, 64, 8, 128]⟩
abbrev S4x32x576x8x128 : Shape := ⟨5, ![4, 32, 576, 8, 128]⟩
abbrev S32x9x64 : Shape := ⟨3, ![32, 9, 64]⟩
abbrev S32x576 : Shape := ⟨2, ![32, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S4x8x32x64x576 : Shape := ⟨5, ![4, 8, 32, 64, 576]⟩
abbrev S1x8x1x64x576 : Shape := ⟨5, ![1, 8, 1, 64, 576]⟩
abbrev S1x1x32x1x576 : Shape := ⟨5, ![1, 1, 32, 1, 576]⟩
abbrev S4x8x32x64 : Shape := ⟨4, ![4, 8, 32, 64]⟩
abbrev S4x8x32x64x1 : Shape := ⟨5, ![4, 8, 32, 64, 1]⟩
abbrev S4x32x8x128x64 : Shape := ⟨5, ![4, 32, 8, 128, 64]⟩

abbrev nBuf : Space → Nat
  | .hbm => 112
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S8x513, .f32⟩
  | .hbm, ⟨2, _⟩ => ⟨S8192x11264, .f32⟩
  | .hbm, ⟨3, _⟩ => ⟨S8192x1024, .f32⟩
  | .hbm, ⟨4, _⟩ => ⟨S4x2048x8x128, .f32⟩
  | .hbm, ⟨5, _⟩ => ⟨S8192x1024, .f32⟩
  | .hbm, ⟨6, _⟩ => ⟨S4x2048x8x128, .f32⟩
  | .hbm, ⟨7, _⟩ => ⟨S8192x1024, .f32⟩
  | .hbm, ⟨8, _⟩ => ⟨S4x2048x8x128, .f32⟩
  | .hbm, ⟨9, _⟩ => ⟨S4x32x64x8x128, .f32⟩
  | .hbm, ⟨10, _⟩ => ⟨S4x32x64x8x128, .f32⟩
  | .hbm, ⟨11, _⟩ => ⟨S_, .i32⟩
  | .hbm, ⟨12, _⟩ => ⟨S_, .f32⟩
  | .hbm, ⟨13, _⟩ => ⟨S4x40x64x8x128, .f32⟩
  | .hbm, ⟨14, _⟩ => ⟨S4x32x64x8x128, .f32⟩
  | .hbm, ⟨15, _⟩ => ⟨S_, .i32⟩
  | .hbm, ⟨16, _⟩ => ⟨S_, .f32⟩
  | .hbm, ⟨17, _⟩ => ⟨S4x40x64x8x128, .f32⟩
  | .hbm, ⟨18, _⟩ => ⟨S32, .i32⟩
  | .hbm, ⟨19, _⟩ => ⟨S32x1, .i32⟩
  | .hbm, ⟨20, _⟩ => ⟨S9, .i32⟩
  | .hbm, ⟨21, _⟩ => ⟨S1x9, .i32⟩
  | .hbm, ⟨22, _⟩ => ⟨S32x9, .i32⟩
  | .hbm, ⟨23, _⟩ => ⟨S32x9, .i32⟩
  | .hbm, ⟨24, _⟩ => ⟨S32x9, .i32⟩
  | .hbm, ⟨25, _⟩ => ⟨S_, .i32⟩
  | .hbm, ⟨26, _⟩ => ⟨S32x9, .i32⟩
  | .hbm, ⟨27, _⟩ => ⟨S32x9, .i1⟩
  | .hbm, ⟨28, _⟩ => ⟨S_, .i32⟩
  | .hbm, ⟨29, _⟩ => ⟨S32x9, .i32⟩
  | .hbm, ⟨30, _⟩ => ⟨S32x9, .i32⟩
  | .hbm, ⟨31, _⟩ => ⟨S32x9, .i32⟩
  | .hbm, ⟨32, _⟩ => ⟨S32x9x1, .i32⟩
  | .hbm, ⟨33, _⟩ => ⟨S4x32x9x64x8x128, .f32⟩
  | .hbm, ⟨34, _⟩ => ⟨S4x32x576x8x128, .f32⟩
  | .hbm, ⟨35, _⟩ => ⟨S_, .i32⟩
  | .hbm, ⟨36, _⟩ => ⟨S32x9, .i32⟩
  | .hbm, ⟨37, _⟩ => ⟨S32x9, .i1⟩
  | .hbm, ⟨38, _⟩ => ⟨S_, .i32⟩
  | .hbm, ⟨39, _⟩ => ⟨S32x9, .i32⟩
  | .hbm, ⟨40, _⟩ => ⟨S32x9, .i32⟩
  | .hbm, ⟨41, _⟩ => ⟨S32x9, .i32⟩
  | .hbm, ⟨42, _⟩ => ⟨S32x9x1, .i32⟩
  | .hbm, ⟨43, _⟩ => ⟨S4x32x9x64x8x128, .f32⟩
  | .hbm, ⟨44, _⟩ => ⟨S4x32x576x8x128, .f32⟩
  | .hbm, ⟨45, _⟩ => ⟨S_, .i32⟩
  | .hbm, ⟨46, _⟩ => ⟨S32x9, .i32⟩
  | .hbm, ⟨47, _⟩ => ⟨S32x9, .i1⟩
  | .hbm, ⟨48, _⟩ => ⟨S32x9x64, .i1⟩
  | .hbm, ⟨49, _⟩ => ⟨S32x576, .i1⟩
  | .hbm, ⟨50, _⟩ => ⟨S64, .i32⟩
  | .hbm, ⟨51, _⟩ => ⟨S64x1, .i32⟩
  | .hbm, ⟨52, _⟩ => ⟨S_, .i32⟩
  | .hbm, ⟨53, _⟩ => ⟨S64x1, .i32⟩
  | .hbm, ⟨54, _⟩ => ⟨S64x1, .i32⟩
  | .hbm, ⟨55, _⟩ => ⟨S576, .i32⟩
  | .hbm, ⟨56, _⟩ => ⟨S1x576, .i32⟩
  | .hbm, ⟨57, _⟩ => ⟨S64x576, .i32⟩
  | .hbm, ⟨58, _⟩ => ⟨S64x576, .i32⟩
  | .hbm, ⟨59, _⟩ => ⟨S64x576, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S64x576, .i32⟩
  | .hbm, ⟨64, _⟩ => ⟨S64x576, .i32⟩
  | .hbm, ⟨65, _⟩ => ⟨S_, .i32⟩
  | .hbm, ⟨66, _⟩ => ⟨S64x576, .i32⟩
  | .hbm, ⟨67, _⟩ => ⟨S64x576, .i32⟩
  | .hbm, ⟨68, _⟩ => ⟨S_, .i32⟩
  | .hbm, ⟨69, _⟩ => ⟨S64x576, .i32⟩
  | .hbm, ⟨70, _⟩ => ⟨S64x576, .i32⟩
  | .hbm, ⟨71, _⟩ => ⟨S_, .i32⟩
  | .hbm, ⟨72, _⟩ => ⟨S64x576, .i32⟩
  | .hbm, ⟨73, _⟩ => ⟨S64x576, .i1⟩
  | .hbm, ⟨74, _⟩ => ⟨S_, .i32⟩
  | .hbm, ⟨75, _⟩ => ⟨S64x576, .i32⟩
  | .hbm, ⟨76, _⟩ => ⟨S64x576, .i32⟩
  | .hbm, ⟨77, _⟩ => ⟨S64x576, .i32⟩
  | .hbm, ⟨78, _⟩ => ⟨S64x576x1, .i32⟩
  | .hbm, ⟨79, _⟩ => ⟨S8x64x576, .f32⟩
  | .hbm, ⟨80, _⟩ => ⟨S4x8x32x64x576, .f32⟩
  | .hbm, ⟨81, _⟩ => ⟨S_, .f32⟩
  | .hbm, ⟨82, _⟩ => ⟨S_, .f32⟩
  | .hbm, ⟨83, _⟩ => ⟨S4x8x32x64x576, .f32⟩
  | .hbm, ⟨84, _⟩ => ⟨S4x8x32x64x576, .f32⟩
  | .hbm, ⟨85, _⟩ => ⟨S1x8x1x64x576, .f32⟩
  | .hbm, ⟨86, _⟩ => ⟨S4x8x32x64x576, .f32⟩
  | .hbm, ⟨87, _⟩ => ⟨S4x8x32x64x576, .f32⟩
  | .hbm, ⟨88, _⟩ => ⟨S1x1x32x1x576, .i1⟩
  | .hbm, ⟨89, _⟩ => ⟨S_, .f32⟩
  | .hbm, ⟨90, _⟩ => ⟨S_, .f32⟩
  | .hbm, ⟨91, _⟩ => ⟨S4x8x32x64x576, .i1⟩
  | .hbm, ⟨92, _⟩ => ⟨S4x8x32x64x576, .f32⟩
  | .hbm, ⟨93, _⟩ => ⟨S4x8x32x64x576, .f32⟩
  | .hbm, ⟨94, _⟩ => ⟨S_, .f32⟩
  | .hbm, ⟨95, _⟩ => ⟨S4x8x32x64, .f32⟩
  | .hbm, ⟨96, _⟩ => ⟨S_, .f32⟩
  | .hbm, ⟨97, _⟩ => ⟨S4x8x32x64, .f32⟩
  | .hbm, ⟨98, _⟩ => ⟨S4x8x32x64, .f32⟩
  | .hbm, ⟨99, _⟩ => ⟨S4x8x32x64x1, .f32⟩
  | .hbm, ⟨100, _⟩ => ⟨S4x8x32x64x576, .f32⟩
  | .hbm, ⟨101, _⟩ => ⟨S4x8x32x64x576, .f32⟩
  | .hbm, ⟨102, _⟩ => ⟨S4x8x32x64x576, .f32⟩
  | .hbm, ⟨103, _⟩ => ⟨S_, .f32⟩
  | .hbm, ⟨104, _⟩ => ⟨S4x8x32x64, .f32⟩
  | .hbm, ⟨105, _⟩ => ⟨S4x8x32x64x1, .f32⟩
  | .hbm, ⟨106, _⟩ => ⟨S4x8x32x64x576, .f32⟩
  | .hbm, ⟨107, _⟩ => ⟨S4x8x32x64x576, .f32⟩
  | .hbm, ⟨108, _⟩ => ⟨S4x32x8x128x64, .f32⟩
  | .hbm, ⟨109, _⟩ => ⟨S4x32x64x8x128, .f32⟩
  | .hbm, ⟨110, _⟩ => ⟨S8192x1024, .f32⟩
  | .hbm, ⟨111, _⟩ => ⟨S8192x1024, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_call1_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_3 : Ref sig .tc := ⟨.hbm, 35, rfl⟩
abbrev main_v27 : Ref sig .tc := ⟨.hbm, 36, rfl⟩
abbrev main_v28 : Ref sig .tc := ⟨.hbm, 37, rfl⟩
abbrev main_c_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_7 : Ref sig .tc := ⟨.hbm, 60, rfl⟩
abbrev main_c_8 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]
-- ==== Kernel2.lean ====
abbrev S8192x2048 : Shape := ⟨2, ![8192, 2048]⟩
abbrev S4x2048x11272 : Shape := ⟨3, ![4, 2048, 11272]⟩
abbrev S4x11272x2048 : Shape := ⟨3, ![4, 11272, 2048]⟩
abbrev S8192x11264 : Shape := ⟨2, ![8192, 11264]⟩
abbrev S2048x2048 : Shape := ⟨2, ![2048, 2048]⟩
abbrev S1x1024x2048 : Shape := ⟨3, ![1, 1024, 2048]⟩
abbrev S2048x1024 : Shape := ⟨2, ![2048, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x11272, .f32⟩
  | .hbm, ⟨2, _⟩ => ⟨S4x11272x2048, .f32⟩
  | .hbm, ⟨3, _⟩ => ⟨S8192x11264, .bf16⟩
  | .local _ .vmem, ⟨0, _⟩ => ⟨S2048x2048, .bf16⟩
  | .local _ .vmem, ⟨1, _⟩ => ⟨S2048x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x2048 : Shape := ⟨2, ![8192, 2048]⟩
abbrev S4x2048x11272 : Shape := ⟨3, ![4, 2048, 11272]⟩
abbrev S1x2048x11272 : Shape := ⟨3, ![1, 2048, 11272]⟩
abbrev S2048x11272 : Shape := ⟨2, ![2048, 11272]⟩
abbrev S2048x11264 : Shape := ⟨2, ![2048, 11264]⟩
abbrev S8192x11264 : Shape := ⟨2, ![8192, 11264]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x11272, .f32⟩
  | .hbm, ⟨2, _⟩ => ⟨S8192x2048, .f32⟩
  | .hbm, ⟨3, _⟩ => ⟨S1x2048x11272, .f32⟩
  | .hbm, ⟨4, _⟩ => ⟨S2048x11272, .f32⟩
  | .hbm, ⟨5, _⟩ => ⟨S2048x11264, .f32⟩
  | .hbm, ⟨6, _⟩ => ⟨S8192x11264, .f32⟩
  | .hbm, ⟨7, _⟩ => ⟨S8192x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S8192x1024 : Shape := ⟨2, ![8192, 1024]⟩
abbrev S8192x11264 : Shape := ⟨2, ![8192, 11264]⟩
abbrev S4x1024x2048 : Shape := ⟨3, ![4, 1024, 2048]⟩
abbrev S4x2048x2048 : Shape := ⟨3, ![4, 2048, 2048]⟩
abbrev S8192x2048 : Shape := ⟨2, ![8192, 2048]⟩
abbrev S4x6x2048 : Shape := ⟨3, ![4, 6, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S_ : Shape := ⟨0, ![]⟩
abbrev S128x2048 : Shape := ⟨2, ![128, 2048]⟩
abbrev S4x2048 : Shape := ⟨2, ![4, 2048]⟩
abbrev S1 : Shape := ⟨1, ![1]⟩
abbrev S32x2048 : Shape := ⟨2, ![32, 2048]⟩
abbrev S1x128 : Shape := ⟨2, ![1, 128]⟩
abbrev S2 : Shape := ⟨1, ![2]⟩
abbrev S1x2048 : Shape := ⟨2, ![1, 2048]⟩
abbrev S8192x128 : Shape := ⟨2, ![8192, 128]⟩
abbrev S256x1024 : Shape := ⟨2, ![256, 1024]⟩
abbrev S1x1024x2048 : Shape := ⟨3, ![1, 1024, 2048]⟩
abbrev S1x2048x2048 : Shape := ⟨3, ![1, 2048, 2048]⟩
abbrev S256x2048 : Shape := ⟨2, ![256, 2048]⟩
abbrev S1x6x2048 : Shape := ⟨3, ![1, 6, 2048]⟩
abbrev S256x128 : Shape := ⟨2, ![256, 128]⟩
abbrev S1024x2048 : Shape := ⟨2, ![1024, 2048]⟩
abbrev S1x1x2048 : Shape := ⟨3, ![1, 1, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 44
  | .vmem => 28
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x11264, .bf16⟩
  | .hbm, ⟨3, _⟩ => ⟨S4x1024x2048, .f32⟩
  | .hbm, ⟨4, _⟩ => ⟨S4x1024x2048, .f32⟩
  | .hbm, ⟨5, _⟩ => ⟨S4x2048x2048, .f32⟩
  | .hbm, ⟨6, _⟩ => ⟨S8192x2048, .f32⟩
  | .hbm, ⟨7, _⟩ => ⟨S4x6x2048, .f32⟩
  | .hbm, ⟨8, _⟩ => ⟨S2048, .f32⟩
  | .hbm, ⟨9, _⟩ => ⟨S2048x4, .f32⟩
  | .hbm, ⟨10, _⟩ => ⟨S4, .f32⟩
  | .hbm, ⟨11, _⟩ => ⟨S2048x32, .f32⟩
  | .hbm, ⟨12, _⟩ => ⟨S32, .f32⟩
  | .hbm, ⟨13, _⟩ => ⟨S_, .f32⟩
  | .hbm, ⟨14, _⟩ => ⟨S128x2048, .f32⟩
  | .hbm, ⟨15, _⟩ => ⟨S4x2048, .f32⟩
  | .hbm, ⟨16, _⟩ => ⟨S_, .i32⟩
  | .hbm, ⟨17, _⟩ => ⟨S1, .i32⟩
  | .hbm, ⟨18, _⟩ => ⟨S128x2048, .f32⟩
  | .hbm, ⟨19, _⟩ => ⟨S32x2048, .f32⟩
  | .hbm, ⟨20, _⟩ => ⟨S_, .i32⟩
  | .hbm, ⟨21, _⟩ => ⟨S1, .i32⟩
  | .hbm, ⟨22, _⟩ => ⟨S128x2048, .f32⟩
  | .hbm, ⟨23, _⟩ => ⟨S_, .f32⟩
  | .hbm, ⟨24, _⟩ => ⟨S1x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S4x1024x2048, .bf16⟩
  | .hbm, ⟨38, _⟩ => ⟨S4x1024x2048, .bf16⟩
  | .hbm, ⟨39, _⟩ => ⟨S4x2048x2048, .bf16⟩
  | .hbm, ⟨40, _⟩ => ⟨S1x2048, .f32⟩
  | .hbm, ⟨41, _⟩ => ⟨S8192x2048, .f32⟩
  | .hbm, ⟨42, _⟩ => ⟨S8192x2048, .bf16⟩
  | .hbm, ⟨43, _⟩ => ⟨S8192x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1x1024x2048, .bf16⟩
  | .local _ .vmem, ⟨13, _⟩ => ⟨S1x1024x2048, .bf16⟩
  | .local _ .vmem, ⟨14, _⟩ => ⟨S1x2048x2048, .bf16⟩
  | .local _ .vmem, ⟨15, _⟩ => ⟨S256x2048, .f32⟩
  | .local _ .vmem, ⟨16, _⟩ => ⟨S256x2048, .f32⟩
  | .local _ .vmem, ⟨17, _⟩ => ⟨S1x6x2048, .f32⟩
  | .local _ .vmem, ⟨18, _⟩ => ⟨S1x6x2048, .f32⟩
  | .local _ .vmem, ⟨19, _⟩ => ⟨S1x2048, .f32⟩
  | .local _ .vmem, ⟨20, _⟩ => ⟨S128x2048, .f32⟩
  | .local _ .vmem, ⟨21, _⟩ => ⟨S1x128, .f32⟩
  | .local _ .vmem, ⟨22, _⟩ => ⟨S256x2048, .f32⟩
  | .local _ .vmem, ⟨23, _⟩ => ⟨S256x2048, .f32⟩
  | .local _ .vmem, ⟨24, _⟩ => ⟨S256x2048, .bf16⟩
  | .local _ .vmem, ⟨25, _⟩ => ⟨S256x2048, .bf16⟩
  | .local _ .vmem, ⟨26, _⟩ => ⟨S256x128, .f32⟩
  | .local _ .vmem, ⟨27, _⟩ => ⟨S256x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_c_2 : Ref sig .tc := ⟨.hbm, 25, rfl⟩
abbrev main_v8 : Ref sig .tc := ⟨.hbm, 26, rfl⟩
abbrev main_c_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_4 : Ref sig .tc := ⟨.hbm, 31, rfl⟩
abbrev main_v12 : Ref sig .tc := ⟨.hbm, 32, rfl⟩
abbrev main_c_5 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20_0 : Ref sig .tc := ⟨.hbm, 41, rfl⟩
abbrev main_v20_1 : Ref sig .tc := ⟨.hbm, 42, rfl⟩
abbrev main_v20_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x6x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S8192x1024 : Shape := ⟨2, ![8192, 1024]⟩
abbrev S8192x11264 : Shape := ⟨2, ![8192, 11264]⟩
abbrev S4x1024x2048 : Shape := ⟨3, ![4, 1024, 2048]⟩
abbrev S4x2048x2048 : Shape := ⟨3, ![4, 2048, 2048]⟩
abbrev S8192x2048 : Shape := ⟨2, ![8192, 2048]⟩
abbrev S4x6x2048 : Shape := ⟨3, ![4, 6, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S4x2048x1024 : Shape := ⟨3, ![4, 2048, 1024]⟩
abbrev S4x2048x11264 : Shape := ⟨3, ![4, 2048, 11264]⟩
abbrev S4x1x2048 : Shape := ⟨3, ![4, 1, 2048]⟩
abbrev S_ : Shape := ⟨0, ![]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S4x2048 : Shape := ⟨2, ![4, 2048]⟩
abbrev S4x2048x1 : Shape := ⟨3, ![4, 2048, 1]⟩
abbrev S1x1x2048 : Shape := ⟨3, ![1, 1, 2048]⟩
abbrev S8192x4 : Shape := ⟨2, ![8192, 4]⟩
abbrev S1x4 : Shape := ⟨2, ![1, 4]⟩
abbrev S8192x32 : Shape := ⟨2, ![8192, 32]⟩
abbrev S1x32 : Shape := ⟨2, ![1, 32]⟩
abbrev S8192x36 : Shape := ⟨2, ![8192, 36]⟩
abbrev S8192x128 : Shape := ⟨2, ![8192, 128]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x11264, .bf16⟩
  | .hbm, ⟨3, _⟩ => ⟨S4x1024x2048, .f32⟩
  | .hbm, ⟨4, _⟩ => ⟨S4x1024x2048, .f32⟩
  | .hbm, ⟨5, _⟩ => ⟨S4x2048x2048, .f32⟩
  | .hbm, ⟨6, _⟩ => ⟨S8192x2048, .f32⟩
  | .hbm, ⟨7, _⟩ => ⟨S4x6x2048, .f32⟩
  | .hbm, ⟨8, _⟩ => ⟨S2048, .f32⟩
  | .hbm, ⟨9, _⟩ => ⟨S2048x4, .f32⟩
  | .hbm, ⟨10, _⟩ => ⟨S4, .f32⟩
  | .hbm, ⟨11, _⟩ => ⟨S2048x32, .f32⟩
  | .hbm, ⟨12, _⟩ => ⟨S32, .f32⟩
  | .hbm, ⟨13, _⟩ => ⟨S8192x1024, .f32⟩
  | .hbm, ⟨14, _⟩ => ⟨S4x2048x1024, .f32⟩
  | .hbm, ⟨15, _⟩ => ⟨S8192x1024, .f32⟩
  | .hbm, ⟨16, _⟩ => ⟨S4x2048x1024, .f32⟩
  | .hbm, ⟨17, _⟩ => ⟨S8192x11264, .f32⟩
  | .hbm, ⟨18, _⟩ => ⟨S4x2048x11264, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x1x2048, .f32⟩
  | .hbm, ⟨23, _⟩ => ⟨S4x1x2048, .f32⟩
  | .hbm, ⟨24, _⟩ => ⟨S4x1x2048, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048x2048, .f32⟩
  | .hbm, ⟨32, _⟩ => ⟨S4x2048x2048, .f32⟩
  | .hbm, ⟨33, _⟩ => ⟨S1x1024x2048, .f32⟩
  | .hbm, ⟨34, _⟩ => ⟨S1024x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S_, .f32⟩
  | .hbm, ⟨40, _⟩ => ⟨S4x2048x2048, .f32⟩
  | .hbm, ⟨41, _⟩ => ⟨S4x2048x2048, .f32⟩
  | .hbm, ⟨42, _⟩ => ⟨S_, .f32⟩
  | .hbm, ⟨43, _⟩ => ⟨S4x2048x2048, .f32⟩
  | .hbm, ⟨44, _⟩ => ⟨S4x2048x2048, .f32⟩
  | .hbm, ⟨45, _⟩ => ⟨S1x1024x2048, .f32⟩
  | .hbm, ⟨46, _⟩ => ⟨S1024x2048, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S1x2048x2048, .f32⟩
  | .hbm, ⟨51, _⟩ => ⟨S2048x2048, .f32⟩
  | .hbm, ⟨52, _⟩ => ⟨S4x2048x2048, .f32⟩
  | .hbm, ⟨53, _⟩ => ⟨S4x2048x2048, .f32⟩
  | .hbm, ⟨54, _⟩ => ⟨S4x2048x2048, .f32⟩
  | .hbm, ⟨55, _⟩ => ⟨S4x2048x2048, .f32⟩
  | .hbm, ⟨56, _⟩ => ⟨S4x2048x2048, .f32⟩
  | .hbm, ⟨57, _⟩ => ⟨S_, .f32⟩
  | .hbm, ⟨58, _⟩ => ⟨S4x2048, .f32⟩
  | .hbm, ⟨59, _⟩ => ⟨S4x2048x1, .f32⟩
  | .hbm, ⟨60, _⟩ => ⟨S_, .f32⟩
  | .hbm, ⟨61, _⟩ => ⟨S4x2048x1, .f32⟩
  | .hbm, ⟨62, _⟩ => ⟨S4x2048x1, .f32⟩
  | .hbm, ⟨63, _⟩ => ⟨S_, .f32⟩
  | .hbm, ⟨64, _⟩ => ⟨S4x2048x1, .f32⟩
  | .hbm, ⟨65, _⟩ => ⟨S4x2048x1, .f32⟩
  | .hbm, ⟨66, _⟩ => ⟨S4x2048x1, .f32⟩
  | .hbm, ⟨67, _⟩ => ⟨S4x2048x2048, .f32⟩
  | .hbm, ⟨68, _⟩ => ⟨S4x2048x2048, .f32⟩
  | .hbm, ⟨69, _⟩ => ⟨S1x1x2048, .f32⟩
  | .hbm, ⟨70, _⟩ => ⟨S4x2048x2048, .f32⟩
  | .hbm, ⟨71, _⟩ => ⟨S4x2048x2048, .f32⟩
  | .hbm, ⟨72, _⟩ => ⟨S_, .f32⟩
  | .hbm, ⟨73, _⟩ => ⟨S4x1x2048, .f32⟩
  | .hbm, ⟨74, _⟩ => ⟨S4x1x2048, .f32⟩
  | .hbm, ⟨75, _⟩ => ⟨S4x2048x2048, .f32⟩
  | .hbm, ⟨76, _⟩ => ⟨S4x2048x2048, .f32⟩
  | .hbm, ⟨77, _⟩ => ⟨S4x2048x2048, .f32⟩
  | .hbm, ⟨78, _⟩ => ⟨S4x2048x2048, .f32⟩
  | .hbm, ⟨79, _⟩ => ⟨S8192x2048, .f32⟩
  | .hbm, ⟨80, _⟩ => ⟨S8192x4, .f32⟩
  | .hbm, ⟨81, _⟩ => ⟨S1x4, .f32⟩
  | .hbm, ⟨82, _⟩ => ⟨S8192x4, .f32⟩
  | .hbm, ⟨83, _⟩ => ⟨S8192x4, .f32⟩
  | .hbm, ⟨84, _⟩ => ⟨S8192x32, .f32⟩
  | .hbm, ⟨85, _⟩ => ⟨S1x32, .f32⟩
  | .hbm, ⟨86, _⟩ => ⟨S8192x32, .f32⟩
  | .hbm, ⟨87, _⟩ => ⟨S8192x32, .f32⟩
  | .hbm, ⟨88, _⟩ => ⟨S8192x36, .f32⟩
  | .hbm, ⟨89, _⟩ => ⟨S8192x2048, .f32⟩
  | .hbm, ⟨90, _⟩ => ⟨S8192x2048, .bf16⟩
  | .hbm, ⟨91, _⟩ => ⟨S_, .i32⟩
  | .hbm, ⟨92, _⟩ => ⟨S_, .f32⟩
  | .hbm, ⟨93, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_6 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c : Ref sig .tc := ⟨.hbm, 91, rfl⟩
abbrev main_call0_v0 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== Kernel4.lean ====
abbrev S4x2048 : Shape := ⟨2, ![4, 2048]⟩
abbrev S4x2048x12288 : Shape := ⟨3, ![4, 2048, 12288]⟩
abbrev S4x12288 : Shape := ⟨2, ![4, 12288]⟩
abbrev S_ : Shape := ⟨0, ![]⟩
abbrev S8x2048 : Shape := ⟨2, ![8, 2048]⟩
abbrev S1 : Shape := ⟨1, ![1]⟩
abbrev S16x2048 : Shape := ⟨2, ![16, 2048]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S16x1024 : Shape := ⟨2, ![16, 1024]⟩
abbrev S8x1024 : Shape := ⟨2, ![8, 1024]⟩
abbrev S1x1024 : Shape := ⟨2, ![1, 1024]⟩

abbrev nBuf : Space → Nat
  | .hbm => 15
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048x12288, .f32⟩
  | .hbm, ⟨2, _⟩ => ⟨S4x12288, .f32⟩
  | .hbm, ⟨3, _⟩ => ⟨S_, .f32⟩
  | .hbm, ⟨4, _⟩ => ⟨S8x2048, .f32⟩
  | .hbm, ⟨5, _⟩ => ⟨S_, .i32⟩
  | .hbm, ⟨6, _⟩ => ⟨S1, .i32⟩
  | .hbm, ⟨7, _⟩ => ⟨S8x2048, .f32⟩
  | .hbm, ⟨8, _⟩ => ⟨S8x2048, .bf16⟩
  | .hbm, ⟨9, _⟩ => ⟨S8x2048, .f32⟩
  | .hbm, ⟨10, _⟩ => ⟨S8x2048, .f32⟩
  | .hbm, ⟨11, _⟩ => ⟨S8x2048, .bf16⟩
  | .hbm, ⟨12, _⟩ => ⟨S16x2048, .bf16⟩
  | .hbm, ⟨13, _⟩ => ⟨S4x1x12288, .f32⟩
  | .hbm, ⟨14, _⟩ => ⟨S4x8x12288, .f32⟩
  | .local _ .vmem, ⟨0, _⟩ => ⟨S16x2048, .bf16⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x2048 : Shape := ⟨2, ![4, 2048]⟩
abbrev S4x2048x12288 : Shape := ⟨3, ![4, 2048, 12288]⟩
abbrev S4x12288 : Shape := ⟨2, ![4, 12288]⟩
abbrev S_ : Shape := ⟨0, ![]⟩
abbrev S8x2048 : Shape := ⟨2, ![8, 2048]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S4x8x12288 : Shape := ⟨3, ![4, 8, 12288]⟩

abbrev nBuf : Space → Nat
  | .hbm => 43
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048x12288, .f32⟩
  | .hbm, ⟨2, _⟩ => ⟨S4x12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S1x2048x12288, .f32⟩
  | .hbm, ⟨7, _⟩ => ⟨S2048x12288, .f32⟩
  | .hbm, ⟨8, _⟩ => ⟨S8x12288, .f32⟩
  | .hbm, ⟨9, _⟩ => ⟨S1x12288, .f32⟩
  | .hbm, ⟨10, _⟩ => ⟨S12288, .f32⟩
  | .hbm, ⟨11, _⟩ => ⟨S1x12288, .f32⟩
  | .hbm, ⟨12, _⟩ => ⟨S8x12288, .f32⟩
  | .hbm, ⟨13, _⟩ => ⟨S8x12288, .f32⟩
  | .hbm, ⟨14, _⟩ => ⟨S1x2048x12288, .f32⟩
  | .hbm, ⟨15, _⟩ => ⟨S2048x12288, .f32⟩
  | .hbm, ⟨16, _⟩ => ⟨S8x12288, .f32⟩
  | .hbm, ⟨17, _⟩ => ⟨S1x12288, .f32⟩
  | .hbm, ⟨18, _⟩ => ⟨S12288, .f32⟩
  | .hbm, ⟨19, _⟩ => ⟨S1x12288, .f32⟩
  | .hbm, ⟨20, _⟩ => ⟨S8x12288, .f32⟩
  | .hbm, ⟨21, _⟩ => ⟨S8x12288, .f32⟩
  | .hbm, ⟨22, _⟩ => ⟨S1x2048x12288, .f32⟩
  | .hbm, ⟨23, _⟩ => ⟨S2048x12288, .f32⟩
  | .hbm, ⟨24, _⟩ => ⟨S8x12288, .f32⟩
  | .hbm, ⟨25, _⟩ => ⟨S1x12288, .f32⟩
  | .hbm, ⟨26, _⟩ => ⟨S12288, .f32⟩
  | .hbm, ⟨27, _⟩ => ⟨S1x12288, .f32⟩
  | .hbm, ⟨28, _⟩ => ⟨S8x12288, .f32⟩
  | .hbm, ⟨29, _⟩ => ⟨S8x12288, .f32⟩
  | .hbm, ⟨30, _⟩ => ⟨S1x2048x12288, .f32⟩
  | .hbm, ⟨31, _⟩ => ⟨S2048x12288, .f32⟩
  | .hbm, ⟨32, _⟩ => ⟨S8x12288, .f32⟩
  | .hbm, ⟨33, _⟩ => ⟨S1x12288, .f32⟩
  | .hbm, ⟨34, _⟩ => ⟨S12288, .f32⟩
  | .hbm, ⟨35, _⟩ => ⟨S1x12288, .f32⟩
  | .hbm, ⟨36, _⟩ => ⟨S8x12288, .f32⟩
  | .hbm, ⟨37, _⟩ => ⟨S8x12288, .f32⟩
  | .hbm, ⟨38, _⟩ => ⟨S1x8x12288, .f32⟩
  | .hbm, ⟨39, _⟩ => ⟨S1x8x12288, .f32⟩
  | .hbm, ⟨40, _⟩ => ⟨S1x8x12288, .f32⟩
  | .hbm, ⟨41, _⟩ => ⟨S1x8x12288, .f32⟩
  | .hbm, ⟨42, _⟩ => ⟨S4x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S4x6x2048 : Shape := ⟨3, ![4, 6, 2048]⟩
abbrev S4x2048x11272 : Shape := ⟨3, ![4, 2048, 11272]⟩
abbrev S4 : Shape := ⟨1, ![4]⟩
abbrev S4x11272x2048 : Shape := ⟨3, ![4, 11272, 2048]⟩
abbrev S_ : Shape := ⟨0, ![]⟩
abbrev S1x128 : Shape := ⟨2, ![1, 128]⟩
abbrev S1 : Shape := ⟨1, ![1]⟩
abbrev S2 : Shape := ⟨1, ![2]⟩
abbrev S1x2048 : Shape := ⟨2, ![1, 2048]⟩
abbrev S8192x128 : Shape := ⟨2, ![8192, 128]⟩
abbrev S512x2048 : Shape := ⟨2, ![512, 2048]⟩
abbrev S1x6x2048 : Shape := ⟨3, ![1, 6, 2048]⟩
abbrev S1x128x2048 : Shape := ⟨3, ![1, 128, 2048]⟩
abbrev S512x128 : Shape := ⟨2, ![512, 128]⟩
abbrev S1x1x2048 : Shape := ⟨3, ![1, 1, 2048]⟩
abbrev S512 : Shape := ⟨1, ![512]⟩
abbrev S512x1 : Shape := ⟨2, ![512, 1]⟩
abbrev S128x2048 : Shape := ⟨2, ![128, 2048]⟩

abbrev nBuf : Space → Nat
  | .hbm => 24
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x6x2048, .f32⟩
  | .hbm, ⟨3, _⟩ => ⟨S4x2048x11272, .f32⟩
  | .hbm, ⟨4, _⟩ => ⟨S4, .f32⟩
  | .hbm, ⟨5, _⟩ => ⟨S4, .f32⟩
  | .hbm, ⟨6, _⟩ => ⟨S4x11272x2048, .f32⟩
  | .hbm, ⟨7, _⟩ => ⟨S_, .f32⟩
  | .hbm, ⟨8, _⟩ => ⟨S1x128, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S1x2048, .f32⟩
  | .hbm, ⟨22, _⟩ => ⟨S8192x2048, .bf16⟩
  | .hbm, ⟨23, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x128x2048, .f32⟩
  | .local _ .vmem, ⟨6, _⟩ => ⟨S1x128, .f32⟩
  | .local _ .vmem, ⟨7, _⟩ => ⟨S512x2048, .bf16⟩
  | .local _ .vmem, ⟨8, _⟩ => ⟨S512x2048, .bf16⟩
  | .local _ .vmem, ⟨9, _⟩ => ⟨S512x128, .f32⟩
  | .local _ .vmem, ⟨10, _⟩ => ⟨S512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c0_i32 : BitVec 32 := 0#32
  let c88_i32 : BitVec 32 := 88#32
  let c0_i32_0 : BitVec 32 := 0#32
  let c0_i32_1 : BitVec 32 := 0#32
  ![c0_i32.toNat, c88_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8192x2048 : Shape := ⟨2, ![8192, 2048]⟩
abbrev S2048 : Shape := ⟨1, ![2048]⟩
abbrev S4x6x2048 : Shape := ⟨3, ![4, 6, 2048]⟩
abbrev S4x2048x11272 : Shape := ⟨3, ![4, 2048, 11272]⟩
abbrev S4 : Shape := ⟨1, ![4]⟩
abbrev S4x2048x2048 : Shape := ⟨3, ![4, 2048, 2048]⟩
abbrev S4x1x2048 : Shape := ⟨3, ![4, 1, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048x11272 : Shape := ⟨3, ![1, 2048, 11272]⟩
abbrev S2048x11272 : Shape := ⟨2, ![2048, 11272]⟩
abbrev S2048x8 : Shape := ⟨2, ![2048, 8]⟩
abbrev S8192x8 : Shape := ⟨2, ![8192, 8]⟩
abbrev S8192x4 : Shape := ⟨2, ![8192, 4]⟩
abbrev S1x4 : Shape := ⟨2, ![1, 4]⟩
abbrev S8192x128 : Shape := ⟨2, ![8192, 128]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x6x2048, .f32⟩
  | .hbm, ⟨3, _⟩ => ⟨S4x2048x11272, .f32⟩
  | .hbm, ⟨4, _⟩ => ⟨S4, .f32⟩
  | .hbm, ⟨5, _⟩ => ⟨S4, .f32⟩
  | .hbm, ⟨6, _⟩ => ⟨S4x2048x2048, .f32⟩
  | .hbm, ⟨7, _⟩ => ⟨S4x1x2048, .f32⟩
  | .hbm, ⟨8, _⟩ => ⟨S4x1x2048, .f32⟩
  | .hbm, ⟨9, _⟩ => ⟨S4x2048x2048, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S1x1x2048, .f32⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S4x1x2048, .f32⟩
  | .hbm, ⟨27, _⟩ => ⟨S4x1x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S8192x2048, .f32⟩
  | .hbm, ⟨33, _⟩ => ⟨S1x2048x11272, .f32⟩
  | .hbm, ⟨34, _⟩ => ⟨S2048x11272, .f32⟩
  | .hbm, ⟨35, _⟩ => ⟨S2048x8, .f32⟩
  | .hbm, ⟨36, _⟩ => ⟨S8192x8, .f32⟩
  | .hbm, ⟨37, _⟩ => ⟨S8192x4, .f32⟩
  | .hbm, ⟨38, _⟩ => ⟨S1x4, .f32⟩
  | .hbm, ⟨39, _⟩ => ⟨S8192x4, .f32⟩
  | .hbm, ⟨40, _⟩ => ⟨S8192x4, .f32⟩
  | .hbm, ⟨41, _⟩ => ⟨S8192x4, .f32⟩
  | .hbm, ⟨42, _⟩ => ⟨S1x4, .f32⟩
  | .hbm, ⟨43, _⟩ => ⟨S8192x4, .f32⟩
  | .hbm, ⟨44, _⟩ => ⟨S8192x4, .f32⟩
  | .hbm, ⟨45, _⟩ => ⟨S8192x8, .f32⟩
  | .hbm, ⟨46, _⟩ => ⟨S8192x2048, .bf16⟩
  | .hbm, ⟨47, _⟩ => ⟨S_, .i32⟩
  | .hbm, ⟨48, _⟩ => ⟨S_, .f32⟩
  | .hbm, ⟨49, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c : Ref sig .tc := ⟨.hbm, 47, rfl⟩
abbrev main_call0_v0 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel6.lean ====
abbrev S8192x128 : Shape := ⟨2, ![8192, 128]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩
abbrev S1024x1024 : Shape := ⟨2, ![1024, 1024]⟩
abbrev S128 : Shape := ⟨1, ![128]⟩

abbrev nBuf : Space → Nat
  | .hbm => 4
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x128, .i32⟩
  | .hbm, ⟨2, _⟩ => ⟨S8192x128, .f32⟩
  | .hbm, ⟨3, _⟩ => ⟨S1x128, .f32⟩
  | .local _ .vmem, ⟨0, _⟩ => ⟨S1024x128, .f32⟩
  | .local _ .vmem, ⟨1, _⟩ => ⟨S1024x128, .f32⟩
  | .local _ .vmem, ⟨2, _⟩ => ⟨S1024x128, .i32⟩
  | .local _ .vmem, ⟨3, _⟩ => ⟨S1024x128, .i32⟩
  | .local _ .vmem, ⟨4, _⟩ => ⟨S1024x128, .f32⟩
  | .local _ .vmem, ⟨5, _⟩ => ⟨S1024x128, .f32⟩
  | .local _ .vmem, ⟨6, _⟩ => ⟨S1x128, .f32⟩
  | .local _ .vmem, ⟨7, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference6Ideal.lean ====
abbrev S8192x128 : Shape := ⟨2, ![8192, 128]⟩
abbrev S8192 : Shape := ⟨1, ![8192]⟩
abbrev S8192x4 : Shape := ⟨2, ![8192, 4]⟩
abbrev S8192x32 : Shape := ⟨2, ![8192, 32]⟩
abbrev S8192x4x8 : Shape := ⟨3, ![8192, 4, 8]⟩
abbrev S8192x1 : Shape := ⟨2, ![8192, 1]⟩
abbrev S_ : Shape := ⟨0, ![]⟩
abbrev S8192x2 : Shape := ⟨2, ![8192, 2]⟩
abbrev S8192x8 : Shape := ⟨2, ![8192, 8]⟩
abbrev S16384 : Shape := ⟨1, ![16384]⟩
abbrev S16384x1 : Shape := ⟨2, ![16384, 1]⟩
abbrev S32 : Shape := ⟨1, ![32]⟩
abbrev S8192x125 : Shape := ⟨2, ![8192, 125]⟩
abbrev S8192x127 : Shape := ⟨2, ![8192, 127]⟩
abbrev S128 : Shape := ⟨1, ![128]⟩
abbrev S1x128 : Shape := ⟨2, ![1, 128]⟩

abbrev nBuf : Space → Nat
  | .hbm => 153
  | .vmem => 0
  | .smem => 0
  | _ => 0

abbrev hbmTy0_0 (i : Nat) : BufTy := match i % 128 with
  | 0 => ⟨S8192x128, .f32⟩
  | 1 => ⟨S8192, .i32⟩
  | 2 => ⟨S8192x4, .f32⟩
  | 3 => ⟨S8192x32, .f32⟩
  | 4 => ⟨S8192x4x8, .f32⟩
  | 5 => ⟨S8192x1, .f32⟩
  | 6 => ⟨S8192x1, .i32⟩
  | 7 => ⟨S8192, .i32⟩
  | 8 => ⟨S_, .f32⟩
  | 9 => ⟨S8192, .f32⟩
  | 10 => ⟨S_, .f32⟩
  | 11 => ⟨S8192, .f32⟩
  | 12 => ⟨S8192, .f32⟩
  | 13 => ⟨S8192x1, .f32⟩
  | 14 => ⟨S8192x4, .f32⟩
  | 15 => ⟨S8192x4, .f32⟩
  | 16 => ⟨S8192x4, .f32⟩
  | 17 => ⟨S_, .f32⟩
  | 18 => ⟨S8192, .f32⟩
  | 19 => ⟨S8192x1, .f32⟩
  | 20 => ⟨S8192x4, .f32⟩
  | 21 => ⟨S8192x4, .f32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S_, .i32⟩
  | 30 => ⟨S8192, .i32⟩
  | 31 => ⟨S8192, .i1⟩
  | 32 => ⟨S_, .i32⟩
  | 33 => ⟨S8192, .i32⟩
  | 34 => ⟨S8192, .i32⟩
  | 35 => ⟨S8192, .i32⟩
  | 36 => ⟨S8192x1, .i32⟩
  | 37 => ⟨S8192x1, .i32⟩
  | 38 => ⟨S8192x2, .i32⟩
  | 39 => ⟨S8192, .f32⟩
  | 40 => ⟨S_, .i32⟩
  | 41 => ⟨S8192, .i32⟩
  | 42 => ⟨S8192, .i1⟩
  | 43 => ⟨S_, .i32⟩
  | 44 => ⟨S8192, .i32⟩
  | 45 => ⟨S8192, .i32⟩
  | 46 => ⟨S8192, .i32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S8192x1, .i32⟩
  | 56 => ⟨S8192x2, .i32⟩
  | 57 => ⟨S8192x8, .f32⟩
  | 58 => ⟨S8192x2, .f32⟩
  | 59 => ⟨S8192x2, .i32⟩
  | 60 => ⟨S8192x1, .f32⟩
  | 61 => ⟨S_, .f32⟩
  | 62 => ⟨S8192, .f32⟩
  | 63 => ⟨S_, .f32⟩
  | 64 => ⟨S8192, .f32⟩
  | 65 => ⟨S8192, .f32⟩
  | 66 => ⟨S8192x1, .f32⟩
  | 67 => ⟨S8192x2, .f32⟩
  | 68 => ⟨S8192x2, .f32⟩
  | 69 => ⟨S8192x2, .f32⟩
  | 70 => ⟨S_, .f32⟩
  | 71 => ⟨S8192, .f32⟩
  | 72 => ⟨S8192x1, .f32⟩
  | 73 => ⟨S8192x2, .f32⟩
  | 74 => ⟨S8192x2, .f32⟩
  | 75 => ⟨S8192x2, .f32⟩
  | 76 => ⟨S8192x2, .f32⟩
  | 77 => ⟨S8192x1, .i32⟩
  | 78 => ⟨S_, .i32⟩
  | 79 => ⟨S8192x1, .i32⟩
  | 80 => ⟨S8192x1, .i32⟩
  | 81 => ⟨S8192x2, .i32⟩
  | 82 => ⟨S8192x2, .i32⟩
  | 83 => ⟨S16384, .i32⟩
  | 84 => ⟨S16384, .i32⟩
  | 85 => ⟨S16384, .i32⟩
  | 86 => ⟨S16384, .i32⟩
  | 87 => ⟨S_, .i32⟩
  | 88 => ⟨S16384, .i32⟩
  | 89 => ⟨S16384, .i1⟩
  | 90 => ⟨S_, .i32⟩
  | 91 => ⟨S16384, .i32⟩
  | 92 => ⟨S16384, .i32⟩
  | 93 => ⟨S16384, .i32⟩
  | 94 => ⟨S16384x1, .i32⟩
  | 95 => ⟨S16384, .i32⟩
  | 96 => ⟨S_, .i32⟩
  | 97 => ⟨S32, .i32⟩
  | 98 => ⟨S_, .i32⟩
  | 99 => ⟨S_, .i32⟩
  | 100 => ⟨S16384, .i32⟩
  | 101 => ⟨S16384, .i32⟩
  | 102 => ⟨S_, .i32⟩
  | 103 => ⟨S16384, .i32⟩
  | 104 => ⟨S16384, .i1⟩
  | 105 => ⟨S_, .i32⟩
  | 106 => ⟨S16384, .i32⟩
  | 107 => ⟨S16384, .i32⟩
  | 108 => ⟨S16384, .i32⟩
  | 109 => ⟨S16384x1, .i32⟩
  | 110 => ⟨S_, .i32⟩
  | 111 => ⟨S16384, .i32⟩
  | 112 => ⟨S32, .i32⟩
  | 113 => ⟨S_, .i32⟩
  | 114 => ⟨S_, .i32⟩
  | 115 => ⟨S32, .i32⟩
  | 116 => ⟨S32, .i32⟩
  | 117 => ⟨S_, .i32⟩
  | 118 => ⟨S16384, .i32⟩
  | 119 => ⟨S16384, .i32⟩
  | 120 => ⟨S_, .i32⟩
  | 121 => ⟨S16384, .i32⟩
  | 122 => ⟨S16384, .i1⟩
  | 123 => ⟨S_, .i32⟩
  | 124 => ⟨S16384, .i32⟩
  | 125 => ⟨S16384, .i32⟩
  | 126 => ⟨S16384, .i32⟩
  | 127 => ⟨S16384x1, .i32⟩
  | _ => ⟨S8192x128, .f32⟩

abbrev hbmTy0_1 (i : Nat) : BufTy := match i % 128 with
  | 0 => ⟨S16384, .i32⟩
  | 1 => ⟨S16384, .i32⟩
  | 2 => ⟨S_, .i32⟩
  | 3 => ⟨S16384, .i32⟩
  | 4 => ⟨S16384, .i1⟩
  | 5 => ⟨S_, .i32⟩
  | 6 => ⟨S16384, .i32⟩
  | 7 => ⟨S16384, .i32⟩
  | 8 => ⟨S16384, .i32⟩
  | 9 => ⟨S16384x1, .i32⟩
  | 10 => ⟨S16384, .i32⟩
  | 11 => ⟨S8192x2, .i32⟩
  | 12 => ⟨S8192x1, .i32⟩
  | 13 => ⟨S8192x1, .i32⟩
  | 14 => ⟨S8192x125, .i32⟩
  | 15 => ⟨S8192x128, .i32⟩
  | 16 => ⟨S8192x1, .f32⟩
  | 17 => ⟨S8192x1, .f32⟩
  | 18 => ⟨S8192x127, .f32⟩
  | 19 => ⟨S8192x128, .f32⟩
  | 20 => ⟨S32, .f32⟩
  | 21 => ⟨S_, .i32⟩
  | 22 => ⟨S_, .f32⟩
  | 23 => ⟨S128, .f32⟩
  | 24 => ⟨S1x128, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_values : Ref sig .tc := ⟨.hbm, 5, rfl⟩
abbrev main_indices : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_5 : Ref sig .tc := ⟨.hbm, 40, rfl⟩
abbrev main_v30 : Ref sig .tc := ⟨.hbm, 41, rfl⟩
abbrev main_v31 : Ref sig .tc := ⟨.hbm, 42, rfl⟩
abbrev main_c_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_7 : Ref sig .tc := ⟨.hbm, 47, rfl⟩
abbrev main_v35 : Ref sig .tc := ⟨.hbm, 48, rfl⟩
abbrev main_v36 : Ref sig .tc := ⟨.hbm, 49, rfl⟩
abbrev main_c_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_values_9 : Ref sig .tc := ⟨.hbm, 58, rfl⟩
abbrev main_indices_10 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_cst_12 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_13 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_14 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_call0_v0 : Ref sig .tc := ⟨.hbm, 84, rfl⟩
abbrev main_call0_v1_0 : Ref sig .tc := ⟨.hbm, 85, rfl⟩
abbrev main_v64 : Ref sig .tc := ⟨.hbm, 86, rfl⟩
abbrev main_c_15 : Ref sig .tc := ⟨.hbm, 87, rfl⟩
abbrev main_v65 : Ref sig .tc := ⟨.hbm, 88, rfl⟩
abbrev main_v66 : Ref sig .tc := ⟨.hbm, 89, rfl⟩
abbrev main_c_16 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_17 : Ref sig .tc := ⟨.hbm, 96, rfl⟩
abbrev main_v72 : Ref sig .tc := ⟨.hbm, 97, rfl⟩
abbrev main_c_18 : Ref sig .tc := ⟨.hbm, 98, rfl⟩
abbrev main_call1_v0 : Ref sig .tc := ⟨.hbm, 99, rfl⟩
abbrev main_call1_v1 : Ref sig .tc := ⟨.hbm, 100, rfl⟩
abbrev main_v73 : Ref sig .tc := ⟨.hbm, 101, rfl⟩
abbrev main_c_19 : Ref sig .tc := ⟨.hbm, 102, rfl⟩
abbrev main_v74 : Ref sig .tc := ⟨.hbm, 103, rfl⟩
abbrev main_v75 : Ref sig .tc := ⟨.hbm, 104, rfl⟩
abbrev main_c_20 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_21 : Ref sig .tc := ⟨.hbm, 110, rfl⟩
abbrev main_v80 : Ref sig .tc := ⟨.hbm, 111, rfl⟩
abbrev main_v81 : Ref sig .tc := ⟨.hbm, 112, rfl⟩
abbrev main_call2_call0_c : Ref sig .tc := ⟨.hbm, 113, rfl⟩
abbrev main_call2_call0_v0 : Ref sig .tc := ⟨.hbm, 114, rfl⟩
abbrev main_v82 : Ref sig .tc := ⟨.hbm, 115, rfl⟩
abbrev main_v83 : Ref sig .tc := ⟨.hbm, 116, rfl⟩
abbrev main_c_22 : Ref sig .tc := ⟨.hbm, 117, rfl⟩
abbrev main_v84 : Ref sig .tc := ⟨.hbm, 118, rfl⟩
abbrev main_v85 : Ref sig .tc := ⟨.hbm, 119, rfl⟩
abbrev main_c_23 : Ref sig .tc := ⟨.hbm, 120, rfl⟩
abbrev main_v86 : Ref sig .tc := ⟨.hbm, 121, rfl⟩
abbrev main_v87 : Ref sig .tc := ⟨.hbm, 122, rfl⟩
abbrev main_c_24 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_c_25 : Ref sig .tc := ⟨.hbm, 130, rfl⟩
abbrev main_v94 : Ref sig .tc := ⟨.hbm, 131, rfl⟩
abbrev main_v95 : Ref sig .tc := ⟨.hbm, 132, rfl⟩
abbrev main_c_26 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_c_27 : Ref sig .tc := ⟨.hbm, 149, rfl⟩
abbrev main_call3_v0 : Ref sig .tc := ⟨.hbm, 150, rfl⟩
abbrev main_v111 : Ref sig .tc := ⟨.hbm, 151, rfl⟩
abbrev main_v112 : Ref sig .tc := ⟨.hbm, 152, rfl⟩

abbrev nD : Nat := 1
abbrev τ : Topo := Topo.v7x

variable {F : FTy → Type} [FloatOps F]
-- ==== Proof.Attn.Pieces.lean ====
/- What the attention kernel's body computes from its blocks: the scores of a query row against its window of
   keys, and the row of the output. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem

/-- Base-2 weight of entry `k` of a row of scores: `2 ^ (s k - max s)`. -/
def wt (s : Fin 640 → EReal) (k : Fin 640) : EReal :=
  FloatOps.exp2 (F := Ideal) (φ := .f32) (s k - Finset.univ.fold max (Ideal.ofBits .f32 0xFF800000#32) s)

/-- One row of attention in base 2: the weighted sum of `v` over the sum of the weights. -/
def row2 (s v : Fin 640 → EReal) : EReal :=
  Ideal.div (∑ k, wt s k * v k) (∑ k, wt s k)

/-- Three blocks of 256 rows read as one window of 768. -/
def win (x1 x2 x3 : FVec Ideal S256x1024 .bf16) (w : Fin 768) (c : Fin 1024) : EReal :=
  if h : (w : ℕ) < 256 then x1 (ix2 ⟨w, h⟩ c)
  else if h : (w : ℕ) < 512 then x2 (ix2 ⟨w - 256, by omega⟩ c)
  else x3 (ix2 ⟨w - 512, by omega⟩ c)

/-- The column of channel `e` of head `h`. -/
abbrev col (h : Fin 8) (e : Fin 128) : Fin 1024 := ⟨128 * h + e, by omega⟩

/-- The score, in base 2, of query row `ρ` of the block against row `w` of the window. -/
def sc (x0 x1 x2 x3 : FVec Ideal S256x1024 .bf16) (x7 : FVec Ideal S1x8x256x768 .f32) (h : Fin 8) (ρ : Fin 256) (w : Fin 768) : EReal :=
  (∑ e : Fin 128, x0 (ix2 ρ (col h e)) * win x1 x2 x3 w (col h e)) * Named.named (F := Ideal) κ "scale2" (φ := .f32) 0x3E0293EE#32
    + x7 (ix4 0 h ρ w) * Named.named (F := Ideal) κ "log2e" (φ := .f32) 0x3FB8AA3B#32

variable (x0 x1 x2 x3 x4 x5 x6 : FVec Ideal S256x1024 .bf16) (x7 : FVec Ideal S1x8x256x768 .f32)

theorem win_fst (x1 x2 x3 : FVec Ideal S256x1024 .bf16) {w : Fin 768} (c : Fin 1024) (h : (w : ℕ) < 256) :
    win x1 x2 x3 w c = x1 (ix2 ⟨w, h⟩ c) := dif_pos h

theorem win_snd (x1 x2 x3 : FVec Ideal S256x1024 .bf16) {w : Fin 768} (c : Fin 1024) (h : ¬ (w : ℕ) < 256) (h' : (w : ℕ) < 512) :
    win x1 x2 x3 w c = x2 (ix2 ⟨w - 256, by omega⟩ c) := by
  unfold win; rw [dif_neg h, dif_pos h']

theorem win_trd (x1 x2 x3 : FVec Ideal S256x1024 .bf16) {w : Fin 768} (c : Fin 1024) (h' : ¬ (w : ℕ) < 512) :
    win x1 x2 x3 w c = x3 (ix2 ⟨w - 512, by omega⟩ c) := by
  unfold win; rw [dif_neg (by omega), dif_neg h']

/-- A score from its parts. -/
theorem sc_of {x0 x1 x2 x3 : FVec Ideal S256x1024 .bf16} {x7 : FVec Ideal S1x8x256x768 .f32} {h : Fin 8} {ρ : Fin 256} {w : Fin 768}
    {D B : EReal} {f g : Fin 128 → EReal} (hD : D = ∑ e, f e * g e) (hf : ∀ e, f e = x0 (ix2 ρ (col h e)))
    (hg : ∀ e, g e = win x1 x2 x3 w (col h e)) (hB : B = x7 (ix4 0 h ρ w)) :
    D * Named.named (F := Ideal) κ "scale2" (φ := .f32) 0x3E0293EE#32 + B * Named.named (F := Ideal) κ "log2e" (φ := .f32) 0x3FB8AA3B#32
      = sc x0 x1 x2 x3 x7 h ρ w := by
  rw [hD, hB]; unfold sc
  exact congrArg (fun z => z * _ + _) (Finset.sum_congr rfl fun e _ => by rw [hf, hg])

section Stack

variable {F : FTy → Type} [FloatOps F] [Named F]

/-- The four heads' scores, stacked, scaled and biased. -/
def sc4 (u0 u1 u2 u3 : FVec F S1x128x640 .f32) (b : Vec F S1x4x128x640 .f32) : FVec F S4x128x640 .f32 :=
  addf (mulf (concatenate S4x128x640 0 [⟨S1x128x640, u0⟩, ⟨S1x128x640, u1⟩, ⟨S1x128x640, u2⟩, ⟨S1x128x640, u3⟩] concatenates_S1x128x640_S1x128x640_S1x128x640_S1x128x640_S4x128x640_d0)
      (broadcast S4x128x640 (Named.named κ "scale2" 0x3E0293EE#32)))
    (mulf (shapeCast S4x128x640 b shapeCasts_S1x4x128x640_S4x128x640) (broadcast S4x128x640 (Named.named κ "log2e" 0x3FB8AA3B#32)))

/-- A head's scores as a slab of the stack. -/
abbrev slab (u : FVec F S128x640 .f32) : FVec F S1x128x640 .f32 := shapeCast S1x128x640 u shapeCasts_S128x640_S1x128x640

/-- The scores of the first half of the rows, heads 4 to 7. -/
def S01 (x0 x1 x2 x3 x4 x5 x6 : Vec F S256x1024 .bf16) (x7 : Vec F S1x8x256x768 .f32) : FVec F S4x128x640 .f32 :=
  sc4 (k0_pay66 x0 x1 x2 x3 x4 x5 x6 x7) (k0_pay67 x0 x1 x2 x3 x4 x5 x6 x7) (slab (k0_pay64 x0 x1 x2 x3 x4 x5 x6 x7))
    (slab (k0_pay65 x0 x1 x2 x3 x4 x5 x6 x7)) (View.ld x7 r0_17)

/-- The scores of the second half of the rows, heads 0 to 3. -/
def S10 (x0 x1 x2 x3 x4 x5 x6 : Vec F S256x1024 .bf16) (x7 : Vec F S1x8x256x768 .f32) : FVec F S4x128x640 .f32 :=
  sc4 (slab (k0_pay70 x0 x1 x2 x3 x4 x5 x6 x7)) (slab (k0_pay71 x0 x1 x2 x3 x4 x5 x6 x7)) (slab (k0_pay72 x0 x1 x2 x3 x4 x5 x6 x7))
    (slab (k0_pay32 (View.ld x0 r0_21) (View.ld x1 r0_21) (View.ld x0 r0_21) (View.ld x2 r0_7) (View.ld x0 r0_21) (View.ld x3 r0_7)))
    (View.ld x7 r0_22)

/-- The scores of the second half of the rows, heads 4 to 7. -/
def S11 (x0 x1 x2 x3 x4 x5 x6 : Vec F S256x1024 .bf16) (x7 : Vec F S1x8x256x768 .f32) : FVec F S4x128x640 .f32 :=
  sc4 (slab (k0_pay76 x0 x1 x2 x3 x4 x5 x6 x7)) (slab (k0_pay77 x0 x1 x2 x3 x4 x5 x6 x7))
    (slab (k0_pay32 (View.ld x0 r0_25) (View.ld x1 r0_25) (View.ld x0 r0_25) (View.ld x2 r0_14) (View.ld x0 r0_25) (View.ld x3 r0_14)))
    (slab (k0_pay32 (View.ld x0 r0_26) (View.ld x1 r0_26) (View.ld x0 r0_26) (View.ld x2 r0_16) (View.ld x0 r0_26) (View.ld x3 r0_16)))
    (View.ld x7 r0_27)

variable (x0 x1 x2 x3 x4 x5 x6 : Vec F S256x1024 .bf16) (x7 : Vec F S1x8x256x768 .f32)

theorem pay62_eq : k0_pay62 x0 x1 x2 x3 x4 x5 x6 x7 = k0_pay7 (k0_pay61 x0 x1 x2 x3 x4 x5 x6 x7) := rfl
theorem pay63_eq : k0_pay63 x0 x1 x2 x3 x4 x5 x6 x7 = k0_pay8 (k0_pay61 x0 x1 x2 x3 x4 x5 x6 x7) := rfl
theorem pay68_eq : k0_pay68 x0 x1 x2 x3 x4 x5 x6 x7 = k0_pay7 (S01 x0 x1 x2 x3 x4 x5 x6 x7) := rfl
theorem pay69_eq : k0_pay69 x0 x1 x2 x3 x4 x5 x6 x7 = k0_pay8 (S01 x0 x1 x2 x3 x4 x5 x6 x7) := rfl
theorem pay74_eq : k0_pay74 x0 x1 x2 x3 x4 x5 x6 x7 = k0_pay7 (S10 x0 x1 x2 x3 x4 x5 x6 x7) := rfl
theorem pay75_eq : k0_pay75 x0 x1 x2 x3 x4 x5 x6 x7 = k0_pay8 (S10 x0 x1 x2 x3 x4 x5 x6 x7) := rfl
theorem pay80_eq : k0_pay80 x0 x1 x2 x3 x4 x5 x6 x7 = k0_pay7 (S11 x0 x1 x2 x3 x4 x5 x6 x7) := rfl
theorem pay81_eq : k0_pay81 x0 x1 x2 x3 x4 x5 x6 x7 = k0_pay8 (S11 x0 x1 x2 x3 x4 x5 x6 x7) := rfl
theorem pay25_eq : k0_pay25 (k0_pay64 x0 x1 x2 x3 x4 x5 x6 x7) (k0_pay65 x0 x1 x2 x3 x4 x5 x6 x7) (k0_pay66 x0 x1 x2 x3 x4 x5 x6 x7) (k0_pay67 x0 x1 x2 x3 x4 x5 x6 x7) (View.ld x7 r0_17) = k0_pay7 (S01 x0 x1 x2 x3 x4 x5 x6 x7) := rfl
theorem pay26_eq : k0_pay26 (k0_pay64 x0 x1 x2 x3 x4 x5 x6 x7) (k0_pay65 x0 x1 x2 x3 x4 x5 x6 x7) (k0_pay66 x0 x1 x2 x3 x4 x5 x6 x7) (k0_pay67 x0 x1 x2 x3 x4 x5 x6 x7) (View.ld x7 r0_17) = k0_pay8 (S01 x0 x1 x2 x3 x4 x5 x6 x7) := rfl
theorem pay38_eq : k0_pay38 (k0_pay70 x0 x1 x2 x3 x4 x5 x6 x7) (k0_pay71 x0 x1 x2 x3 x4 x5 x6 x7) (k0_pay72 x0 x1 x2 x3 x4 x5 x6 x7) (k0_pay73 x0 x1 x2 x3 x4 x5 x6 x7) (View.ld x0 r0_21) (View.ld x2 r0_7) (View.ld x0 r0_21) (View.ld x3 r0_7) (View.ld x7 r0_22) = k0_pay8 (S10 x0 x1 x2 x3 x4 x5 x6 x7) := rfl
theorem pay54_eq : k0_pay54 (k0_pay76 x0 x1 x2 x3 x4 x5 x6 x7) (k0_pay77 x0 x1 x2 x3 x4 x5 x6 x7) (k0_pay78 x0 x1 x2 x3 x4 x5 x6 x7) (k0_pay79 x0 x1 x2 x3 x4 x5 x6 x7) (View.ld x0 r0_25) (View.ld x3 r0_14) (View.ld x0 r0_26) (View.ld x1 r0_26) (View.ld x0 r0_26) (View.ld x2 r0_16) (View.ld x0 r0_26) (View.ld x3 r0_16) (View.ld x7 r0_27) = k0_pay8 (S11 x0 x1 x2 x3 x4 x5 x6 x7) := rfl

end Stack

variable (x0 x1 x2 x3 x4 x5 x6 : FVec Ideal S256x1024 .bf16) (x7 : FVec Ideal S1x8x256x768 .f32)

theorem S00_at (i : Fin 4) (r : Fin 128) (k : Fin 640) :
    k0_pay61 (F := Ideal) x0 x1 x2 x3 x4 x5 x6 x7 (ix3 i r k) = sc x0 x1 x2 x3 x7 ⟨i, by omega⟩ ⟨r, by omega⟩ ⟨k, by omega⟩ := by
  pointwise [k0_pay61, k0_pay5, k0_pay4, k0_pay3, k0_pay2]
  fin_vals i with hi
  all_goals
    simp only [hi, Nat.reduceSub, Nat.reduceLT, ↓reduceDIte]
    by_cases h1 : (k : ℕ) < 256
    · rw [dif_pos h1]
      exact sc_of rfl (fun e => by blk_ext) (fun e => by rw [win_fst _ _ _ _ (by simp; omega)]; blk_ext) (by blk_ext)
    · rw [dif_neg h1]
      by_cases h2 : (k : ℕ) - 256 < 256
      · rw [dif_pos h2]
        exact sc_of rfl (fun e => by blk_ext) (fun e => by rw [win_snd _ _ _ _ (by simp; omega) (by simp; omega)]; blk_ext) (by blk_ext)
      · rw [dif_neg h2]
        exact sc_of rfl (fun e => by blk_ext) (fun e => by rw [win_trd _ _ _ _ (by simp; omega)]; blk_ext) (by blk_ext)

theorem S01_at (i : Fin 4) (r : Fin 128) (k : Fin 640) :
    S01 (F := Ideal) x0 x1 x2 x3 x4 x5 x6 x7 (ix3 i r k) = sc x0 x1 x2 x3 x7 ⟨4 + i, by omega⟩ ⟨r, by omega⟩ ⟨k, by omega⟩ := by
  pointwise [S01, sc4, slab, k0_pay64, k0_pay65, k0_pay66, k0_pay67, k0_pay17, k0_pay18, k0_pay19, k0_pay20, k0_pay21, k0_pay22, k0_pay23]
  fin_vals i with hi
  all_goals
    simp only [hi, Nat.reduceSub, Nat.reduceLT, ↓reduceDIte]
    by_cases h1 : (k : ℕ) < 256
    · rw [dif_pos h1]
      exact sc_of rfl (fun e => by blk_ext) (fun e => by rw [win_fst _ _ _ _ (by simp; omega)]; blk_ext) (by blk_ext)
    · rw [dif_neg h1]
      by_cases h2 : (k : ℕ) - 256 < 256
      · rw [dif_pos h2]
        exact sc_of rfl (fun e => by blk_ext) (fun e => by rw [win_snd _ _ _ _ (by simp; omega) (by simp; omega)]; blk_ext) (by blk_ext)
      · rw [dif_neg h2]
        exact sc_of rfl (fun e => by blk_ext) (fun e => by rw [win_trd _ _ _ _ (by simp; omega)]; blk_ext) (by blk_ext)

theorem S10_at (i : Fin 4) (r : Fin 128) (k : Fin 640) :
    S10 (F := Ideal) x0 x1 x2 x3 x4 x5 x6 x7 (ix3 i r k) = sc x0 x1 x2 x3 x7 ⟨i, by omega⟩ ⟨128 + r, by omega⟩ ⟨128 + k, by omega⟩ := by
  pointwise [S10, sc4, slab, k0_pay70, k0_pay71, k0_pay72, k0_pay32, k0_pay33, k0_pay34]
  fin_vals i with hi
  all_goals
    simp only [hi, Nat.reduceSub, Nat.reduceLT, ↓reduceDIte]
    by_cases h1 : (k : ℕ) < 128
    · rw [dif_pos h1]
      exact sc_of rfl (fun e => by blk_ext) (fun e => by rw [win_fst _ _ _ _ (by simp; omega)]; blk_ext) (by blk_ext)
    · rw [dif_neg h1]
      by_cases h2 : (k : ℕ) - 128 < 256
      · rw [dif_pos h2]
        exact sc_of rfl (fun e => by blk_ext) (fun e => by rw [win_snd _ _ _ _ (by simp; omega) (by simp; omega)]; blk_ext) (by blk_ext)
      · rw [dif_neg h2]
        exact sc_of rfl (fun e => by blk_ext) (fun e => by rw [win_trd _ _ _ _ (by simp; omega)]; blk_ext) (by blk_ext)

theorem S11_at (i : Fin 4) (r : Fin 128) (k : Fin 640) :
    S11 (F := Ideal) x0 x1 x2 x3 x4 x5 x6 x7 (ix3 i r k) = sc x0 x1 x2 x3 x7 ⟨4 + i, by omega⟩ ⟨128 + r, by omega⟩ ⟨128 + k, by omega⟩ := by
  pointwise [S11, sc4, slab, k0_pay76, k0_pay77, k0_pay32, k0_pay47, k0_pay48, k0_pay49]
  fin_vals i with hi
  all_goals
    simp only [hi, Nat.reduceSub, Nat.reduceLT, ↓reduceDIte]
    by_cases h1 : (k : ℕ) < 128
    · rw [dif_pos h1]
      exact sc_of rfl (fun e => by blk_ext) (fun e => by rw [win_fst _ _ _ _ (by simp; omega)]; blk_ext) (by blk_ext)
    · rw [dif_neg h1]
      by_cases h2 : (k : ℕ) - 128 < 256
      · rw [dif_pos h2]
        exact sc_of rfl (fun e => by blk_ext) (fun e => by rw [win_snd _ _ _ _ (by simp; omega) (by simp; omega)]; blk_ext) (by blk_ext)
      · rw [dif_neg h2]
        exact sc_of rfl (fun e => by blk_ext) (fun e => by rw [win_trd _ _ _ _ (by simp; omega)]; blk_ext) (by blk_ext)

end Cert.Attn
-- ==== Proof.Attn.Out.lean ====
/- The block the attention kernel's body stores, at an index: one row of base-2 attention. -/
module

public import proofs.«01_k».proof.Proof.Attn.Pieces

@[expose] public section

set_option maxRecDepth 16384

noncomputable section

namespace Cert.Attn

open Cert.KernelIdeal Cert.KernelIdeal.Gen Idealize.ShloMosaic Idealize.ShloMosaic.TcCoe Idealize.SL.Sem

theorem e_at (S : FVec Ideal S4x128x640 .f32) (i : Fin 4) (r : Fin 128) (k : Fin 640) :
    k0_pay8 (F := Ideal) S (ix3 i r k) = wt (fun k => S (ix3 i r k)) k := by
  pointwise [k0_pay8, k0_pay6]; rfl

theorem den_at (S : FVec Ideal S4x128x640 .f32) (i : Fin 4) (r : Fin 128) :
    k0_pay7 (F := Ideal) S (ix3 i r 0) = ∑ k, wt (fun k => S (ix3 i r k)) k := by
  pointwise [k0_pay7, k0_pay6]; rfl

/-- A row's weighted sum cut at 256 and 512. -/
theorem row2_cut (s v : Fin 640 → EReal) :
    row2 s v = Ideal.div (((∑ k : Fin 256, wt s ⟨k, by omega⟩ * v ⟨k, by omega⟩)
      + ∑ k : Fin 256, wt s ⟨256 + k, by omega⟩ * v ⟨256 + k, by omega⟩)
      + ∑ k : Fin 128, wt s ⟨512 + k, by omega⟩ * v ⟨512 + k, by omega⟩) (∑ k, wt s k) := by
  unfold row2
  congr 1
  rw [Fin.sum_univ_add (a := 512) (b := 128) (fun k => wt s k * v k), Fin.sum_univ_add (a := 256) (b := 256)]
  rfl

/-- A row's weighted sum cut at 128 and 384. -/
theorem row2_cut' (s v : Fin 640 → EReal) :
    row2 s v = Ideal.div (((∑ k : Fin 128, wt s ⟨k, by omega⟩ * v ⟨k, by omega⟩)
      + ∑ k : Fin 256, wt s ⟨128 + k, by omega⟩ * v ⟨128 + k, by omega⟩)
      + ∑ k : Fin 256, wt s ⟨384 + k, by omega⟩ * v ⟨384 + k, by omega⟩) (∑ k, wt s k) := by
  unfold row2
  congr 1
  rw [Fin.sum_univ_add (a := 384) (b := 256) (fun k => wt s k * v k), Fin.sum_univ_add (a := 128) (b := 256)]
  rfl

variable (b0 b1 b2 b3 b4 b5 b6 : FVec Ideal S256x1024 .bf16) (b7 : FVec Ideal S1x8x256x768 .f32)

/-- A weighted sum over a stretch of the first block of the window. -/
theorem sum_fst {n : ℕ} (f : Fin n → EReal) (g : Fin n → EReal) (w : Fin n → Fin 768) (c : Fin 1024) (hw : ∀ k, (w k : ℕ) < 256)
    (hg : ∀ k, g k = b4 (ix2 ⟨w k, hw k⟩ c)) : ∑ k, f k * g k = ∑ k, f k * win b4 b5 b6 (w k) c :=
  Finset.sum_congr rfl fun k _ => by rw [win_fst _ _ _ _ (hw k), hg]

/-- The same over the second block. -/
theorem sum_snd {n : ℕ} (f : Fin n → EReal) (g : Fin n → EReal) (w : Fin n → Fin 768) (c : Fin 1024) (hw : ∀ k, 256 ≤ (w k : ℕ) ∧ (w k : ℕ) < 512)
    (hg : ∀ k, g k = b5 (ix2 ⟨w k - 256, by have := hw k; omega⟩ c)) : ∑ k, f k * g k = ∑ k, f k * win b4 b5 b6 (w k) c :=
  Finset.sum_congr rfl fun k _ => by rw [win_snd _ _ _ _ (not_lt.2 (hw k).1) (hw k).2, hg]

/-- The same over the third block. -/
theorem sum_trd {n : ℕ} (f : Fin n → EReal) (g : Fin n → EReal) (w : Fin n → Fin 768) (c : Fin 1024) (hw : ∀ k, 512 ≤ (w k : ℕ))
    (hg : ∀ k, g k = b6 (ix2 ⟨w k - 512, by omega⟩ c)) : ∑ k, f k * g k = ∑ k, f k * win b4 b5 b6 (w k) c :=
  Finset.sum_congr rfl fun k _ => by rw [win_trd _ _ _ _ (not_lt.2 (hw k)), hg]

set_option maxHeartbeats 1000000 in
theorem out_at (ρ : Fin 256) (c : Fin 1024) :
    out0_8 (F := Ideal) b0 b1 b2 b3 b4 b5 b6 b7 (ix2 ρ c)
      = row2 (fun k => sc b0 b1 b2 b3 b7 ⟨c / 128, by omega⟩ ρ ⟨(ρ : ℕ) / 128 * 128 + k, by omega⟩)
          (fun k => win b4 b5 b6 ⟨(ρ : ℕ) / 128 * 128 + k, by omega⟩ c) := by
  unfold out0_8
  canon_tiles x h
  case piece0 =>
    idx_vars x
    have hs : (fun k : Fin 640 => sc b0 b1 b2 b3 b7 ⟨c / 128, by omega⟩ ρ ⟨(ρ : ℕ) / 128 * 128 + k, by omega⟩)
        = fun k => S11 (F := Ideal) b0 b1 b2 b3 b4 b5 b6 b7 (ix3 3 x0 k) := by
      funext k; rw [S11_at]; congr 1 <;> (apply Fin.ext; simp; omega)
    rw [hs, row2_cut']
    pointwise [k0_pay1, k0_pay59, k0_pay60, pay80_eq, pay81_eq, e_at, den_at]
    refine congrArg₂ Ideal.div (congrArg₂ (· + ·) (congrArg₂ (· + ·) (sum_fst _ _ _ _ _ _ c ?_ ?_) (sum_snd _ _ _ _ _ _ c ?_ ?_)) (sum_trd _ _ _ _ _ _ c ?_ ?_)) rfl
    all_goals (intro k; first | (simp; omega) | blk_ext)
  case piece1 =>
    idx_vars x
    have hs : (fun k : Fin 640 => sc b0 b1 b2 b3 b7 ⟨c / 128, by omega⟩ ρ ⟨(ρ : ℕ) / 128 * 128 + k, by omega⟩)
        = fun k => S11 (F := Ideal) b0 b1 b2 b3 b4 b5 b6 b7 (ix3 2 x0 k) := by
      funext k; rw [S11_at]; congr 1 <;> (apply Fin.ext; simp; omega)
    rw [hs, row2_cut']
    pointwise [k0_pay58, pay80_eq, pay81_eq, e_at, den_at]
    refine congrArg₂ Ideal.div (congrArg₂ (· + ·) (congrArg₂ (· + ·) (sum_fst _ _ _ _ _ _ c ?_ ?_) (sum_snd _ _ _ _ _ _ c ?_ ?_)) (sum_trd _ _ _ _ _ _ c ?_ ?_)) rfl
    all_goals (intro k; first | (simp; omega) | blk_ext)
  case piece2 =>
    idx_vars x
    have hs : (fun k : Fin 640 => sc b0 b1 b2 b3 b7 ⟨c / 128, by omega⟩ ρ ⟨(ρ : ℕ) / 128 * 128 + k, by omega⟩)
        = fun k => S11 (F := Ideal) b0 b1 b2 b3 b4 b5 b6 b7 (ix3 1 x0 k) := by
      funext k; rw [S11_at]; congr 1 <;> (apply Fin.ext; simp; omega)
    rw [hs, row2_cut']
    pointwise [k0_pay57, pay80_eq, pay81_eq, e_at, den_at]
    refine congrArg₂ Ideal.div (congrArg₂ (· + ·) (congrArg₂ (· + ·) (sum_fst _ _ _ _ _ _ c ?_ ?_) (sum_snd _ _ _ _ _ _ c ?_ ?_)) (sum_trd _ _ _ _ _ _ c ?_ ?_)) rfl
    all_goals (intro k; first | (simp; omega) | blk_ext)
  case piece3 =>
    idx_vars x
    have hs : (fun k : Fin 640 => sc b0 b1 b2 b3 b7 ⟨c / 128, by omega⟩ ρ ⟨(ρ : ℕ) / 128 * 128 + k, by omega⟩)
        = fun k => S11 (F := Ideal) b0 b1 b2 b3 b4 b5 b6 b7 (ix3 0 x0 k) := by
      funext k; rw [S11_at]; congr 1 <;> (apply Fin.ext; simp; omega)
    rw [hs, row2_cut']
    pointwise [k0_pay56, k0_pay55, pay54_eq, pay80_eq, pay81_eq, e_at, den_at]
    refine congrArg₂ Ideal.div (congrArg₂ (· + ·) (congrArg₂ (· + ·) (sum_fst _ _ _ _ _ _ c ?_ ?_) (sum_snd _ _ _ _ _ _ c ?_ ?_)) (sum_trd _ _ _ _ _ _ c ?_ ?_)) rfl
    all_goals (intro k; first | (simp; omega) | blk_ext)
  case piece4 =>
    idx_vars x
    have hs : (fun k : Fin 640 => sc b0 b1 b2 b3 b7 ⟨c / 128, by omega⟩ ρ ⟨(ρ : ℕ) / 128 * 128 + k, by omega⟩)
        = fun k => S10 (F := Ideal) b0 b1 b2 b3 b4 b5 b6 b7 (ix3 3 x0 k) := by
      funext k; rw [S10_at]; congr 1 <;> (apply Fin.ext; simp; omega)
    rw [hs, row2_cut']
    pointwise [k0_pay46, pay74_eq, pay75_eq, e_at, den_at]
    refine congrArg₂ Ideal.div (congrArg₂ (· + ·) (congrArg₂ (· + ·) (sum_fst _ _ _ _ _ _ c ?_ ?_) (sum_snd _ _ _ _ _ _ c ?_ ?_)) (sum_trd _ _ _ _ _ _ c ?_ ?_)) rfl
    all_goals (intro k; first | (simp; omega) | blk_ext)
  case piece5 =>
    idx_vars x
    have hs : (fun k : Fin 640 => sc b0 b1 b2 b3 b7 ⟨c / 128, by omega⟩ ρ ⟨(ρ : ℕ) / 128 * 128 + k, by omega⟩)
        = fun k => S10 (F := Ideal) b0 b1 b2 b3 b4 b5 b6 b7 (ix3 2 x0 k) := by
      funext k; rw [S10_at]; congr 1 <;> (apply Fin.ext; simp; omega)
    rw [hs, row2_cut']
    pointwise [k0_pay45, k0_pay43, k0_pay44, pay74_eq, pay75_eq, e_at, den_at]
    refine congrArg₂ Ideal.div (congrArg₂ (· + ·) (congrArg₂ (· + ·) (sum_fst _ _ _ _ _ _ c ?_ ?_) (sum_snd _ _ _ _ _ _ c ?_ ?_)) (sum_trd _ _ _ _ _ _ c ?_ ?_)) rfl
    all_goals (intro k; first | (simp; omega) | blk_ext)
  case piece6 =>
    idx_vars x
    have hs : (fun k : Fin 640 => sc b0 b1 b2 b3 b7 ⟨c / 128, by omega⟩ ρ ⟨(ρ : ℕ) / 128 * 128 + k, by omega⟩)
        = fun k => S10 (F := Ideal) b0 b1 b2 b3 b4 b5 b6 b7 (ix3 1 x0 k) := by
      funext k; rw [S10_at]; congr 1 <;> (apply Fin.ext; simp; omega)
    rw [hs, row2_cut']
    pointwise [k0_pay42, pay74_eq, pay75_eq, e_at, den_at]
    refine congrArg₂ Ideal.div (congrArg₂ (· + ·) (congrArg₂ (· + ·) (sum_fst _ _ _ _ _ _ c ?_ ?_) (sum_snd _ _ _ _ _ _ c ?_ ?_)) (sum_trd _ _ _ _ _ _ c ?_ ?_)) rfl
    all_goals (intro k; first | (simp; omega) | blk_ext)
  case piece7 =>
    idx_vars x
    have hs : (fun k : Fin 640 => sc b0 b1 b2 b3 b7 ⟨c / 128, by omega⟩ ρ ⟨(ρ : ℕ) / 128 * 128 + k, by omega⟩)
        = fun k => S10 (F := Ideal) b0 b1 b2 b3 b4 b5 b6 b7 (ix3 0 x0 k) := by
      funext k; rw [S10_at]; congr 1 <;> (apply Fin.ext; simp; omega)
    rw [hs, row2_cut']
    pointwise [k0_pay41, k0_pay39, k0_pay40, pay38_eq, pay74_eq, pay75_eq, e_at, den_at]
    refine congrArg₂ Ideal.div (congrArg₂ (· + ·) (congrArg₂ (· + ·) (sum_fst _ _ _ _ _ _ c ?_ ?_) (sum_snd _ _ _ _ _ _ c ?_ ?_)) (sum_trd _ _ _ _ _ _ c ?_ ?_)) rfl
    all_goals (intro k; first | (simp; omega) | blk_ext)
  case piece8 =>
    idx_vars x
    have hs : (fun k : Fin 640 => sc b0 b1 b2 b3 b7 ⟨c / 128, by omega⟩ ρ ⟨(ρ : ℕ) / 128 * 128 + k, by omega⟩)
        = fun k => S01 (F := Ideal) b0 b1 b2 b3 b4 b5 b6 b7 (ix3 3 x0 k) := by
      funext k; rw [S01_at]; congr 1 <;> (apply Fin.ext; simp; omega)
    rw [hs, row2_cut]
    pointwise [k0_pay31, pay68_eq, pay69_eq, e_at, den_at]
    refine congrArg₂ Ideal.div (congrArg₂ (· + ·) (congrArg₂ (· + ·) (sum_fst _ _ _ _ _ _ c ?_ ?_) (sum_snd _ _ _ _ _ _ c ?_ ?_)) (sum_trd _ _ _ _ _ _ c ?_ ?_)) rfl
    all_goals (intro k; first | (simp; omega) | blk_ext)
  case piece9 =>
    idx_vars x
    have hs : (fun k : Fin 640 => sc b0 b1 b2 b3 b7 ⟨c / 128, by omega⟩ ρ ⟨(ρ : ℕ) / 128 * 128 + k, by omega⟩)
        = fun k => S01 (F := Ideal) b0 b1 b2 b3 b4 b5 b6 b7 (ix3 2 x0 k) := by
      funext k; rw [S01_at]; congr 1 <;> (apply Fin.ext; simp; omega)
    rw [hs, row2_cut]
    pointwise [k0_pay30, pay68_eq, pay69_eq, e_at, den_at]
    refine congrArg₂ Ideal.div (congrArg₂ (· + ·) (congrArg₂ (· + ·) (sum_fst _ _ _ _ _ _ c ?_ ?_) (sum_snd _ _ _ _ _ _ c ?_ ?_)) (sum_trd _ _ _ _ _ _ c ?_ ?_)) rfl
    all_goals (intro k; first | (simp; omega) | blk_ext)
  case piece10 =>
    idx_vars x
    have hs : (fun k : Fin 640 => sc b0 b1 b2 b3 b7 ⟨c / 128, by omega⟩ ρ ⟨(ρ : ℕ) / 128 * 128 + k, by omega⟩)
        = fun k => S01 (F := Ideal) b0 b1 b2 b3 b4 b5 b6 b7 (ix3 1 x0 k) := by
      funext k; rw [S01_at]; congr 1 <;> (apply Fin.ext; simp; omega)
    rw [hs, row2_cut]
    pointwise [k0_pay29, k0_pay28, pay26_eq, pay68_eq, pay69_eq, e_at, den_at]
    refine congrArg₂ Ideal.div (congrArg₂ (· + ·) (congrArg₂ (· + ·) (sum_fst _ _ _ _ _ _ c ?_ ?_) (sum_snd _ _ _ _ _ _ c ?_ ?_)) (sum_trd _ _ _ _ _ _ c ?_ ?_)) rfl
    all_goals (intro k; first | (simp; omega) | blk_ext)
  case piece11 =>
    idx_vars x
    have hs : (fun k : Fin 640 => sc b0 b1 b2 b3 b7 ⟨c / 128, by omega⟩ ρ ⟨(ρ : ℕ) / 128 * 128 + k, by omega⟩)
        = fun k => S01 (F := Ideal) b0 b1 b2 b3 b4 b5 b6 b7 (ix3 0 x0 k) := by
      funext k; rw [S01_at]; congr 1 <;> (apply Fin.ext; simp; omega)
    rw [hs, row2_cut]
    pointwise [k0_pay27, pay26_eq, pay25_eq, pay68_eq, pay69_eq, e_at, den_at]
    refine congrArg₂ Ideal.div (congrArg₂ (· + ·) (congrArg₂ (· + ·) (sum_fst _ _ _ _ _ _ c ?_ ?_) (sum_snd _ _ _ _ _ _ c ?_ ?_)) (sum_trd _ _ _ _ _ _ c ?_ ?_)) rfl
    all_goals (intro k; first | (simp; omega) | blk_ext)
  case piece12 =>
    idx_vars x
    have hs : (fun k : Fin 640 => sc b0 b1 b2 b3 b7 ⟨c / 128, by omega⟩ ρ ⟨(ρ : ℕ) / 128 * 128 + k, by omega⟩)
        = fun k => k0_pay61 (F := Ideal) b0 b1 b2 b3 b4 b5 b6 b7 (ix3 3 x0 k) := by
      funext k; rw [S00_at]; congr 1 <;> (apply Fin.ext; simp; omega)
    rw [hs, row2_cut]
    pointwise [k0_pay16, k0_pay14, k0_pay15, pay62_eq, pay63_eq, e_at, den_at]
    refine congrArg₂ Ideal.div (congrArg₂ (· + ·) (congrArg₂ (· + ·) (sum_fst _ _ _ _ _ _ c ?_ ?_) (sum_snd _ _ _ _ _ _ c ?_ ?_)) (sum_trd _ _ _ _ _ _ c ?_ ?_)) rfl
    all_goals (intro k; first | (simp; omega) | blk_ext)
  case piece13 =>
    idx_vars x
    have hs : (fun k : Fin 640 => sc b0 b1 b2 b3 b7 ⟨c / 128, by omega⟩ ρ ⟨(ρ : ℕ) / 128 * 128 + k, by omega⟩)
        = fun k => k0_pay61 (F := Ideal) b0 b1 b2 b3 b4 b5 b6 b7 (ix3 2 x0 k) := by
      funext k; rw [S00_at]; congr 1 <;> (apply Fin.ext; simp; omega)
    rw [hs, row2_cut]
    pointwise [k0_pay13, pay62_eq, pay63_eq, e_at, den_at]
    refine congrArg₂ Ideal.div (congrArg₂ (· + ·) (congrArg₂ (· + ·) (sum_fst _ _ _ _ _ _ c ?_ ?_) (sum_snd _ _ _ _ _ _ c ?_ ?_)) (sum_trd _ _ _ _ _ _ c ?_ ?_)) rfl
    all_goals (intro k; first | (simp; omega) | blk_ext)
  case piece14 =>
    idx_vars x
    have hs : (fun k : Fin 640 => sc b0 b1 b2 b3 b7 ⟨c / 128, by omega⟩ ρ ⟨(ρ : ℕ) / 128 * 128 + k, by omega⟩)
        = fun k => k0_pay61 (F := Ideal) b0 b1 b2 b3 b4 b5 b6 b7 (ix3 1 x0 k) := by
      funext k; rw [S00_at]; congr 1 <;> (apply Fin.ext; simp; omega)
    rw [hs, row2_cut]
    pointwise [k0_pay12, k0_pay10, k0_pay11, pay62_eq, pay63_eq, e_at, den_at]
    refine congrArg₂ Ideal.div (congrArg₂ (· + ·) (congrArg₂ (· + ·) (sum_fst _ _ _ _ _ _ c ?_ ?_) (sum_snd _ _ _ _ _ _ c ?_ ?_)) (sum_trd _ _ _ _ _ _ c ?_ ?_)) rfl
    all_goals (intro k; first | (simp; omega) | blk_ext)
  case piece15 =>
    idx_vars x
    have hs : (fun k : Fin 640 => sc b0 b1 b2 b3 b7 ⟨c / 128, by omega⟩ ρ ⟨(ρ : ℕ) / 128 * 128 + k, by omega⟩)
        = fun k => k0_pay61 (F := Ideal) b0 b1 b2 b3 b4 b5 b6 b7 (ix3 0 x0 k) := by
      funext k; rw [S00_at]; congr 1 <;> (apply Fin.ext; simp; omega)
    rw [hs, row2_cut]
    pointwise [k0_pay9, pay62_eq, pay63_eq, e_at, den_at]
    refine congrArg₂ Ideal.div (congrArg₂ (· + ·) (congrArg₂ (· + ·) (sum_fst _ _ _ _ _ _ c ?_ ?_) (sum_snd _ _ _ _ _ _ c ?_ ?_)) (sum_trd _ _ _ _ _ _ c ?_ ?_)) rfl
    all_goals (intro k; first | (simp; omega) | blk_ext)

end Cert.Attn
-- ==== Proof.Attn.Bias.lean ====
/- The table of biases that the host prepares for the attention kernel, read at an index. -/
module

public import proofs.«01_k».proof.Proof.Gen.KernelIdeal.Frame
public import Idealize.ShloMosaic.Lib.Pointwise
public import Idealize.ShloMosaic.Lib.Claim
public import Idealize.ShloMosaic.Lib.StableHlo.RunRead
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem

/-- The contents of the buffers between two host operations. -/
abbrev Vals := Valuation τ sig (Elt Ideal)

/-- The contents of one buffer. -/
abbrev rd (σ : Vals) (b : Ref sig .tc) : b.ty.Contents (Elt Ideal) := σ (Proc.tc.devRef b)

/-- The quotient that the host computes of a number below 768 by 64. -/
theorem div64 : ∀ x : Fin 768, Scalar.select (IntOp.andi
      (IntOp.cmpi .ne (if BitVec.ofNat 32 x = 0 then (0 : BitVec 32) else if (BitVec.ofNat 32 x).msb then -1 else 1)
        (if (64#32 : BitVec 32) = 0 then (0 : BitVec 32) else if (64#32 : BitVec 32).msb then -1 else 1))
      (IntOp.cmpi .ne (IntOp.remsi .host (BitVec.ofNat 32 x) 64#32) 0#32))
    (IntOp.subi (IntOp.divsi .host (BitVec.ofNat 32 x) 64#32) 1#32)
    (IntOp.divsi .host (BitVec.ofNat 32 x) 64#32) = BitVec.ofNat 32 (x / 64) := by decide +kernel

/-! ## The tables of positions -/

theorem c0_v1 (σ : Vals) (r : Fin 256) :
    (rd (StableHlo.after hostOps0 σ) main_v1 : IVec S256x1 32) (ix2 r 0) = BitVec.ofNat 32 r := by
  after_reads_simp
  pointwise

theorem c0_v3 (σ : Vals) (k : Fin 768) :
    (rd (StableHlo.after hostOps0 σ) main_v3 : IVec S1x768 32) (ix2 0 k) = BitVec.ofNat 32 k := by
  after_reads_simp
  pointwise

theorem c0_c (σ : Vals) : (rd (StableHlo.after hostOps0 σ) main_c : IVec S_ 32) = constantI S_ 32 64#32 := by
  after_reads_simp

/-- The relative biases laid out by offset: entry `g` belongs to a key `g - 256` places after the query's. -/
def fan (T : FVec Ideal S8x513 .f32) : FVec Ideal S8x1024 .f32 :=
  concatenate S8x1024 1
    [⟨S8x512, broadcastInDim S8x512 ![0, 1] bcast_S8x1_S8x512_0_1 (extractStridedSlice S8x1 ![0, 512] T slices_S8x513_S8x1_0_512)⟩,
     ⟨S8x512, Host.reverse [1] (extractStridedSlice S8x512 ![0, 1] T slices_S8x513_S8x512_0_1)⟩,
     ⟨S8x0, broadcastInDim S8x0 ![0, 1] bcast_S8x1_S8x0_0_1 (extractStridedSlice S8x1 ![0, 0] T slices_S8x513_S8x1_0_0)⟩]
    concatenates_S8x512_S8x512_S8x0_S8x1024_d1

theorem rev_val (x : Fin 512) : ((if (1 : Fin 2) ∈ [(1 : Fin 2)] then x.rev else x : Fin 512) : ℕ) = 511 - x := by
  rw [if_pos (by decide), Fin.val_rev]
  omega

theorem fan_at (T : FVec Ideal S8x513 .f32) (h : Fin 8) (g : Fin 1024) :
    fan T (ix2 h g) = T (ix2 h ⟨min (1024 - g) 512, by omega⟩) := by
  pointwise [fan]
  split_ifs with h1 h2 h3
  · exact congrArg T (congrArg (ix2 h) (Fin.ext (by show 512 = min (1024 - (g : ℕ)) 512; omega)))
  · exact absurd h3 (by decide)
  · refine congrArg T (congrArg (ix2 h) (Fin.ext ?_))
    refine (congrArg (1 + ·) (rev_val ⟨g - 512, h2⟩)).trans ?_
    show 1 + (511 - ((g : ℕ) - 512)) = min (1024 - (g : ℕ)) 512
    omega
  · omega

/-- The fan of every query row, one row per query. -/
def band (u : FVec Ideal S8x1024 .f32) : FVec Ideal S8x256x768 .f32 :=
  extractStridedSlice S8x256x768 ![0, 0, 0]
    (shapeCast S8x256x1023 (extractStridedSlice S8x261888 ![0, 256]
      (shapeCast S8x263168 (broadcastInDim S1x8x257x1024 ![0, 1, 2, 3] bcast_S1x8x1x1024_S1x8x257x1024_0_1_2_3
        (shapeCast S1x8x1x1024 u shapeCasts_S8x1024_S1x8x1x1024)) shapeCasts_S1x8x257x1024_S8x263168)
      slices_S8x263168_S8x261888_0_256) shapeCasts_S8x261888_S8x256x1023) slices_S8x256x1023_S8x256x768_0_0_0

theorem band_at (u : FVec Ideal S8x1024 .f32) (h : Fin 8) (r : Fin 256) (k : Fin 768) :
    band u (ix3 h r k) = u (ix2 h ⟨256 + k - r, by omega⟩) := by
  pointwise [band]
  exact congrArg u (congrArg (ix2 h) (Fin.ext (by show (256 + ((r : ℕ) * 1023 + k)) % 1024 = 256 + k - r; omega)))

theorem c0_v16 (σ : Vals) :
    (rd (StableHlo.after hostOps0 σ) main_v16 : FVec Ideal S8x256x768 .f32) = band (fan (rd σ main_arg1)) := by
  after_reads_simp
  rfl

theorem c1_v17 (σ : Vals) (r : Fin 256) (h1 : (rd σ main_v1 : IVec S256x1 32) (ix2 r 0) = BitVec.ofNat 32 r)
    (hc : (rd σ main_c : IVec S_ 32) = constantI S_ 32 64#32) :
    (rd (StableHlo.after hostOps0_1 σ) main_v17 : IVec S256x1 32) (ix2 r 0) = BitVec.ofNat 32 (r / 64) := by
  after_reads_simp
  simp only [StableHlo.TRef.ofBuf, StableHlo.TRef.toBuf, cast_eq, rd] at hc h1 ⊢
  rw [hc]
  pointwise [signi]
  rw [h1]
  exact div64 ⟨r, by omega⟩

theorem c2_v19 (σ : Vals) (r : Fin 256) (h1 : (rd σ main_v17 : IVec S256x1 32) (ix2 r 0) = BitVec.ofNat 32 (r / 64)) :
    (rd (StableHlo.after hostOps0_2 σ) main_v19 : IVec S256x1 32) (ix2 r 0) = IntOp.addi (BitVec.ofNat 32 (r / 64)) 8#32 := by
  after_reads_simp
  simp only [rd] at h1
  pointwise
  rw [h1]

theorem c2_c_1 (σ : Vals) : (rd (StableHlo.after hostOps0_2 σ) main_c_1 : IVec S_ 32) = constantI S_ 32 64#32 := by
  after_reads_simp

theorem c3_v20 (σ : Vals) (k : Fin 768) (h1 : (rd σ main_v3 : IVec S1x768 32) (ix2 0 k) = BitVec.ofNat 32 k)
    (hc : (rd σ main_c_1 : IVec S_ 32) = constantI S_ 32 64#32) :
    (rd (StableHlo.after hostOps0_3 σ) main_v20 : IVec S1x768 32) (ix2 0 k) = BitVec.ofNat 32 (k / 64) := by
  after_reads_simp
  simp only [StableHlo.TRef.ofBuf, StableHlo.TRef.toBuf, cast_eq, rd] at hc h1 ⊢
  rw [hc]
  pointwise [signi]
  rw [h1]
  exact div64 k

/-! ## The masks -/

theorem near_bit : ∀ (q : Fin 12) (p : Fin 4), IntOp.andi (IntOp.cmpi .sle (BitVec.ofNat 32 q) (IntOp.addi (BitVec.ofNat 32 p) 8#32))
    (IntOp.cmpi .sge (BitVec.ofNat 32 q) (IntOp.subi (IntOp.addi (BitVec.ofNat 32 p) 8#32) 8#32))
      = if (q : ℕ) ≤ p + 8 ∧ (p : ℕ) ≤ q then 1#1 else 0#1 := by decide +kernel

theorem from_bit : ∀ (b : Fin 3) (k : Fin 768), IntOp.cmpi .sge (BitVec.ofNat 32 k) (BitVec.ofNat 32 (512 - 256 * b))
    = if 512 - 256 * (b : ℕ) ≤ k then 1#1 else 0#1 := by decide +kernel

/-- A key within the nine chunks that a query sees. -/
def near (r : Fin 256) (k : Fin 768) : Prop := (k : ℕ) / 64 ≤ r / 64 + 8 ∧ (r : ℕ) / 64 ≤ k / 64

instance (r : Fin 256) (k : Fin 768) : Decidable (near r k) := inferInstanceAs (Decidable (_ ∧ _))

theorem and_bit (p q : Prop) [Decidable p] [Decidable q] :
    IntOp.andi (if p then 1#1 else 0#1) (if q then 1#1 else 0#1) = if p ∧ q then 1#1 else 0#1 := by
  by_cases hp : p <;> by_cases hq : q <;> simp only [hp, hq, if_true, if_false, true_and, false_and, and_self] <;> rfl

theorem sel_bit {α : Type} (p : Prop) [Decidable p] (x y : α) : Scalar.select (if p then 1#1 else 0#1) x y = if p then x else y := by
  by_cases hp : p <;> simp only [hp, if_true, if_false] <;> rfl

theorem near_of (r : Fin 256) (k : Fin 768) {a b : BitVec 32} (ha : a = BitVec.ofNat 32 (k / 64))
    (hb : b = IntOp.addi (BitVec.ofNat 32 (r / 64)) 8#32) :
    IntOp.andi (IntOp.cmpi .sle a b) (IntOp.cmpi .sge a (IntOp.subi b 8#32)) = if near r k then 1#1 else 0#1 := by
  subst ha hb
  exact near_bit ⟨k / 64, by omega⟩ ⟨r / 64, by omega⟩

theorem c4_v29 (σ : Vals) (r : Fin 256) (k : Fin 768) (h1 : (rd σ main_v20 : IVec S1x768 32) (ix2 0 k) = BitVec.ofNat 32 (k / 64))
    (h2 : (rd σ main_v19 : IVec S256x1 32) (ix2 r 0) = IntOp.addi (BitVec.ofNat 32 (r / 64)) 8#32) :
    (rd (StableHlo.after hostOps0_4 σ) main_v29 : IVec S256x768 1) (ix2 r k) = if near r k then 1#1 else 0#1 := by
  after_reads_simp
  simp only [rd] at h1 h2
  pointwise
  exact near_of r k h1 h2

theorem c4_v34 (σ : Vals) (r : Fin 256) (k : Fin 768) (h1 : (rd σ main_v20 : IVec S1x768 32) (ix2 0 k) = BitVec.ofNat 32 (k / 64))
    (h2 : (rd σ main_v19 : IVec S256x1 32) (ix2 r 0) = IntOp.addi (BitVec.ofNat 32 (r / 64)) 8#32)
    (h3 : (rd σ main_v3 : IVec S1x768 32) (ix2 0 k) = BitVec.ofNat 32 k) :
    (rd (StableHlo.after hostOps0_4 σ) main_v34 : IVec S1x256x768 1) (ix3 0 r k) = if near r k ∧ 512 ≤ (k : ℕ) then 1#1 else 0#1 := by
  after_reads_simp
  simp only [rd] at h1 h2 h3
  pointwise
  rw [near_of r k h1 h2, h3]
  exact (congrArg _ (from_bit 0 k)).trans (and_bit _ _)

theorem c6_v40 (σ : Vals) (r : Fin 256) (k : Fin 768) (h1 : (rd σ main_v29 : IVec S256x768 1) (ix2 r k) = if near r k then 1#1 else 0#1)
    (h3 : (rd σ main_v3 : IVec S1x768 32) (ix2 0 k) = BitVec.ofNat 32 k) :
    (rd (StableHlo.after hostOps0_6 σ) main_v40 : IVec S1x256x768 1) (ix3 0 r k) = if near r k ∧ 256 ≤ (k : ℕ) then 1#1 else 0#1 := by
  after_reads_simp
  simp only [rd] at h1 h3
  pointwise
  rw [h1, h3]
  exact (congrArg _ (from_bit 1 k)).trans (and_bit _ _)

theorem c8_v46 (σ : Vals) (r : Fin 256) (k : Fin 768) (h1 : (rd σ main_v29 : IVec S256x768 1) (ix2 r k) = if near r k then 1#1 else 0#1)
    (h3 : (rd σ main_v3 : IVec S1x768 32) (ix2 0 k) = BitVec.ofNat 32 k) :
    (rd (StableHlo.after hostOps0_8 σ) main_v46 : IVec S1x256x768 1) (ix3 0 r k) = if near r k ∧ 0 ≤ (k : ℕ) then 1#1 else 0#1 := by
  after_reads_simp
  simp only [rd] at h1 h3
  pointwise
  rw [h1, h3]
  exact (congrArg _ (from_bit 2 k)).trans ((and_bit _ _).trans (if_congr (and_iff_left (Nat.zero_le _)) rfl rfl))

theorem c4_cst (σ : Vals) : (rd (StableHlo.after hostOps0_4 σ) main_cst : FVec Ideal S_ .f32) = constant (F := Ideal) S_ .f32 0xFF800000#32 := by
  after_reads_simp

theorem c6_cst (σ : Vals) : (rd (StableHlo.after hostOps0_6 σ) main_cst_5 : FVec Ideal S_ .f32) = constant (F := Ideal) S_ .f32 0xFF800000#32 := by
  after_reads_simp

theorem c8_cst (σ : Vals) : (rd (StableHlo.after hostOps0_8 σ) main_cst_7 : FVec Ideal S_ .f32) = constant (F := Ideal) S_ .f32 0xFF800000#32 := by
  after_reads_simp

section
variable (σ : Vals) (h : Fin 8) (r : Fin 256) (k : Fin 768) (p : Prop) [Decidable p]

theorem c5_v35 (h1 : (rd σ main_v34 : IVec S1x256x768 1) (ix3 0 r k) = if p then 1#1 else 0#1)
    (hc : (rd σ main_cst : FVec Ideal S_ .f32) = constant (F := Ideal) S_ .f32 0xFF800000#32) :
    (rd (StableHlo.after hostOps0_5 σ) main_v35 : FVec Ideal S8x256x768 .f32) (ix3 h r k)
      = if p then (rd σ main_v16 : FVec Ideal S8x256x768 .f32) (ix3 h r k) else Ideal.ofBits .f32 0xFF800000#32 := by
  after_reads_simp
  simp only [StableHlo.TRef.ofBuf, StableHlo.TRef.toBuf, cast_eq, rd] at hc h1 ⊢
  rw [hc]
  pointwise
  rw [h1]
  exact sel_bit p _ _

theorem c7_v41 (h1 : (rd σ main_v40 : IVec S1x256x768 1) (ix3 0 r k) = if p then 1#1 else 0#1)
    (hc : (rd σ main_cst_5 : FVec Ideal S_ .f32) = constant (F := Ideal) S_ .f32 0xFF800000#32) :
    (rd (StableHlo.after hostOps0_7 σ) main_v41 : FVec Ideal S8x256x768 .f32) (ix3 h r k)
      = if p then (rd σ main_v16 : FVec Ideal S8x256x768 .f32) (ix3 h r k) else Ideal.ofBits .f32 0xFF800000#32 := by
  after_reads_simp
  simp only [StableHlo.TRef.ofBuf, StableHlo.TRef.toBuf, cast_eq, rd] at hc h1 ⊢
  rw [hc]
  pointwise
  rw [h1]
  exact sel_bit p _ _

theorem c9_v47 (h1 : (rd σ main_v46 : IVec S1x256x768 1) (ix3 0 r k) = if p then 1#1 else 0#1)
    (hc : (rd σ main_cst_7 : FVec Ideal S_ .f32) = constant (F := Ideal) S_ .f32 0xFF800000#32) :
    (rd (StableHlo.after hostOps0_9 σ) main_v47 : FVec Ideal S8x256x768 .f32) (ix3 h r k)
      = if p then (rd σ main_v16 : FVec Ideal S8x256x768 .f32) (ix3 h r k) else Ideal.ofBits .f32 0xFF800000#32 := by
  after_reads_simp
  simp only [StableHlo.TRef.ofBuf, StableHlo.TRef.toBuf, cast_eq, rd] at hc h1 ⊢
  rw [hc]
  pointwise
  rw [h1]
  exact sel_bit p _ _
end

theorem c10_v51 (σ : Vals) :
    (rd (StableHlo.after hostOps0_10 σ) main_v51 : FVec Ideal S3x8x256x768 .f32)
      = concatenate S3x8x256x768 0
        [⟨S1x8x256x768, broadcastInDim S1x8x256x768 ![1, 2, 3] bcast_S8x256x768_S1x8x256x768_1_2_3 (rd σ main_v35 : FVec Ideal S8x256x768 .f32)⟩,
         ⟨S1x8x256x768, broadcastInDim S1x8x256x768 ![1, 2, 3] bcast_S8x256x768_S1x8x256x768_1_2_3 (rd σ main_v41 : FVec Ideal S8x256x768 .f32)⟩,
         ⟨S1x8x256x768, broadcastInDim S1x8x256x768 ![1, 2, 3] bcast_S8x256x768_S1x8x256x768_1_2_3 (rd σ main_v47 : FVec Ideal S8x256x768 .f32)⟩]
        concatenates_S1x8x256x768_S1x8x256x768_S1x8x256x768_S3x8x256x768_d0 := by
  after_reads_simp
  rfl

/-- The table has one slab per number of whole history blocks a query block has: 0, 1, and 2 or more. -/
theorem stack_at (x y z : FVec Ideal S8x256x768 .f32) (b : Fin 3) (h : Fin 8) (r : Fin 256) (k : Fin 768) :
    concatenate S3x8x256x768 0
        [⟨S1x8x256x768, broadcastInDim S1x8x256x768 ![1, 2, 3] bcast_S8x256x768_S1x8x256x768_1_2_3 x⟩,
         ⟨S1x8x256x768, broadcastInDim S1x8x256x768 ![1, 2, 3] bcast_S8x256x768_S1x8x256x768_1_2_3 y⟩,
         ⟨S1x8x256x768, broadcastInDim S1x8x256x768 ![1, 2, 3] bcast_S8x256x768_S1x8x256x768_1_2_3 z⟩]
        concatenates_S1x8x256x768_S1x8x256x768_S1x8x256x768_S3x8x256x768_d0 (ix4 b h r k)
      = if (b : ℕ) = 0 then x (ix3 h r k) else if (b : ℕ) = 1 then y (ix3 h r k) else z (ix3 h r k) := by
  pointwise
  split_ifs <;> first | rfl | omega

/-! ## The whole line of host operations -/

variable (m : (ℓ : Loc nD τ sig) → Buf (Elt Ideal) ℓ)

/-- The contents of the buffers after each of the eleven stretches. -/
def s0 (c : Dev nD) : Vals := StableHlo.after hostOps0 (fun b => m (c, b))
def s1 (c : Dev nD) : Vals := StableHlo.after hostOps0_1 (s0 m c)
def s2 (c : Dev nD) : Vals := StableHlo.after hostOps0_2 (s1 m c)
def s3 (c : Dev nD) : Vals := StableHlo.after hostOps0_3 (s2 m c)
def s4 (c : Dev nD) : Vals := StableHlo.after hostOps0_4 (s3 m c)
def s5 (c : Dev nD) : Vals := StableHlo.after hostOps0_5 (s4 m c)
def s6 (c : Dev nD) : Vals := StableHlo.after hostOps0_6 (s5 m c)
def s7 (c : Dev nD) : Vals := StableHlo.after hostOps0_7 (s6 m c)
def s8 (c : Dev nD) : Vals := StableHlo.after hostOps0_8 (s7 m c)
def s9 (c : Dev nD) : Vals := StableHlo.after hostOps0_9 (s8 m c)

theorem V_eq (c : Dev nD) (b : Ref sig .tc) : V m c b = rd (StableHlo.after hostOps0_10 (s9 m c)) b := by
  unfold V
  simp only [List.flatten_cons, List.flatten_nil, List.append_nil, StableHlo.after_append]
  rfl

theorem keep1_v3 (c : Dev nD) : rd (s1 m c) main_v3 = rd (s0 m c) main_v3 := by
  unfold s1; after_reads_simp

theorem keep1_v16 (c : Dev nD) : rd (s1 m c) main_v16 = rd (s0 m c) main_v16 := by
  unfold s1; after_reads_simp

theorem keep2_v3 (c : Dev nD) : rd (s2 m c) main_v3 = rd (s1 m c) main_v3 := by
  unfold s2; after_reads_simp

theorem keep2_v16 (c : Dev nD) : rd (s2 m c) main_v16 = rd (s1 m c) main_v16 := by
  unfold s2; after_reads_simp

theorem keep3_v3 (c : Dev nD) : rd (s3 m c) main_v3 = rd (s2 m c) main_v3 := by
  unfold s3; after_reads_simp

theorem keep3_v16 (c : Dev nD) : rd (s3 m c) main_v16 = rd (s2 m c) main_v16 := by
  unfold s3; after_reads_simp

theorem keep3_v19 (c : Dev nD) : rd (s3 m c) main_v19 = rd (s2 m c) main_v19 := by
  unfold s3; after_reads_simp

theorem keep4_v3 (c : Dev nD) : rd (s4 m c) main_v3 = rd (s3 m c) main_v3 := by
  unfold s4; after_reads_simp

theorem keep4_v16 (c : Dev nD) : rd (s4 m c) main_v16 = rd (s3 m c) main_v16 := by
  unfold s4; after_reads_simp

theorem keep5_v3 (c : Dev nD) : rd (s5 m c) main_v3 = rd (s4 m c) main_v3 := by
  unfold s5; after_reads_simp

theorem keep5_v16 (c : Dev nD) : rd (s5 m c) main_v16 = rd (s4 m c) main_v16 := by
  unfold s5; after_reads_simp

theorem keep5_v29 (c : Dev nD) : rd (s5 m c) main_v29 = rd (s4 m c) main_v29 := by
  unfold s5; after_reads_simp

theorem keep6_v3 (c : Dev nD) : rd (s6 m c) main_v3 = rd (s5 m c) main_v3 := by
  unfold s6; after_reads_simp

theorem keep6_v16 (c : Dev nD) : rd (s6 m c) main_v16 = rd (s5 m c) main_v16 := by
  unfold s6; after_reads_simp

theorem keep6_v29 (c : Dev nD) : rd (s6 m c) main_v29 = rd (s5 m c) main_v29 := by
  unfold s6; after_reads_simp

theorem keep6_v35 (c : Dev nD) : rd (s6 m c) main_v35 = rd (s5 m c) main_v35 := by
  unfold s6; after_reads_simp

theorem keep7_v3 (c : Dev nD) : rd (s7 m c) main_v3 = rd (s6 m c) main_v3 := by
  unfold s7; after_reads_simp

theorem keep7_v16 (c : Dev nD) : rd (s7 m c) main_v16 = rd (s6 m c) main_v16 := by
  unfold s7; after_reads_simp

theorem keep7_v29 (c : Dev nD) : rd (s7 m c) main_v29 = rd (s6 m c) main_v29 := by
  unfold s7; after_reads_simp

theorem keep7_v35 (c : Dev nD) : rd (s7 m c) main_v35 = rd (s6 m c) main_v35 := by
  unfold s7; after_reads_simp

theorem keep8_v16 (c : Dev nD) : rd (s8 m c) main_v16 = rd (s7 m c) main_v16 := by
  unfold s8; after_reads_simp

theorem keep8_v35 (c : Dev nD) : rd (s8 m c) main_v35 = rd (s7 m c) main_v35 := by
  unfold s8; after_reads_simp

theorem keep8_v41 (c : Dev nD) : rd (s8 m c) main_v41 = rd (s7 m c) main_v41 := by
  unfold s8; after_reads_simp

theorem keep9_v35 (c : Dev nD) : rd (s9 m c) main_v35 = rd (s8 m c) main_v35 := by
  unfold s9; after_reads_simp

theorem keep9_v41 (c : Dev nD) : rd (s9 m c) main_v41 = rd (s8 m c) main_v41 := by
  unfold s9; after_reads_simp

/-- The entry of the table: the bias of the offset where the query sees the key, else minus infinity. -/
theorem table_at (c : Dev nD) (b : Fin 3) (h : Fin 8) (r : Fin 256) (k : Fin 768) :
    (V m c main_v51 : FVec Ideal S3x8x256x768 .f32) (ix4 b h r k)
      = if near r k ∧ 512 - 256 * (b : ℕ) ≤ k
        then (m ((c : Thread nD τ).loc main_arg1) : FVec Ideal S8x513 .f32) (ix2 h ⟨min (768 + r - k) 512, by omega⟩)
        else Ideal.ofBits .f32 0xFF800000#32 := by
  have h3 : ∀ k, (rd (s0 m c) main_v3 : IVec S1x768 32) (ix2 0 k) = BitVec.ofNat 32 k := c0_v3 _
  have h17 : (rd (s1 m c) main_v17 : IVec S256x1 32) (ix2 r 0) = BitVec.ofNat 32 (r / 64) := c1_v17 _ r (c0_v1 _ r) (c0_c _)
  have h19 := c2_v19 _ r h17
  have h20 : (rd (s3 m c) main_v20 : IVec S1x768 32) (ix2 0 k) = BitVec.ofNat 32 (k / 64) :=
    c3_v20 _ k (by rw [keep2_v3, keep1_v3]; exact h3 k) (c2_c_1 _)
  have h19' : (rd (s3 m c) main_v19 : IVec S256x1 32) (ix2 r 0) = IntOp.addi (BitVec.ofNat 32 (r / 64)) 8#32 := by
    rw [keep3_v19]; exact h19
  have h3' : (rd (s3 m c) main_v3 : IVec S1x768 32) (ix2 0 k) = BitVec.ofNat 32 k := by
    rw [keep3_v3, keep2_v3, keep1_v3]; exact h3 k
  have h34 := c4_v34 _ r k h20 h19' h3'
  have h29 : (rd (s4 m c) main_v29 : IVec S256x768 1) (ix2 r k) = if near r k then 1#1 else 0#1 := c4_v29 _ r k h20 h19'
  have h40 := c6_v40 (s5 m c) r k (by rw [keep5_v29]; exact h29) (by rw [keep5_v3, keep4_v3]; exact h3')
  have h46 := c8_v46 (s7 m c) r k (by rw [keep7_v29, keep6_v29, keep5_v29]; exact h29)
    (by rw [keep7_v3, keep6_v3, keep5_v3, keep4_v3]; exact h3')
  have h16 : (rd (s0 m c) main_v16 : FVec Ideal S8x256x768 .f32) (ix3 h r k)
      = (m ((c : Thread nD τ).loc main_arg1) : FVec Ideal S8x513 .f32) (ix2 h ⟨min (768 + r - k) 512, by omega⟩) := by
    refine (congrFun (c0_v16 _) _).trans ?_
    rw [band_at, fan_at]
    exact congrArg _ (congrArg (ix2 h) (Fin.ext (by show min (1024 - (256 + (k : ℕ) - r)) 512 = min (768 + (r : ℕ) - k) 512; omega)))
  have h16' : (rd (s4 m c) main_v16 : FVec Ideal S8x256x768 .f32) = rd (s0 m c) main_v16 := by
    rw [keep4_v16, keep3_v16, keep2_v16, keep1_v16]
  have h35 := c5_v35 _ h r k _ h34 (c4_cst _)
  have h41 := c7_v41 _ h r k _ h40 (c6_cst _)
  have h47 := c9_v47 _ h r k _ h46 (c8_cst _)
  rw [V_eq]
  refine (congrFun (c10_v51 _) _).trans ((stack_at _ _ _ b h r k).trans ?_)
  rw [keep9_v35, keep8_v35, keep7_v35, keep6_v35, keep9_v41, keep8_v41]
  have e35 : (rd (s5 m c) main_v35 : FVec Ideal S8x256x768 .f32) (ix3 h r k) = _ := h35
  have e41 : (rd (s7 m c) main_v41 : FVec Ideal S8x256x768 .f32) (ix3 h r k) = _ := h41
  have e47 : (rd (s9 m c) main_v47 : FVec Ideal S8x256x768 .f32) (ix3 h r k) = _ := h47
  rw [e35, e41, e47]
  have g4 : (rd (s4 m c) main_v16 : FVec Ideal S8x256x768 .f32) (ix3 h r k) = _ := (congrFun h16' _).trans h16
  have g6 : (rd (s6 m c) main_v16 : FVec Ideal S8x256x768 .f32) (ix3 h r k)
      = (m ((c : Thread nD τ).loc main_arg1) : FVec Ideal S8x513 .f32) (ix2 h ⟨min (768 + r - k) 512, by omega⟩) := by
    rw [keep6_v16, keep5_v16]; exact g4
  have g8 : (rd (s8 m c) main_v16 : FVec Ideal S8x256x768 .f32) (ix3 h r k)
      = (m ((c : Thread nD τ).loc main_arg1) : FVec Ideal S8x513 .f32) (ix2 h ⟨min (768 + r - k) 512, by omega⟩) := by
    rw [keep8_v16, keep7_v16]; exact g6
  have g4' : (rd (StableHlo.after hostOps0_4 (s3 m c)) main_v16 : FVec Ideal S8x256x768 .f32) (ix3 h r k) = _ := g4
  have g6' : (rd (StableHlo.after hostOps0_6 (s5 m c)) main_v16 : FVec Ideal S8x256x768 .f32) (ix3 h r k) = _ := g6
  have g8' : (rd (StableHlo.after hostOps0_8 (s7 m c)) main_v16 : FVec Ideal S8x256x768 .f32) (ix3 h r k) = _ := g8
  rw [g4', g6', g8']
  rcases (by omega : (b : ℕ) = 0 ∨ (b : ℕ) = 1 ∨ (b : ℕ) = 2) with hb | hb | hb <;> rw [hb]
  · exact if_pos rfl
  · exact (if_neg (by decide)).trans (if_pos rfl)
  · exact (if_neg (by decide)).trans (if_neg (by decide))

end Cert.Attn

end
-- ==== Proof.Attn.Arr.lean ====
/- The attention kernel's result array as a function of its two arguments. -/
module

public import proofs.«01_k».proof.Proof.Attn.Out
public import proofs.«01_k».proof.Proof.Attn.Bias

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pipeline (Dat)

/-- The row of the projections that holds key `w` of the window of query row `R`: two blocks of 256 rows back, in the same sequence. -/
def krow (R : Fin 8192) (w : Fin 768) : Fin 8192 := ⟨256 * (8 * (R / 2048) + (R % 2048 / 256 + w / 256 - 2)) + w % 256, by omega⟩

/-- The base-two score of query row `R` and key `w` of its window, in head `h`. -/
def score (P : FVec Ideal S8192x11264 .bf16) (T : FVec Ideal S8x513 .f32) (R : Fin 8192) (h : Fin 8) (w : Fin 768) : EReal :=
  (∑ e : Fin 128, P (ix2 R ⟨128 * h + e, by omega⟩) * P (ix2 (krow R w) ⟨1024 + (128 * h + e), by omega⟩))
      * Named.named (F := Ideal) κ "scale2" (φ := .f32) 0x3E0293EE#32
    + (if near ⟨R % 256, by omega⟩ w ∧ 512 - 256 * min ((R : ℕ) % 2048 / 256) 2 ≤ (w : ℕ)
        then T (ix2 h ⟨min (768 + (R : ℕ) % 256 - w) 512, by omega⟩) else Ideal.ofBits .f32 0xFF800000#32)
      * Named.named (F := Ideal) κ "log2e" (φ := .f32) 0x3FB8AA3B#32

/-- Entry `k` of the 640 keys that query row `R` is set against. -/
abbrev wof (R : Fin 8192) (k : Fin 640) : Fin 768 := ⟨R % 256 / 128 * 128 + k, by omega⟩

/-- The result array. -/
def attn (P : FVec Ideal S8192x11264 .bf16) (T : FVec Ideal S8x513 .f32) (R : Fin 8192) (C : Fin 1024) : EReal :=
  row2 (fun k => score P T R ⟨C / 128, by omega⟩ (wof R k)) (fun k => P (ix2 (krow R (wof R k)) ⟨2048 + C, by omega⟩))

variable (m : (ℓ : Loc nD τ sig) → Buf (Elt Ideal) ℓ)

theorem idx : ∀ t : Fin cfg0.N, win0_0.index t = ![t.val % 4 * 8 + t.val / 4, 0]
    ∧ win0_1.index t = ![t.val % 4 * 8 + (t.val / 4 - 2), 1] ∧ win0_2.index t = ![t.val % 4 * 8 + (t.val / 4 - 1), 1]
    ∧ win0_3.index t = ![t.val % 4 * 8 + t.val / 4, 1]
    ∧ win0_4.index t = ![t.val % 4 * 8 + (t.val / 4 - 2), 2] ∧ win0_5.index t = ![t.val % 4 * 8 + (t.val / 4 - 1), 2]
    ∧ win0_6.index t = ![t.val % 4 * 8 + t.val / 4, 2]
    ∧ win0_7.index t = ![min (t.val / 4) 2, 0, 0, 0] ∧ win0_8.index t = ![t.val % 4 * 8 + t.val / 4, 0] :=
  (by decide +kernel : ∀ t : Fin grid0.N, _)

section
variable (c : Dev nD) (t : Fin cfg0.N) (ρ : Fin 256) (d : Fin 1024)

theorem blk0 : (iblk m c 0 t : FVec Ideal S256x1024 .bf16) (ix2 ρ d)
    = (m ((c : Thread nD τ).loc main_arg0) : FVec Ideal S8192x11264 .bf16)
        (ix2 ⟨(t.val % 4 * 8 + t.val / 4) * 256 + ρ, by have : t.val < 32 := t.isLt; omega⟩ ⟨d, by omega⟩) := by
  rw [← V_main_arg0 m c]
  blk_ext [iblk, idx t]

theorem blk1 : (iblk m c 1 t : FVec Ideal S256x1024 .bf16) (ix2 ρ d)
    = (m ((c : Thread nD τ).loc main_arg0) : FVec Ideal S8192x11264 .bf16)
        (ix2 ⟨(t.val % 4 * 8 + (t.val / 4 - 2)) * 256 + ρ, by have : t.val < 32 := t.isLt; omega⟩ ⟨1024 + d, by omega⟩) := by
  rw [← V_main_arg0 m c]
  blk_ext [iblk, idx t]

theorem blk2 : (iblk m c 2 t : FVec Ideal S256x1024 .bf16) (ix2 ρ d)
    = (m ((c : Thread nD τ).loc main_arg0) : FVec Ideal S8192x11264 .bf16)
        (ix2 ⟨(t.val % 4 * 8 + (t.val / 4 - 1)) * 256 + ρ, by have : t.val < 32 := t.isLt; omega⟩ ⟨1024 + d, by omega⟩) := by
  rw [← V_main_arg0 m c]
  blk_ext [iblk, idx t]

theorem blk3 : (iblk m c 3 t : FVec Ideal S256x1024 .bf16) (ix2 ρ d)
    = (m ((c : Thread nD τ).loc main_arg0) : FVec Ideal S8192x11264 .bf16)
        (ix2 ⟨(t.val % 4 * 8 + t.val / 4) * 256 + ρ, by have : t.val < 32 := t.isLt; omega⟩ ⟨1024 + d, by omega⟩) := by
  rw [← V_main_arg0 m c]
  blk_ext [iblk, idx t]

theorem blk4 : (iblk m c 4 t : FVec Ideal S256x1024 .bf16) (ix2 ρ d)
    = (m ((c : Thread nD τ).loc main_arg0) : FVec Ideal S8192x11264 .bf16)
        (ix2 ⟨(t.val % 4 * 8 + (t.val / 4 - 2)) * 256 + ρ, by have : t.val < 32 := t.isLt; omega⟩ ⟨2048 + d, by omega⟩) := by
  rw [← V_main_arg0 m c]
  blk_ext [iblk, idx t]

theorem blk5 : (iblk m c 5 t : FVec Ideal S256x1024 .bf16) (ix2 ρ d)
    = (m ((c : Thread nD τ).loc main_arg0) : FVec Ideal S8192x11264 .bf16)
        (ix2 ⟨(t.val % 4 * 8 + (t.val / 4 - 1)) * 256 + ρ, by have : t.val < 32 := t.isLt; omega⟩ ⟨2048 + d, by omega⟩) := by
  rw [← V_main_arg0 m c]
  blk_ext [iblk, idx t]

theorem blk6 : (iblk m c 6 t : FVec Ideal S256x1024 .bf16) (ix2 ρ d)
    = (m ((c : Thread nD τ).loc main_arg0) : FVec Ideal S8192x11264 .bf16)
        (ix2 ⟨(t.val % 4 * 8 + t.val / 4) * 256 + ρ, by have : t.val < 32 := t.isLt; omega⟩ ⟨2048 + d, by omega⟩) := by
  rw [← V_main_arg0 m c]
  blk_ext [iblk, idx t]

theorem blk7 (h : Fin 8) (w : Fin 768) : (iblk m c 7 t : FVec Ideal S1x8x256x768 .f32) (ix4 0 h ρ w)
    = (V m c main_v51 : FVec Ideal S3x8x256x768 .f32) (ix4 ⟨min (t.val / 4) 2, by omega⟩ h ρ w) := by
  blk_ext [iblk, idx t]
end

/-- The array row of row `ρ` of point `t`'s block. -/
abbrev rowOf (t : Fin cfg0.N) (ρ : Fin 256) : Fin 8192 :=
  ⟨(t.val % 4 * 8 + t.val / 4) * 256 + ρ, by have : t.val < 32 := t.isLt; omega⟩

theorem rowOf_facts (t : Fin cfg0.N) (ρ : Fin 256) : (rowOf t ρ : ℕ) / 2048 = t.val % 4 ∧ (rowOf t ρ : ℕ) % 2048 / 256 = t.val / 4
    ∧ (rowOf t ρ : ℕ) % 256 = ρ := by
  have : t.val < 32 := t.isLt
  have e : (rowOf t ρ : ℕ) = (t.val % 4 * 8 + t.val / 4) * 256 + ρ := rfl
  omega

theorem krow_val (t : Fin cfg0.N) (ρ : Fin 256) (w : Fin 768) :
    (krow (rowOf t ρ) w : ℕ) = 256 * (8 * (t.val % 4) + (t.val / 4 + w / 256 - 2)) + w % 256 := by
  obtain ⟨h1, h2, _⟩ := rowOf_facts t ρ
  show 256 * (8 * ((rowOf t ρ : ℕ) / 2048) + ((rowOf t ρ : ℕ) % 2048 / 256 + w / 256 - 2)) + w % 256 = _
  rw [h1, h2]

theorem keys (c : Dev nD) (t : Fin cfg0.N) (ρ : Fin 256) (w : Fin 768) (d : Fin 1024) :
    win (iblk m c 1 t) (iblk m c 2 t) (iblk m c 3 t) w d
      = (m ((c : Thread nD τ).loc main_arg0) : FVec Ideal S8192x11264 .bf16) (ix2 (krow (rowOf t ρ) w) ⟨1024 + d, by omega⟩) := by
  have hk := krow_val t ρ w
  by_cases h1 : (w : ℕ) < 256
  · rw [win_fst _ _ _ d h1, blk1]
    exact congrArg _ (congrArg (ix2 · _) (Fin.ext (by rw [hk]; simp only; omega)))
  · by_cases h2 : (w : ℕ) < 512
    · rw [win_snd _ _ _ d h1 h2, blk2]
      exact congrArg _ (congrArg (ix2 · _) (Fin.ext (by rw [hk]; simp only; omega)))
    · rw [win_trd _ _ _ d h2, blk3]
      exact congrArg _ (congrArg (ix2 · _) (Fin.ext (by rw [hk]; simp only; omega)))

theorem vals (c : Dev nD) (t : Fin cfg0.N) (ρ : Fin 256) (w : Fin 768) (d : Fin 1024) :
    win (iblk m c 4 t) (iblk m c 5 t) (iblk m c 6 t) w d
      = (m ((c : Thread nD τ).loc main_arg0) : FVec Ideal S8192x11264 .bf16) (ix2 (krow (rowOf t ρ) w) ⟨2048 + d, by omega⟩) := by
  have hk := krow_val t ρ w
  by_cases h1 : (w : ℕ) < 256
  · rw [win_fst _ _ _ d h1, blk4]
    exact congrArg _ (congrArg (ix2 · _) (Fin.ext (by rw [hk]; simp only; omega)))
  · by_cases h2 : (w : ℕ) < 512
    · rw [win_snd _ _ _ d h1 h2, blk5]
      exact congrArg _ (congrArg (ix2 · _) (Fin.ext (by rw [hk]; simp only; omega)))
    · rw [win_trd _ _ _ d h2, blk6]
      exact congrArg _ (congrArg (ix2 · _) (Fin.ext (by rw [hk]; simp only; omega)))

theorem scores (c : Dev nD) (t : Fin cfg0.N) (ρ : Fin 256) (h : Fin 8) (w : Fin 768) :
    sc (iblk m c 0 t) (iblk m c 1 t) (iblk m c 2 t) (iblk m c 3 t) (iblk m c 7 t) h ρ w
      = score (m ((c : Thread nD τ).loc main_arg0)) (m ((c : Thread nD τ).loc main_arg1)) (rowOf t ρ) h w := by
  obtain ⟨h1, h2, h3⟩ := rowOf_facts t ρ
  unfold sc score
  refine congrArg₂ (· * _ + · * _) (Finset.sum_congr rfl fun e _ => congrArg₂ (· * ·) (blk0 m c t ρ (col h e)) (keys m c t ρ w (col h e))) ?_
  rw [blk7, table_at]
  have e1 : (⟨(rowOf t ρ : ℕ) % 256, by omega⟩ : Fin 256) = ρ := Fin.ext h3
  simp only [e1, h2]
  refine if_congr Iff.rfl (congrArg _ (congrArg (ix2 h) (Fin.ext ?_))) rfl
  simp only
  omega

theorem final (c : Dev nD) : (dats m 0 c).arrAt 8 (cfgs 0).N
    = (fun i => attn (m ((c : Thread nD τ).loc main_arg0)) (m ((c : Thread nD τ).loc main_arg1)) (i 0) (i 1) : FVec Ideal S8192x1024 .bf16) := by
  refine (dats m 0 c).arrAt_eq_of_covers 8 _ (by decide +kernel) fun t _ y => ?_
  blk_simp
  rw [after0_8]
  obtain ⟨ρ, d, rfl⟩ : ∃ (ρ : Fin 256) (d : Fin 1024), y = ix2 ρ d := ⟨y 0, y 1, by idx_vars y⟩
  have hr : (win0_8.blk t).view.emb (ix2 ρ d) 0 = rowOf t ρ := Fin.ext (by blk_simp [idx t])
  have hd : (win0_8.blk t).view.emb (ix2 ρ d) 1 = d := Fin.ext (by blk_simp [idx t])
  rw [hr, hd]
  refine (out_at _ _ _ _ _ _ _ _ ρ d).trans ?_
  unfold attn
  have e : ∀ k : Fin 640, (⟨(ρ : ℕ) / 128 * 128 + k, by omega⟩ : Fin 768) = wof (rowOf t ρ) k := fun k => Fin.ext (by
    show _ = (rowOf t ρ : ℕ) % 256 / 128 * 128 + k
    rw [(rowOf_facts t ρ).2.2])
  refine congrArg₂ row2 (funext fun k => ?_) (funext fun k => ?_)
  · rw [scores, e]
  · rw [vals m c t ρ, e]

end Cert.Attn

end
-- ==== Proof.Attn.Soft.lean ====
/- One row of banded attention, over real numbers: a row of base-two weights over a window of 640 keys, of which all but a
   band of 576 are masked, is the softmax of the band. -/
module

public import proofs.«01_k».proof.Proof.Attn.Pieces

@[expose] public section

set_option maxRecDepth 16384

noncomputable section

open Idealize.ShloMosaic Idealize.SL.Sem

namespace Cert.Attn

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem ofBits_neg_inf : Ideal.ofBits .f32 0xFF800000#32 = ⊥ := by
  simp [Ideal.ofBits, Ideal.ieee]

/-- A maximum from `⊥` is the value that bounds every entry and is one of them. -/
theorem fold_max_eq {ι : Type} [Fintype ι] (s : ι → EReal) (X : EReal) (hle : ∀ i, s i ≤ X) (i₀ : ι) (h : s i₀ = X) :
    Finset.univ.fold max ⊥ s = X := by
  refine le_antisymm ?_ ?_
  · exact Finset.fold_max_le _ |>.2 ⟨bot_le, fun i _ => hle i⟩
  · exact Finset.le_fold_max _ |>.2 (Or.inr ⟨i₀, Finset.mem_univ _, h.ge⟩)

/-- The weight of an unmasked key, and of a masked one. -/
theorem exp2_coe (x : ℝ) : FloatOps.exp2 (F := Ideal) (φ := .f32) ((x * (Real.log 2)⁻¹ : ℝ) : EReal) = (Real.exp x : EReal) := by
  have h2 : Real.log 2 ≠ 0 := (Real.log_pos (by norm_num)).ne'
  have : Real.rpow 2 (x * (Real.log 2)⁻¹) = Real.exp x := by
    show (2 : ℝ) ^ (x * (Real.log 2)⁻¹) = _
    rw [Real.rpow_def_of_pos (by norm_num), mul_comm x, ← mul_assoc, mul_inv_cancel₀ h2, one_mul]
  rw [← this]
  rfl

theorem exp2_bot : FloatOps.exp2 (F := Ideal) (φ := .f32) (⊥ : EReal) = 0 := by
  rfl

/-- A row over 640 keys whose entries outside `[u, u + 576)` are masked is the softmax of the band's 576 entries. -/
theorem row2_band (u : ℕ) (hu : u ≤ 64) (ok : Fin 576 → Prop) [DecidablePred ok] (a b : Fin 576 → ℝ)
    (s v : Fin 640 → EReal) (w : Fin 576 → EReal) (κ₀ : Fin 576) (hκ₀ : ok κ₀)
    (hin : ∀ κ : Fin 576, s ⟨u + κ, by omega⟩ = if ok κ then ((a κ * (Real.log 2)⁻¹ : ℝ) : EReal) else ⊥)
    (hout : ∀ k : Fin 640, (k : ℕ) < u ∨ u + 576 ≤ (k : ℕ) → s k = ⊥)
    (hv : ∀ κ : Fin 576, ok κ → v ⟨u + κ, by omega⟩ = (b κ : EReal))
    (hw : ∀ κ : Fin 576, ok κ → w κ = (b κ : EReal)) :
    row2 s v = ∑ κ : Fin 576,
      Ideal.div (Ideal.exp ((if ok κ then (a κ : EReal) else ⊥)
          - Finset.univ.fold max ⊥ (fun κ : Fin 576 => if ok κ then (a κ : EReal) else ⊥)))
        (∑ κ' : Fin 576, Ideal.exp ((if ok κ' then (a κ' : EReal) else ⊥)
          - Finset.univ.fold max ⊥ (fun κ : Fin 576 => if ok κ then (a κ : EReal) else ⊥))) * w κ := by
  classical
  have hL : 0 < (Real.log 2)⁻¹ := inv_pos.2 (Real.log_pos (by norm_num))
  obtain ⟨κ₁, hκ₁, hmax⟩ := Finset.exists_max_image (Finset.univ.filter ok) a ⟨κ₀, by simp [hκ₀]⟩
  simp only [Finset.mem_filter, Finset.mem_univ, true_and] at hκ₁ hmax
  set A := a κ₁ with hA
  have cut : ∀ k : Fin 640, ((k : ℕ) < u ∨ u + 576 ≤ (k : ℕ)) ∨ ∃ κ : Fin 576, k = ⟨u + κ, by omega⟩ := fun k => by
    by_cases h : (k : ℕ) < u ∨ u + 576 ≤ (k : ℕ)
    · exact Or.inl h
    · exact Or.inr ⟨⟨k - u, by omega⟩, Fin.ext (by simp only; omega)⟩
  have mT : Finset.univ.fold max ⊥ (fun κ : Fin 576 => if ok κ then (a κ : EReal) else ⊥) = (A : EReal) := by
    refine fold_max_eq _ _ (fun κ => ?_) κ₁ (if_pos hκ₁)
    by_cases h : ok κ
    · simp only [if_pos h]; exact EReal.coe_le_coe_iff.2 (hmax κ h)
    · simp only [if_neg h]; exact bot_le
  have mS : Finset.univ.fold max (Ideal.ofBits .f32 0xFF800000#32) s = ((A * (Real.log 2)⁻¹ : ℝ) : EReal) := by
    rw [ofBits_neg_inf]
    refine fold_max_eq _ _ (fun k => ?_) ⟨u + κ₁, by omega⟩ ((hin κ₁).trans (if_pos hκ₁))
    rcases cut k with h | ⟨κ, rfl⟩
    · rw [hout k h]; exact bot_le
    · rw [hin κ]
      by_cases h : ok κ
      · rw [if_pos h]; exact EReal.coe_le_coe_iff.2 (mul_le_mul_of_nonneg_right (hmax κ h) hL.le)
      · rw [if_neg h]; exact bot_le
  let E : Fin 576 → ℝ := fun κ => if ok κ then Real.exp (a κ - A) else 0
  have hE : ∀ κ, Ideal.exp ((if ok κ then (a κ : EReal) else ⊥) - (A : EReal)) = (E κ : EReal) := fun κ => by
    by_cases h : ok κ
    · simp only [E, if_pos h, ← EReal.coe_sub]; rfl
    · simp only [E, if_neg h, EReal.bot_sub]; rfl
  have hWin : ∀ κ : Fin 576, wt s ⟨u + κ, by omega⟩ = (E κ : EReal) := fun κ => by
    unfold wt
    rw [mS, hin κ]
    by_cases h : ok κ
    · rw [if_pos h, ← EReal.coe_sub, ← sub_mul, exp2_coe]; simp only [E, if_pos h]
    · rw [if_neg h, EReal.bot_sub, exp2_bot]; simp only [E, if_neg h, EReal.coe_zero]
  have hWout : ∀ k : Fin 640, (k : ℕ) < u ∨ u + 576 ≤ (k : ℕ) → wt s k = 0 := fun k h => by
    unfold wt
    rw [hout k h, mS, EReal.bot_sub, exp2_bot]
  have band : ∀ f : Fin 640 → EReal, (∀ k : Fin 640, (k : ℕ) < u ∨ u + 576 ≤ (k : ℕ) → f k = 0) →
      ∑ k, f k = ∑ κ : Fin 576, f ⟨u + κ, by omega⟩ := fun f hf => by
    let e : Fin 576 ↪ Fin 640 := ⟨fun κ => ⟨u + κ, by omega⟩, fun x y h => Fin.ext (by have := congrArg Fin.val h; simp only at this; omega)⟩
    rw [show (∑ κ : Fin 576, f ⟨u + κ, by omega⟩) = ∑ κ : Fin 576, f (e κ) from rfl, ← Finset.sum_map Finset.univ e f]
    refine (Finset.sum_subset (Finset.subset_univ _) fun k _ hk => ?_).symm
    rcases cut k with h | ⟨κ, rfl⟩
    · exact hf k h
    · exact absurd (Finset.mem_map.2 ⟨κ, Finset.mem_univ _, rfl⟩) hk
  have hD : ∑ k, wt s k = ((∑ κ, E κ : ℝ) : EReal) := by
    rw [band _ hWout, coe_sum]; exact Finset.sum_congr rfl fun κ _ => hWin κ
  have hEw : ∀ κ (x : EReal) (y : ℝ), (ok κ → x = (b κ : EReal)) → (E κ : EReal) * x = ((E κ * b κ : ℝ) : EReal) := fun κ x y h => by
    by_cases hk : ok κ
    · rw [h hk, EReal.coe_mul]
    · simp only [E, if_neg hk, EReal.coe_zero, zero_mul]
  have hN : ∑ k, wt s k * v k = ((∑ κ, E κ * b κ : ℝ) : EReal) := by
    rw [band _ fun k h => by rw [hWout k h, zero_mul], coe_sum]
    exact Finset.sum_congr rfl fun κ _ => by rw [hWin κ]; exact hEw κ _ 0 (hv κ)
  have hpos : (0 : ℝ) < ∑ κ, E κ := by
    refine Finset.sum_pos' (fun κ _ => ?_) ⟨κ₁, Finset.mem_univ _, ?_⟩
    · by_cases h : ok κ
      · simp only [E, if_pos h]; exact (Real.exp_pos _).le
      · simp only [E, if_neg h]; exact le_rfl
    · simp only [E, if_pos hκ₁]; exact Real.exp_pos _
  unfold row2
  rw [hN, hD, mT]
  simp only [hE]
  rw [← coe_sum, Ideal.div_coe hpos.ne', ← EReal.coe_mul, Finset.sum_mul, coe_sum]
  refine Finset.sum_congr rfl fun κ _ => ?_
  rw [Ideal.div_coe hpos.ne']
  by_cases h : ok κ
  · rw [hw κ h, ← EReal.coe_mul, ← EReal.coe_mul]; congr 1; ring
  · simp only [E, if_neg h, EReal.coe_zero, zero_mul]

end Cert.Attn

end
-- ==== Proof.Attn.Ref.lean ====
/- The attention reference's result read at an index. -/
module

public import proofs.«01_k».proof.Proof.Gen.ReferenceIdeal.Read
public import proofs.«01_k».proof.Proof.Attn.Soft
public import Idealize.ShloMosaic.Lib.Pointwise

@[expose] public section

set_option maxRecDepth 16384

noncomputable section

namespace Cert.AttnRef

open Cert.ReferenceIdeal Cert.ReferenceIdeal.Gen Cert.ReferenceIdeal.Read Idealize.ShloMosaic Idealize.ShloMosaic.TcCoe Idealize.SL.Sem

variable (P : FVec Ideal S8192x11264 .bf16) (T : FVec Ideal S8x513 .f32)

theorem q_at (b : Fin 4) (n : Fin 32) (r : Fin 64) (h : Fin 8) (e : Fin 128) :
    val_main_v7 (F := Ideal) P (ix5 b n r h e) = P (ix2 ⟨b * 2048 + (n * 64 + r), by omega⟩ ⟨h * 128 + e, by omega⟩) := by
  pointwise [val_main_v7, val_main_v2, val_main_v1, val_main_v0]

theorem kpad_at (b : Fin 4) (n : Fin 40) (r : Fin 64) (h : Fin 8) (e : Fin 128) (h8 : 8 ≤ (n : ℕ)) :
    val_main_v9 (F := Ideal) P (ix5 b n r h e)
      = P (ix2 ⟨b * 2048 + (n - 8) * 64 + r, by omega⟩ ⟨1024 + (h * 128 + e), by omega⟩) := by
  pointwise [val_main_v9, val_main_v8, val_main_v4, val_main_v3, val_main_v0]
  rw [dif_pos ⟨h8, by omega⟩]

theorem vpad_at (b : Fin 4) (n : Fin 40) (r : Fin 64) (h : Fin 8) (e : Fin 128) (h8 : 8 ≤ (n : ℕ)) :
    val_main_v11 (F := Ideal) P (ix5 b n r h e)
      = P (ix2 ⟨b * 2048 + (n - 8) * 64 + r, by omega⟩ ⟨2048 + (h * 128 + e), by omega⟩) := by
  pointwise [val_main_v11, val_main_v10, val_main_v6, val_main_v5, val_main_v0]
  rw [dif_pos ⟨h8, by omega⟩]

/-- Fetching chunks by a table of chunk numbers. -/
theorem fetch_at (x : FVec Ideal S4x40x64x8x128 .f32) (idx : IVec S32x9x1 32) (b : Fin 4) (n : Fin 32) (j : Fin 9)
    (r : Fin 64) (h : Fin 8) (e : Fin 128) (p : Fin 40) (hp : (idx (ix3 n j 0)).toInt = (p : ℕ)) :
    Host.gather gather_S4x40x64x8x128_S32x9x1_S4x32x9x64x8x128_0345_1_n_n_1_2_41648128 x idx (ix6 b n j r h e)
      = x (ix5 b p r h e) := by
  unfold Host.gather
  congr 1
  funext a
  refine Fin.ext ?_
  show GatherDims.start _ _ idx a + GatherDims.batchCoord _ _ a + GatherDims.offCoord _ _ a = _
  rw [GatherDims.batchCoord_eq_zero _ _ _ (List.not_mem_nil)]
  match a with
  | ⟨0, _⟩ => exact Nat.zero_add _
  | ⟨1, _⟩ =>
    rw [GatherDims.offCoord_eq_zero _ _ _ (fun h => ((GatherDims.mem_sKept _ _).mp h).1 (List.mem_singleton.mpr rfl))]
    unfold GatherDims.start
    rw [dif_pos (show (⟨1, _⟩ : Fin 5) ∈ gather_S4x40x64x8x128_S32x9x1_S4x32x9x64x8x128_0345_1_n_n_1_2_41648128.startIndexMap from List.mem_singleton.mpr rfl)]
    have hi : GatherDims.siIdx gather_S4x40x64x8x128_S32x9x1_S4x32x9x64x8x128_0345_1_n_n_1_2_41648128
        (ix6 b n j r h e) ⟨0, by decide⟩ = ix3 n j 0 := by
      funext a'
      match a' with
      | ⟨0, _⟩ => rfl
      | ⟨1, _⟩ => rfl
      | ⟨2, _⟩ => rfl
    show min (idx (GatherDims.siIdx _ _ ⟨0, _⟩)).toInt.toNat 39 + 0 + 0 = (p : ℕ)
    rw [hi, hp]
    omega
  | ⟨2, _⟩ => exact Nat.zero_add _
  | ⟨3, _⟩ => exact Nat.zero_add _
  | ⟨4, _⟩ => exact Nat.zero_add _

/-- Fetching bias columns by a table of column numbers. -/
theorem bias_fetch_at (x : FVec Ideal S8x513 .f32) (idx : IVec S64x576x1 32) (h : Fin 8) (r : Fin 64) (κ : Fin 576)
    (p : Fin 513) (hp : (idx (ix3 r κ 0)).toInt = (p : ℕ)) :
    Host.gather gather_S8x513_S64x576x1_S8x64x576_0_1_n_n_1_2_81 x idx (ix3 h r κ) = x (ix2 h p) := by
  unfold Host.gather
  congr 1
  funext a
  refine Fin.ext ?_
  show GatherDims.start _ _ idx a + GatherDims.batchCoord _ _ a + GatherDims.offCoord _ _ a = _
  rw [GatherDims.batchCoord_eq_zero _ _ _ (List.not_mem_nil)]
  match a with
  | ⟨0, _⟩ => exact Nat.zero_add _
  | ⟨1, _⟩ =>
    rw [GatherDims.offCoord_eq_zero _ _ _ (fun h => ((GatherDims.mem_sKept _ _).mp h).1 (List.mem_singleton.mpr rfl))]
    unfold GatherDims.start
    rw [dif_pos (show (⟨1, _⟩ : Fin 2) ∈ gather_S8x513_S64x576x1_S8x64x576_0_1_n_n_1_2_81.startIndexMap from List.mem_singleton.mpr rfl)]
    have hi : GatherDims.siIdx gather_S8x513_S64x576x1_S8x64x576_0_1_n_n_1_2_81
        (ix3 h r κ) ⟨0, by decide⟩ = ix3 r κ 0 := by
      funext a'
      match a' with
      | ⟨0, _⟩ => rfl
      | ⟨1, _⟩ => rfl
      | ⟨2, _⟩ => rfl
    show min (idx (GatherDims.siIdx _ _ ⟨0, _⟩)).toInt.toNat 512 + 0 + 0 = (p : ℕ)
    rw [hi, hp]
    omega

theorem chunk_idx (n : Fin 32) (j : Fin 9) : (val_main_v24 (F := Ideal) (ix3 n j 0)).toInt = ((n + j : ℕ) : ℤ) := by
  pointwise [val_main_v24, val_main_v23, val_main_v22, val_main_v21, val_main_v20, val_main_v19, val_main_v18, val_main_v17, val_main_v16, val_main_v15, val_main_v14, val_main_v13, val_main_v12, val_main_c_1, val_main_c_2]
  revert n j
  decide +kernel

theorem chunk_idx' (n : Fin 32) (j : Fin 9) : (val_main_v32 (F := Ideal) (ix3 n j 0)).toInt = ((n + j : ℕ) : ℤ) :=
  chunk_idx n j

theorem mask_at (n : Fin 32) (κ : Fin 576) : val_main_v38 (F := Ideal) (ix2 n κ) = BitVec.ofBool (8 ≤ (n : ℕ) + (κ : ℕ) / 64) := by
  pointwise [val_main_v38, val_main_v37, val_main_v36, val_main_v35, val_main_v18, val_main_v17, val_main_v16, val_main_v15, val_main_v14, val_main_v13, val_main_v12, val_main_c_5]
  have h : ∀ (n : Fin 32) (j : Fin 9), IntOp.cmpi CmpIPredicate.sge (IntOp.addi (BitVec.ofNat 32 n) (BitVec.ofNat 32 j)) 8#32
      = BitVec.ofBool (decide (8 ≤ (n : ℕ) + j)) := by decide +kernel
  exact h n ⟨κ / 64, by omega⟩

theorem col_idx (r : Fin 64) (κ : Fin 576) : (val_main_v56 (F := Ideal) (ix3 r κ 0)).toInt = ((min (768 + r - κ) 512 : ℕ) : ℤ) := by
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_call2_v0, val_main_call2_v1, val_main_call2_v2, val_main_call2_v3, val_main_call2_v4, val_main_c_6, val_main_c_7, val_main_c_8, val_main_c_9, val_main_c_10, val_main_c_11]
  rw [show id (constantI S_ 32 256#32) ix0 = 256#32 from rfl, show id (constantI S_ 32 4294967040#32) ix0 = 4294967040#32 from rfl]
  have h : ∀ d : Fin 640, BitVec.toInt (Scalar.select
        (IntOp.cmpi CmpIPredicate.slt (IntOp.addi (IntOp.minsi 256#32 (IntOp.maxsi 4294967040#32 (BitVec.ofNat 32 d - 63#32))) 256#32) 0#32)
        (IntOp.addi (IntOp.addi (IntOp.minsi 256#32 (IntOp.maxsi 4294967040#32 (BitVec.ofNat 32 d - 63#32))) 256#32) 513#32)
        (IntOp.addi (IntOp.minsi 256#32 (IntOp.maxsi 4294967040#32 (BitVec.ofNat 32 d - 63#32))) 256#32))
      = ((min ((d : ℕ) + 193) 512 : ℕ) : ℤ) := by decide +kernel
  have hd : IntOp.subi (IntOp.addi (BitVec.ofNat 32 r) 512#32) (BitVec.ofNat 32 κ) = BitVec.ofNat 32 (r + 575 - κ : ℕ) - 63#32 := by
    show BitVec.ofNat 32 r + 512#32 - BitVec.ofNat 32 κ = _
    apply BitVec.eq_of_toNat_eq
    simp only [BitVec.toNat_add, BitVec.toNat_sub, BitVec.toNat_ofNat]
    omega
  have := h ⟨r + 575 - κ, by omega⟩
  rw [hd, this, show (r : ℕ) + 575 - κ + 193 = 768 + r - κ by omega]

theorem k_at (b : Fin 4) (n : Fin 32) (κ : Fin 576) (h : Fin 8) (e : Fin 128) (hn : 8 ≤ (n : ℕ) + (κ : ℕ) / 64) :
    val_main_v26 (F := Ideal) P (ix5 b n κ h e)
      = P (ix2 ⟨b * 2048 + (n + κ / 64 - 8) * 64 + κ % 64, by omega⟩ ⟨1024 + (h * 128 + e), by omega⟩) := by
  pointwise [val_main_v26]
  rw [val_main_v25, fetch_at _ _ _ _ _ _ _ _ ⟨n + κ / 64, by omega⟩ (chunk_idx _ _), kpad_at _ _ _ _ _ _ hn]

theorem v_at (b : Fin 4) (n : Fin 32) (κ : Fin 576) (h : Fin 8) (e : Fin 128) (hn : 8 ≤ (n : ℕ) + (κ : ℕ) / 64) :
    val_main_v34 (F := Ideal) P (ix5 b n κ h e)
      = P (ix2 ⟨b * 2048 + (n + κ / 64 - 8) * 64 + κ % 64, by omega⟩ ⟨2048 + (h * 128 + e), by omega⟩) := by
  pointwise [val_main_v34]
  rw [val_main_v33, fetch_at _ _ _ _ _ _ _ _ ⟨n + κ / 64, by omega⟩ (chunk_idx' _ _), vpad_at _ _ _ _ _ _ hn]

theorem hmax_at (x : FVec Ideal S4x8x32x64x576 .f32) (b : Fin 4) (h : Fin 8) (n : Fin 32) (r : Fin 64) :
    Host.reduce FloatOps.maximumf x (constant S_ .f32 0xFF800000#32) reducesTo_S4x8x32x64x576_S4x8x32x64_d4 h_S_ (ix4 b h n r)
      = Finset.univ.fold max (Ideal.ofBits .f32 0xFF800000#32) (fun κ : Fin 576 => x (ix5 b h n r κ)) := by
  pointwise

theorem max_at (b : Fin 4) (h : Fin 8) (n : Fin 32) (r : Fin 64) :
    val_main_v69 (F := Ideal) P T (ix4 b h n r)
      = Finset.univ.fold max ⊥ (fun κ : Fin 576 => val_main_v66 (F := Ideal) P T (ix5 b h n r κ)) := by
  have e := hmax_at (val_main_v66 (F := Ideal) P T) b h n r
  have hb : val_main_v68 (F := Ideal) (ix4 b h n r) = ⊥ := by
    pointwise [val_main_v68, val_main_cst_14]
    exact Cert.Attn.ofBits_neg_inf
  rw [Cert.Attn.ofBits_neg_inf] at e
  rw [val_main_v69_apply, hb]
  refine (congrArg (max (⊥ : EReal)) e).trans ?_
  exact max_eq_right bot_le

theorem wt_at (b : Fin 4) (h : Fin 8) (n : Fin 32) (r : Fin 64) (κ : Fin 576) :
    val_main_v77 (F := Ideal) P T (ix5 b h n r κ)
      = Ideal.div (Ideal.exp (val_main_v66 (F := Ideal) P T (ix5 b h n r κ) - val_main_v69 (F := Ideal) P T (ix4 b h n r)))
          (∑ κ' : Fin 576, Ideal.exp (val_main_v66 (F := Ideal) P T (ix5 b h n r κ') - val_main_v69 (F := Ideal) P T (ix4 b h n r))) := by
  pointwise [val_main_v77, val_main_v76, val_main_v75, val_main_v74, val_main_cst_15, val_main_v73, val_main_v72, val_main_v71, val_main_v70]

/-- The score of a query row at key `κ` of its band. -/
def rscore (b : Fin 4) (h : Fin 8) (n : Fin 32) (r : Fin 64) (κ : Fin 576) : EReal :=
  if hn : 8 ≤ (n : ℕ) + (κ : ℕ) / 64 then
    Ideal.div (∑ e : Fin 128, P (ix2 ⟨b * 2048 + (n * 64 + r), by omega⟩ ⟨h * 128 + e, by omega⟩)
        * P (ix2 ⟨b * 2048 + (n + κ / 64 - 8) * 64 + κ % 64, by omega⟩ ⟨1024 + (h * 128 + e), by omega⟩))
      (Ideal.sqrt (Ideal.ofBits .f32 0x43000000#32)) + T (ix2 h ⟨min (768 + r - κ) 512, by omega⟩)
  else ⊥

theorem score_at (b : Fin 4) (h : Fin 8) (n : Fin 32) (r : Fin 64) (κ : Fin 576) :
    val_main_v66 (F := Ideal) P T (ix5 b h n r κ) = rscore P T b h n r κ := by
  pointwise [val_main_v66, val_main_v64, val_main_v63, val_main_v62, val_main_v61, val_main_v60, val_main_v59, val_main_v58, val_main_v65, val_main_call3_v1, val_main_call3_v2, val_main_v57, val_main_cst, val_main_call3_v0, val_main_cst_12]
  unfold rscore
  rw [mask_at, bias_fetch_at _ _ _ _ _ ⟨min (768 + r - κ) 512, by omega⟩ (col_idx r κ)]
  by_cases hn : 8 ≤ (n : ℕ) + (κ : ℕ) / 64
  · rw [dif_pos hn, decide_eq_true hn]
    simp only [q_at, k_at _ _ _ _ _ _ hn]
    rfl
  · rw [dif_neg hn, decide_eq_false hn]
    exact Cert.Attn.ofBits_neg_inf

/-- The attention's result at an index. -/
theorem out_at (R : Fin 8192) (C : Fin 1024) : val_main_v81 (F := Ideal) P T (ix2 R C)
    = ∑ κ : Fin 576, Ideal.div
        (Ideal.exp (rscore P T ⟨R / 2048, by omega⟩ ⟨C / 128, by omega⟩ ⟨R / 64 % 32, by omega⟩ ⟨R % 64, by omega⟩ κ
          - Finset.univ.fold max ⊥ (fun κ : Fin 576 => rscore P T ⟨R / 2048, by omega⟩ ⟨C / 128, by omega⟩ ⟨R / 64 % 32, by omega⟩ ⟨R % 64, by omega⟩ κ)))
        (∑ κ' : Fin 576, Ideal.exp (rscore P T ⟨R / 2048, by omega⟩ ⟨C / 128, by omega⟩ ⟨R / 64 % 32, by omega⟩ ⟨R % 64, by omega⟩ κ'
          - Finset.univ.fold max ⊥ (fun κ : Fin 576 => rscore P T ⟨R / 2048, by omega⟩ ⟨C / 128, by omega⟩ ⟨R / 64 % 32, by omega⟩ ⟨R % 64, by omega⟩ κ)))
        * val_main_v34 (F := Ideal) P (ix5 ⟨R / 2048, by omega⟩ ⟨R / 64 % 32, by omega⟩ κ ⟨C / 128, by omega⟩ ⟨C % 128, by omega⟩) := by
  pointwise [val_main_v81, val_main_v80, val_main_v79, val_main_v78]
  refine Finset.sum_congr rfl fun κ _ => ?_
  rw [wt_at, max_at]
  simp only [score_at]
  exact mul_comm _ _

end Cert.AttnRef

end
-- ==== Proof.Attn.Eq.lean ====
/- The kernel's attention is the reference's, on real inputs. -/
module

public import proofs.«01_k».proof.Proof.Attn.Arr
public import proofs.«01_k».proof.Proof.Attn.Ref

@[expose] public section

set_option maxRecDepth 16384

noncomputable section

namespace Cert.Attn

open Cert.KernelIdeal Cert.KernelIdeal.Gen Idealize.ShloMosaic Idealize.ShloMosaic.TcCoe Idealize.SL.Sem

theorem ofBits_128 : Ideal.ofBits .f32 0x43000000#32 = ((128 : ℝ) : EReal) := by
  simp [Ideal.ofBits, Ideal.ieee, -EReal.coe_mul]; norm_num

theorem sqrt_128 : Ideal.sqrt (Ideal.ofBits .f32 0x43000000#32) = ((Real.sqrt 128 : ℝ) : EReal) := by
  rw [ofBits_128, Ideal.sqrt_coe, if_neg (by norm_num)]

theorem scale2_val : Named.named (F := Ideal) κ "scale2" (φ := .f32) 0x3E0293EE#32 = ((((Real.sqrt 128)⁻¹ * (Real.log 2)⁻¹ : ℝ)) : EReal) :=
  IdealRules.named_const.ideal_named_scalar _ _ _ _ rfl

theorem log2e_val : Named.named (F := Ideal) κ "log2e" (φ := .f32) 0x3FB8AA3B#32 = (((Real.log 2)⁻¹ : ℝ) : EReal) :=
  IdealRules.named_const.ideal_named_scalar _ _ _ _ rfl

theorem bot_mul_pos (x : ℝ) (hx : 0 < x) : (⊥ : EReal) * (x : EReal) = ⊥ := EReal.bot_mul_coe_of_pos hx

variable (P : FVec Ideal S8192x11264 .bf16) (T : FVec Ideal S8x513 .f32)

/-- The real score of row `R` at key `κ` of its band. -/
def ascore (p : S8192x11264.Idx → ℝ) (t : S8x513.Idx → ℝ) (R : Fin 8192) (h : Fin 8) (κ : Fin 576) : ℝ :=
  (∑ e : Fin 128, p (ix2 R ⟨128 * h + e, by omega⟩)
      * p (ix2 (krow R ⟨64 * (R % 256 / 64) + κ, by omega⟩) ⟨1024 + (128 * h + e), by omega⟩)) * (Real.sqrt 128)⁻¹
    + t (ix2 h ⟨min (768 + R % 64 - κ) 512, by omega⟩)

abbrev okk (R : Fin 8192) (κ : Fin 576) : Prop := 8 ≤ (R : ℕ) / 64 % 32 + (κ : ℕ) / 64

/-- The window row of a band's key that is in the sequence. -/
theorem krow_ok (R : Fin 8192) (κ : Fin 576) (hn : okk R κ) :
    krow R ⟨64 * (R % 256 / 64) + κ, by omega⟩ = ⟨(R : ℕ) / 2048 * 2048 + ((R : ℕ) / 64 % 32 + κ / 64 - 8) * 64 + κ % 64, by omega⟩ := by
  have hn' : 8 ≤ (R : ℕ) / 64 % 32 + (κ : ℕ) / 64 := hn
  refine Fin.ext ?_
  show 256 * (8 * ((R : ℕ) / 2048) + ((R : ℕ) % 2048 / 256 + (64 * ((R : ℕ) % 256 / 64) + κ) / 256 - 2)) + (64 * ((R : ℕ) % 256 / 64) + κ) % 256
    = (R : ℕ) / 2048 * 2048 + ((R : ℕ) / 64 % 32 + κ / 64 - 8) * 64 + κ % 64
  have h1 : (R : ℕ) / 64 % 32 = 4 * ((R : ℕ) % 2048 / 256) + (R : ℕ) % 256 / 64 := by omega
  rw [h1] at hn' ⊢
  generalize (R : ℕ) / 2048 = a
  generalize (R : ℕ) % 2048 / 256 = i at hn' ⊢
  generalize (R : ℕ) % 256 / 64 = q at hn' ⊢
  omega

theorem rscore_real (p : S8192x11264.Idx → ℝ) (t : S8x513.Idx → ℝ) (hP : ∀ i, P i = (p i : EReal)) (hT : ∀ i, T i = (t i : EReal))
    (R : Fin 8192) (h : Fin 8) (κ : Fin 576) :
    AttnRef.rscore P T ⟨R / 2048, by omega⟩ h ⟨R / 64 % 32, by omega⟩ ⟨R % 64, by omega⟩ κ
      = if okk R κ then (ascore p t R h κ : EReal) else ⊥ := by
  unfold AttnRef.rscore
  by_cases hn : okk R κ
  · have hn' : 8 ≤ (R : ℕ) / 64 % 32 + (κ : ℕ) / 64 := hn
    rw [dif_pos hn', if_pos hn, sqrt_128, Ideal.div_coe (by positivity), hT]
    simp only [hP]
    unfold ascore
    rw [EReal.coe_add, EReal.coe_mul, coe_sum]
    simp only [EReal.coe_mul, one_div]
    congr 2
    refine Finset.sum_congr rfl fun e _ => ?_
    congr 3
    · congr 1 <;> refine Fin.ext ?_
      · show (R : ℕ) / 2048 * 2048 + ((R : ℕ) / 64 % 32 * 64 + (R : ℕ) % 64) = R
        omega
      · show (h : ℕ) * 128 + e = 128 * h + e
        omega
    · rw [krow_ok R κ hn]
      congr 1
      refine Fin.ext ?_
      show 1024 + ((h : ℕ) * 128 + e) = 1024 + (128 * h + e)
      omega
  · have hn' : ¬ 8 ≤ (R : ℕ) / 64 % 32 + (κ : ℕ) / 64 := hn
    rw [dif_neg hn', if_neg hn]

theorem score_real (p : S8192x11264.Idx → ℝ) (t : S8x513.Idx → ℝ) (hP : ∀ i, P i = (p i : EReal)) (hT : ∀ i, T i = (t i : EReal))
    (R : Fin 8192) (h : Fin 8) (w : Fin 768) :
    score P T R h w = if near ⟨R % 256, by omega⟩ w ∧ 512 - 256 * min ((R : ℕ) % 2048 / 256) 2 ≤ (w : ℕ)
      then ((((∑ e : Fin 128, p (ix2 R ⟨128 * h + e, by omega⟩) * p (ix2 (krow R w) ⟨1024 + (128 * h + e), by omega⟩)) * (Real.sqrt 128)⁻¹
          + t (ix2 h ⟨min (768 + (R : ℕ) % 256 - w) 512, by omega⟩) : ℝ) * (Real.log 2)⁻¹ : ℝ) : EReal) else ⊥ := by
  have hl : 0 < (Real.log 2)⁻¹ := by positivity
  unfold score
  rw [scale2_val, log2e_val]
  simp only [hP, hT]
  rw [show (∑ e : Fin 128, (p (ix2 R ⟨128 * h + e, by omega⟩) : EReal) * (p (ix2 (krow R w) ⟨1024 + (128 * h + e), by omega⟩) : EReal))
      = ((∑ e : Fin 128, p (ix2 R ⟨128 * h + e, by omega⟩) * p (ix2 (krow R w) ⟨1024 + (128 * h + e), by omega⟩) : ℝ) : EReal) by
    rw [coe_sum]; simp only [EReal.coe_mul]]
  split_ifs with hc
  · rw [← EReal.coe_mul, ← EReal.coe_mul, ← EReal.coe_add]
    congr 1
    ring
  · rw [ofBits_neg_inf, bot_mul_pos _ hl]
    exact EReal.add_bot _

theorem attn_eq (p : S8192x11264.Idx → ℝ) (t : S8x513.Idx → ℝ) (hP : ∀ i, P i = (p i : EReal)) (hT : ∀ i, T i = (t i : EReal))
    (R : Fin 8192) (C : Fin 1024) :
    attn P T R C = ReferenceIdeal.Read.val_main_v81 (F := Ideal) P T (ix2 R C) := by
  rw [AttnRef.out_at]
  simp only [rscore_real P T p t hP hT]
  unfold attn
  refine row2_band (64 * (R % 256 / 64 % 2)) (by omega) (okk R) (ascore p t R ⟨C / 128, by omega⟩)
    (fun κ => p (ix2 (krow R ⟨64 * (R % 256 / 64) + κ, by omega⟩) ⟨2048 + C, by omega⟩))
    _ _ _ ⟨512 + R % 64, by omega⟩ ?_ ?_ ?_ ?_ ?_
  · show 8 ≤ (R : ℕ) / 64 % 32 + (512 + (R : ℕ) % 64) / 64
    omega
  · intro κ
    have hw : wof R ⟨64 * (R % 256 / 64 % 2) + κ, by omega⟩ = ⟨64 * (R % 256 / 64) + κ, by omega⟩ := by
      refine Fin.ext ?_
      show (R : ℕ) % 256 / 128 * 128 + (64 * ((R : ℕ) % 256 / 64 % 2) + κ) = 64 * ((R : ℕ) % 256 / 64) + κ
      omega
    rw [score_real P T p t hP hT, hw]
    have hc : (near ⟨R % 256, by omega⟩ ⟨64 * (R % 256 / 64) + κ, by omega⟩
        ∧ 512 - 256 * min ((R : ℕ) % 2048 / 256) 2 ≤ 64 * ((R : ℕ) % 256 / 64) + κ) ↔ okk R κ := by
      show (((64 * ((R : ℕ) % 256 / 64) + κ) / 64 ≤ (R : ℕ) % 256 / 64 + 8 ∧ (R : ℕ) % 256 / 64 ≤ (64 * ((R : ℕ) % 256 / 64) + κ) / 64)
        ∧ _) ↔ 8 ≤ (R : ℕ) / 64 % 32 + (κ : ℕ) / 64
      omega
    refine (if_congr hc ?_ rfl)
    unfold ascore
    have hb : (⟨min (768 + (R : ℕ) % 256 - (64 * (R % 256 / 64) + κ)) 512, by omega⟩ : Fin 513) = ⟨min (768 + R % 64 - κ) 512, by omega⟩ := by
      refine Fin.ext ?_
      show min (768 + (R : ℕ) % 256 - (64 * ((R : ℕ) % 256 / 64) + κ)) 512 = min (768 + (R : ℕ) % 64 - κ) 512
      congr 1
      omega
    rw [hb]
  · intro k hk
    rw [score_real P T p t hP hT, if_neg]
    rintro ⟨⟨h1, h2⟩, -⟩
    change ((R : ℕ) % 256 / 128 * 128 + k) / 64 ≤ (R : ℕ) % 256 / 64 + 8 at h1
    change (R : ℕ) % 256 / 64 ≤ ((R : ℕ) % 256 / 128 * 128 + k) / 64 at h2
    omega
  · intro κ hk
    rw [hP]
    congr 2
    have hw : wof R ⟨64 * (R % 256 / 64 % 2) + κ, by omega⟩ = ⟨64 * (R % 256 / 64) + κ, by omega⟩ := by
      refine Fin.ext ?_
      show (R : ℕ) % 256 / 128 * 128 + (64 * ((R : ℕ) % 256 / 64 % 2) + κ) = 64 * ((R : ℕ) % 256 / 64) + κ
      omega
    rw [hw]
  · intro κ hk
    rw [AttnRef.v_at _ _ _ _ _ _ hk, hP, krow_ok R κ hk]
    congr 3
    refine Fin.ext ?_
    show 2048 + ((C : ℕ) / 128 * 128 + C % 128) = 2048 + C
    omega

end Cert.Attn

end
-- ==== Proof.Finite.lean ====
/- What the precondition `finite` gives: every entry is a real number. -/
module

public import proofs.«01_k».proof.Proof.Gen.Pre_finite
public import Idealize.ShloMosaic.Lib.Pointwise

@[expose] public section

noncomputable section

namespace Cert.Finite

open Idealize.ShloMosaic

theorem ofBits_inf : Ideal.ofBits .f32 0x7F800000#32 = ⊤ := by
  simp [Ideal.ofBits, Ideal.ieee]

/-- A number whose absolute value is below infinity is real. -/
theorem real_of_lt (x : EReal) (h : max x (-x) < ⊤) : ∃ r : ℝ, x = (r : EReal) := by
  induction x with
  | bot => exact absurd h (by simp)
  | top => exact absurd h (by simp)
  | coe r => exact ⟨r, rfl⟩

/-- What the test of one entry says. -/
theorem real_of_test (x : EReal) (h : BitVec.ofBool (decide (max x (-x) < Ideal.ofBits .f32 0x7F800000#32)) = 1#1) :
    ∃ r : ℝ, x = (r : EReal) := by
  refine real_of_lt x ?_
  rw [ofBits_inf] at h
  by_contra hn
  rw [decide_eq_false hn] at h
  exact absurd h (by decide)

open Cert.Pre_finite in
theorem reals [Facts] (a : FVec Ideal S8192x11264 .bf16) (b : FVec Ideal S8x513 .f32)
    (h1 : (fn (F := Ideal) a b).1 = (fun _ => 1#1)) (h2 : (fn (F := Ideal) a b).2 = (fun _ => 1#1)) :
    (∃ p : S8192x11264.Idx → ℝ, ∀ i, a i = (p i : EReal)) ∧ (∃ t : S8x513.Idx → ℝ, ∀ i, b i = (t i : EReal)) := by
  constructor
  · have h : ∀ i, ∃ r : ℝ, a i = (r : EReal) := by
      intro i
      have e := congrFun h1 i
      simp only [fn] at e
      pointwise at e
      exact real_of_test (a i) e
    exact ⟨fun i => (h i).choose, fun i => (h i).choose_spec⟩
  · have h : ∀ i, ∃ r : ℝ, b i = (r : EReal) := by
      intro i
      have e := congrFun h2 i
      simp only [fn] at e
      pointwise at e
      exact real_of_test (b i) e
    exact ⟨fun i => (h i).choose, fun i => (h i).choose_spec⟩

end Cert.Finite

end
-- ==== Proof.Attn.Claims.lean ====
/- The claims about the attention. -/
module

public import proofs.«01_k».proof.Defs
public import proofs.«01_k».proof.Proof.Gen.Kernel
public import proofs.«01_k».proof.Proof.Gen.Kernel.Frame
public import proofs.«01_k».proof.Proof.Gen.KernelIdeal.Value
public import proofs.«01_k».proof.Proof.Attn.Eq
public import proofs.«01_k».proof.Proof.Finite
public import Idealize.ShloMosaic.Init

@[expose] public section

noncomputable section

namespace Cert.AttnClaims

open Idealize.ShloMosaic Idealize.SL.Sem

theorem frame_k : Cert.quiescent_Kernel := fun m ρ _ => Cert.Kernel.Gen.frame m ρ
theorem frame_ki : Cert.quiescent_KernelIdeal := fun m ρ _ => Cert.KernelIdeal.Gen.frame m ρ
theorem frame_kif : Cert.quiescent_KernelIdeal_pre_finite := fun m ρ _ => Cert.KernelIdeal.Gen.frame m ρ

theorem frame_r : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)
theorem frame_rf : Cert.quiescent_ReferenceIdeal_pre_finite := fun m ρ _ => frame_r m ρ trivial

theorem preserves : Cert.preserves_Kernel_KernelIdeal :=
  ⟨IdealRules.named_const.statement Cert.KernelIdeal.κ "scale2" .f32 0x3E0293EE#32 _ rfl,
    IdealRules.named_const.statement Cert.KernelIdeal.κ "log2e" .f32 0x3FB8AA3B#32 _ rfl⟩

/-- Both programs run, and their results agree at every index. -/
theorem algebraic : Cert.algebraic_KernelIdeal_ReferenceIdeal_pre_finite := by
  intro m g m' g' hpre hagree
  refine ⟨fun c => (Cert.KernelIdeal.Gen.dats m 0 c).arrAt 8 (Cert.KernelIdeal.cfgs 0).N, ?_, ?_⟩
  · exact Cert.KernelIdeal.Value.run_blocks (F := Ideal) m g
  refine (θ_run Cert.ReferenceIdeal.defs _ _).mono (fun _ h c => ⟨(h c).1.trans ?_, (h c).2⟩)
    (Cert.ReferenceIdeal.Value.run (F := Ideal) m' g')
  obtain ⟨⟨p, hp⟩, ⟨t, ht⟩⟩ := Cert.Finite.reals _ _ (hpre c).1 (hpre c).2
  refine (Cert.ReferenceIdeal.Read.val_main_v81_eq m' c).trans ?_
  rw [(hagree c).1, (hagree c).2]
  refine Eq.trans ?_ (Cert.Attn.final m c).symm
  funext i
  rw [ValueIdx.eq_ix2 i]
  exact (Cert.Attn.attn_eq _ _ p t hp ht (i 0) (i 1)).symm

end Cert.AttnClaims

end
-- ==== Proof.Proj.Arr.lean ====
/- The input projection's result array as a function of its two arguments. -/
module

public import proofs.«01_k».proof.Proof.Gen.Kernel2Ideal.Frame
public import Idealize.ShloMosaic.Lib.Pointwise
public import Idealize.ShloMosaic.Lib.Claim
public import Idealize.ShloMosaic.Lib.StableHlo.RunRead
public import Idealize.ShloMosaic.Lib.Pipeline.ValueKit

@[expose] public section

set_option maxRecDepth 16384

noncomputable section

namespace Cert.Proj

open Cert.Kernel2Ideal Cert.Kernel2Ideal.Gen Idealize.ShloMosaic Idealize.ShloMosaic.TcCoe Idealize.SL.Sem
open Idealize.ShloMosaic.Pipeline (Dat)

/-- Entry `(R, C)` of the product of the activations with the first layer's weights. -/
def proj (H : FVec Ideal S8192x2048 .bf16) (W : FVec Ideal S4x2048x11272 .f32) (R : Fin 8192) (C : Fin 11264) : EReal :=
  ∑ k : Fin 2048, H (ix2 R k) * W (ix3 0 k ⟨C, by omega⟩)

/-- What is kept of a block of the transposed weights. -/
theorem keep_at (x : FVec Ideal S1x1024x2048 .f32) (d : Fin 1024) (k : Fin 2048) :
    k0_pay1 (F := Ideal) x (ix2 d k) = x (ix3 0 d k) := by
  pointwise [k0_pay1]

/-- What is stored: each row of the first block against each row of the second. -/
theorem out_at (x : FVec Ideal S2048x2048 .bf16) (y : FVec Ideal S1024x2048 .bf16) (ρ : Fin 2048) (d : Fin 1024) :
    k0_pay2 (F := Ideal) x y (ix2 ρ d) = ∑ k : Fin 2048, x (ix2 ρ k) * y (ix2 d k) := by
  pointwise [k0_pay2]

variable (m : (ℓ : Loc nD τ sig) → Buf (Elt Ideal) ℓ)

theorem idx : ∀ t : Fin cfg0.N, win0_0.index t = ![t.val % 4, 0] ∧ win0_1.index t = ![0, t.val / 4, 0]
    ∧ win0_2.index t = ![t.val % 4, t.val / 4] :=
  (by decide +kernel : ∀ t : Fin grid0.N, _)

section
variable (c : Dev nD)

/-- The weights as the call finds them: rows and columns exchanged. -/
theorem turned (l : Fin 4) (C : Fin 11272) (k : Fin 2048) :
    (V m c main_v0 : FVec Ideal S4x11272x2048 .f32) (ix3 l C k)
      = (m ((c : Thread nD τ).loc main_arg1) : FVec Ideal S4x2048x11272 .f32) (ix3 l k C) := by
  have e : (V m c main_v0 : FVec Ideal S4x11272x2048 .f32)
      = transpose S4x11272x2048 [0, 2, 1] (m ((c : Thread nD τ).loc main_arg1) : FVec Ideal S4x2048x11272 .f32) transposes_S4x2048x11272_S4x11272x2048_0_2_1 := by
    show StableHlo.after hostOps0 _ _ = _
    after_reads_simp
  rw [e]
  pointwise

variable (t : Fin cfg0.N)

theorem blk0 (ρ k : Fin 2048) : (iblk m c 0 t : FVec Ideal S2048x2048 .bf16) (ix2 ρ k)
    = (m ((c : Thread nD τ).loc main_arg0) : FVec Ideal S8192x2048 .bf16)
        (ix2 ⟨t.val % 4 * 2048 + ρ, by omega⟩ k) := by
  rw [← V_main_arg0 m c]
  blk_ext [iblk, idx t]

theorem blk1 (d : Fin 1024) (k : Fin 2048) : (X0_1 m c t : FVec Ideal S1x1024x2048 .f32) (ix3 0 d k)
    = (m ((c : Thread nD τ).loc main_arg1) : FVec Ideal S4x2048x11272 .f32)
        (ix3 0 k ⟨t.val / 4 * 1024 + d, by have : t.val < 44 := t.isLt; omega⟩) := by
  rw [← turned m c]
  have h := moved0_1 t (ix3 0 d k)
  unfold X0_1 Pipeline.Window.fill
  rw [dif_pos h]
  blk_ext [iblk, idx t]

/-- The kept block, at every point of a run over the same columns. -/
theorem kept : ∀ (n : ℕ) (hn : n < cfg0.N) (d : Fin 1024) (k : Fin 2048),
    ((outsAt0 m c n hn).2 : FVec Ideal S1024x2048 .bf16) (ix2 d k)
      = (m ((c : Thread nD τ).loc main_arg1) : FVec Ideal S4x2048x11272 .f32)
        (ix3 0 k ⟨n / 4 * 1024 + d, by have : n < 44 := hn; omega⟩) := by
  intro n
  induction n with
  | zero =>
    intro hn d k
    rw [outsAt0_A m c ⟨0, hn⟩ rfl]
    frame_out
    rw [keep_at, blk1]
  | succ n ih =>
    intro hn d k
    by_cases h : (n + 1) % 4 = 0
    · rw [outsAt0_A m c ⟨n + 1, hn⟩ h]
      frame_out
      rw [keep_at, blk1]
    · rw [outsAt0_B m c ⟨n + 1, hn⟩ h]
      refine (ih (Nat.lt_of_succ_lt hn) d k).trans ?_
      refine congrArg _ (congrArg (ix3 0 k) (Fin.ext ?_))
      show n / 4 * 1024 + (d : ℕ) = (n + 1) / 4 * 1024 + d
      omega

theorem point (ρ : Fin 2048) (d : Fin 1024) :
    ((outsAt0 m c t.val t.isLt).1 : FVec Ideal S2048x1024 .bf16) (ix2 ρ d)
      = proj (m ((c : Thread nD τ).loc main_arg0)) (m ((c : Thread nD τ).loc main_arg1))
          ⟨t.val % 4 * 2048 + ρ, by omega⟩ ⟨t.val / 4 * 1024 + d, by have : t.val < 44 := t.isLt; omega⟩ := by
  unfold proj
  by_cases h : t.val % 4 = 0
  · rw [outsAt0_A m c t h]
    frame_out
    rw [out_at]
    exact Finset.sum_congr rfl fun k _ => by rw [keep_at, blk1, blk0]
  · rw [outsAt0_B m c t h]
    frame_out
    rw [out_at]
    refine Finset.sum_congr rfl fun k _ => ?_
    rw [blk0]
    refine congrArg _ ((congrFun ((Memref.isWhole_whole cc0_scratch0).read_unread _) (ix2 d k)).trans ?_)
    refine (kept m c _ _ d k).trans (congrArg _ (congrArg (ix3 0 k) (Fin.ext ?_)))
    show (t.val - 1) / 4 * 1024 + (d : ℕ) = t.val / 4 * 1024 + d
    omega
end

theorem final (c : Dev nD) : (dats m 0 c).arrAt 2 (cfgs 0).N
    = (fun i => proj (m ((c : Thread nD τ).loc main_arg0)) (m ((c : Thread nD τ).loc main_arg1)) (i 0) (i 1) : FVec Ideal S8192x11264 .bf16) := by
  refine (dats m 0 c).arrAt_eq_of_covers 2 _ (by decide +kernel) fun t _ y => ?_
  blk_simp
  rw [after0_2]
  obtain ⟨ρ, d, rfl⟩ : ∃ (ρ : Fin 2048) (d : Fin 1024), y = ix2 ρ d := ⟨y 0, y 1, by idx_vars y⟩
  have hr : (win0_2.blk t).view.emb (ix2 ρ d) 0 = (⟨t.val % 4 * 2048 + ρ, by omega⟩ : Fin 8192) := Fin.ext (by blk_simp [idx t])
  have hd : (win0_2.blk t).view.emb (ix2 ρ d) 1 = (⟨t.val / 4 * 1024 + d, by have : t.val < 44 := t.isLt; omega⟩ : Fin 11264) :=
    Fin.ext (by blk_simp [idx t])
  rw [hr, hd]
  exact point m c t ρ d

end Cert.Proj

end
-- ==== Proof.Proj.Claims.lean ====
/- The claims about the input projection. -/
module

public import proofs.«01_k».proof.Defs
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Proj.Arr
public import Idealize.ShloMosaic.Init

@[expose] public section

noncomputable section

namespace Cert.ProjClaims

open Idealize.ShloMosaic Idealize.SL.Sem

theorem frame_k : Cert.quiescent_Kernel2 := fun m ρ _ => Cert.Kernel2.Gen.frame m ρ
theorem frame_ki : Cert.quiescent_Kernel2Ideal := fun m ρ _ => Cert.Kernel2Ideal.Gen.frame m ρ

theorem frame_r : Cert.quiescent_Reference2Ideal := fun m ρ _ =>
  (θ_run Cert.Reference2Ideal.defs _ _).mono (fun r h => ⟨fun c => ⟨(h c).2.1, (h c).2.2⟩, sem_eq_zero_of_no_sems (by decide) r.2⟩)
    (Cert.Reference2Ideal.Value.run (F := Ideal) m ρ)

theorem preserves : Cert.preserves_Kernel2_Kernel2Ideal := trivial

open Cert.Reference2Ideal.Read in
/-- The reference's result is the same sum of products. -/
theorem ref_at (H : FVec Ideal Cert.Reference2Ideal.S8192x2048 .bf16) (W : FVec Ideal Cert.Reference2Ideal.S4x2048x11272 .f32) (R : Fin 8192) (C : Fin 11264) :
    val_main_v5 (F := Ideal) H W (ix2 R C) = Cert.Proj.proj H W R C := by
  unfold Cert.Proj.proj
  pointwise [val_main_v5, val_main_v4, val_main_v3, val_main_v2, val_main_v1, val_main_v0]

/-- Both programs run, and their results agree at every index. -/
theorem algebraic : Cert.algebraic_Kernel2Ideal_Reference2Ideal := by
  intro m g m' g' hpre hagree
  refine ⟨fun c => (Cert.Kernel2Ideal.Gen.dats m 0 c).arrAt 2 (Cert.Kernel2Ideal.cfgs 0).N, ?_, ?_⟩
  · exact Cert.Kernel2Ideal.Value.run_blocks (F := Ideal) m g
  refine (θ_run Cert.Reference2Ideal.defs _ _).mono (fun _ h c => ⟨(h c).1.trans ?_, (h c).2⟩)
    (Cert.Reference2Ideal.Value.run (F := Ideal) m' g')
  refine (Cert.Reference2Ideal.Read.val_main_v5_eq _ _).trans ?_
  rw [(hagree c).1, (hagree c).2]
  refine Eq.trans ?_ (Cert.Proj.final m c).symm
  funext i
  rw [ValueIdx.eq_ix2 i]
  exact ref_at _ _ (i 0) (i 1)

end Cert.ProjClaims

end
-- ==== Proof.Tail.Form.lean ====
/- The tail of the layer's mixer as formulas over its arguments: the merge of the two branches, the residual, the second norm with its modulation, the router's logits. -/
module

public import Idealize.ShloMosaic.PureOps.Ideal.Laws
public import Idealize.ShloMosaic.Lib.ValueIdx
public import Mathlib.Analysis.SpecialFunctions.Trigonometric.DerivHyp

@[expose] public section

noncomputable section

namespace Cert.Tail

open Idealize.ShloMosaic Idealize.ShloMosaic.ValueIdx

abbrev Mat (m n : Nat) := (⟨2, ![m, n]⟩ : Shape).Idx → EReal
abbrev Cube (l m n : Nat) := (⟨3, ![l, m, n]⟩ : Shape).Idx → EReal
abbrev Row (n : Nat) := (⟨1, ![n]⟩ : Shape).Idx → EReal

/-- The logistic function. -/
def sg (x : EReal) : EReal := Ideal.div 1 (1 + Ideal.exp (-x))

/-- The same by the hyperbolic tangent. -/
def sgt (x : EReal) : EReal := Ideal.ofBits .f32 0x3F000000#32 * Ideal.tanh (Ideal.ofBits .f32 0x3F000000#32 * x) + Ideal.ofBits .f32 0x3F000000#32

section
variable (A H : Mat 8192 1024) (P : Mat 8192 11264) (Wa Wm : Cube 4 1024 2048) (Wo : Cube 4 2048 2048) (X : Mat 8192 2048) (M : Cube 4 6 2048)
  (nw : Row 2048) (cw : Mat 2048 4) (cb : Row 4) (fw : Mat 2048 32) (fb : Row 32)

/-- The batch a row belongs to. -/
abbrev bt (R : Fin 8192) : Fin 4 := ⟨R / 2048, by omega⟩

/-- The two branches, each through its projection and under its gate. -/
def merged (R : Fin 8192) (d : Fin 2048) : EReal :=
  sg (P (ix2 R ⟨7168 + d, by omega⟩)) * ∑ k : Fin 1024, A (ix2 R k) * Wa (ix3 0 k d)
    + sg (P (ix2 R ⟨9216 + d, by omega⟩)) * ∑ k : Fin 1024, H (ix2 R k) * Wm (ix3 0 k d)

/-- The residual stream after the mixer. -/
def xo (R : Fin 8192) (d : Fin 2048) : EReal :=
  X (ix2 R d) + M (ix3 (bt R) 2 d) * ∑ k : Fin 2048, merged A H P Wa Wm R k * Wo (ix3 0 k d)

/-- The second norm and its modulation of a row `x`, with a batch's row of gains and shifts. -/
def normed (x : Fin 2048 → EReal) (g sc sh : EReal) (d : Fin 2048) : EReal :=
  x d * Ideal.rsqrt (Ideal.div (∑ k : Fin 2048, x k * x k) (Ideal.ofBits .f32 0x45000000#32) + Ideal.ofBits .f32 0x358637BD#32) * g * (1 + sc) + sh

def ho (R : Fin 8192) (d : Fin 2048) : EReal :=
  normed (xo A H P Wa Wm Wo X M R) (nw (ix1 d)) (M (ix3 (bt R) 4 d)) (M (ix3 (bt R) 3 d)) d

/-- The router's logits of a row `h`: 4 of the groups, 32 of the experts, zeros. -/
def logit (h : Fin 2048 → EReal) (l : Fin 128) : EReal :=
  if h4 : (l : ℕ) < 4 then (∑ k : Fin 2048, h k * cw (ix2 k ⟨l, h4⟩)) + cb (ix1 ⟨l, h4⟩)
  else if h36 : (l : ℕ) < 36 then (∑ k : Fin 2048, h k * fw (ix2 k ⟨l - 4, by omega⟩)) + fb (ix1 ⟨l - 4, by omega⟩)
  else 0
end

/-! ### Real numbers -/

theorem half_eq : Ideal.ofBits .f32 0x3F000000#32 = ((1 / 2 : ℝ) : EReal) := by
  simp [Ideal.ofBits, Ideal.ieee, -EReal.coe_mul]; norm_num

theorem tanh_half (x : ℝ) : 1 / 2 * Real.tanh (1 / 2 * x) + 1 / 2 = (1 + Real.exp (-x))⁻¹ := by
  rw [Real.tanh_eq_sinh_div_cosh, Real.sinh_eq, Real.cosh_eq]
  have e : Real.exp (-x) = Real.exp (-(1 / 2 * x)) / Real.exp (1 / 2 * x) := by rw [← Real.exp_sub]; ring_nf
  have ha := Real.exp_pos (1 / 2 * x)
  have hb := Real.exp_pos (-(1 / 2 * x))
  rw [e]
  field_simp
  ring

theorem sg_coe (x : ℝ) : sg (x : EReal) = (((1 + Real.exp (-x))⁻¹ : ℝ) : EReal) := by
  exact Ideal.logistic_coe x

/-- The two ways to write the logistic function agree at real numbers. -/
theorem sgt_eq (x : ℝ) : sgt (x : EReal) = sg (x : EReal) := by
  rw [sg_coe, sgt, half_eq, ← tanh_half]
  simp only [← EReal.coe_mul, Ideal.tanh_coe, ← EReal.coe_add]

/-- A number that is real. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add _ _).symm⟩
theorem IsReal.mul {x y : EReal} : IsReal x → IsReal y → IsReal (x * y) := by
  rintro ⟨a, rfl⟩ ⟨b, rfl⟩; exact ⟨a * b, (EReal.coe_mul _ _).symm⟩
theorem IsReal.one : IsReal 1 := ⟨1, EReal.coe_one.symm⟩
theorem IsReal.sum {n : ℕ} {f : Fin n → EReal} (h : ∀ k, IsReal (f k)) : IsReal (∑ k, f k) := by
  choose g hg using h
  refine ⟨∑ k, g k, ?_⟩
  rw [Finset.sum_congr rfl fun k _ => hg k]
  induction (Finset.univ : Finset (Fin n)) using Finset.induction_on with
  | empty => simp
  | insert a s ha ih => rw [Finset.sum_insert ha, Finset.sum_insert ha, ih, EReal.coe_add]
theorem IsReal.sg {x : EReal} : IsReal x → IsReal (sg x) := by
  rintro ⟨a, rfl⟩; exact ⟨_, sg_coe a⟩
theorem IsReal.sub_self {x : EReal} : IsReal x → x - x = 0 := by
  rintro ⟨a, rfl⟩; rw [← EReal.coe_sub, _root_.sub_self]; rfl

theorem n_eq : Ideal.ofBits .f32 0x45000000#32 = ((2048 : ℝ) : EReal) := by
  simp [Ideal.ofBits, Ideal.ieee, -EReal.coe_mul]; norm_num
theorem eps_eq : ∃ e : ℝ, 0 < e ∧ Ideal.ofBits .f32 0x358637BD#32 = (e : EReal) := by
  refine ⟨_, ?_, by simp [Ideal.ofBits, Ideal.ieee, -EReal.coe_mul]; rfl⟩
  norm_num

/-- The norm of a row of real numbers is real. -/
theorem normed_real (x : Fin 2048 → EReal) (g sc sh : EReal) (d : Fin 2048) (hx : ∀ k, IsReal (x k)) (hg : IsReal g) (hsc : IsReal sc) (hsh : IsReal sh) :
    IsReal (normed x g sc sh d) := by
  unfold normed
  refine ((((hx d).mul ?_).mul hg).mul (IsReal.one.add hsc)).add hsh
  choose y hy using hx
  obtain ⟨e, he, hE⟩ := eps_eq
  have hs : ∑ k : Fin 2048, x k * x k = ((∑ k, y k * y k : ℝ) : EReal) := by
    rw [Finset.sum_congr rfl fun k _ => show x k * x k = ((y k * y k : ℝ) : EReal) by rw [hy, EReal.coe_mul]]
    induction (Finset.univ : Finset (Fin 2048)) using Finset.induction_on with
    | empty => simp
    | insert a s ha ih => rw [Finset.sum_insert ha, Finset.sum_insert ha, ih, EReal.coe_add]
  have h0 : 0 ≤ ∑ k, y k * y k := Finset.sum_nonneg fun k _ => mul_self_nonneg _
  rw [hs, n_eq, hE, Ideal.div_coe (by norm_num), ← EReal.coe_mul, ← EReal.coe_add, Ideal.rsqrt_coe]
  have hp : 0 < (∑ k, y k * y k) * (1 / 2048) + e := by positivity
  rw [if_neg (not_lt.2 hp.le), if_neg hp.ne']
  exact ⟨_, rfl⟩

end Cert.Tail

end
-- ==== Proof.Tail.Pay.lean ====
/- What the tail's body computes of its blocks, at an index. -/
module

public import proofs.«01_k».proof.Proof.Gen.Kernel3Ideal.Frame
public import proofs.«01_k».proof.Proof.Tail.Form
public import Idealize.ShloMosaic.Lib.Pointwise
public import Idealize.ShloMosaic.Lib.Claim
public import Idealize.ShloMosaic.Lib.Pipeline.ValueKit

@[expose] public section

set_option maxRecDepth 16384

noncomputable section

namespace Cert.Tail

open Cert.Kernel3Ideal Cert.Kernel3Ideal.Gen Idealize.ShloMosaic Idealize.ShloMosaic.TcCoe Idealize.SL.Sem

/-- Two half blocks of gates, side by side. -/
def cat (g0 g1 : FVec Ideal S256x1024 .bf16) (ρ : Fin 256) (d : Fin 2048) : EReal :=
  if h : (d : ℕ) < 1024 then g0 (ix2 ρ ⟨d, h⟩) else g1 (ix2 ρ ⟨d - 1024, by omega⟩)

theorem pay2_at (a h g0 g1 m0 m1 : FVec Ideal S256x1024 .bf16) (wa wm : FVec Ideal S1x1024x2048 .bf16) (ρ : Fin 256) (d : Fin 2048) :
    k0_pay2 (F := Ideal) a wa h wm g0 g1 m0 m1 (ix2 ρ d)
      = sgt (cat g0 g1 ρ d) * ∑ k : Fin 1024, a (ix2 ρ k) * wa (ix3 0 k d) + sgt (cat m0 m1 ρ d) * ∑ k : Fin 1024, h (ix2 ρ k) * wm (ix3 0 k d) := by
  unfold sgt cat
  pointwise [k0_pay2]

theorem pay3_at (v : FVec Ideal S256x2048 .f32) (x : FVec Ideal S256x2048 .f32) (g : FVec Ideal S1x1x2048 .f32) (w : FVec Ideal S1x2048x2048 .bf16) (ρ : Fin 256) (d : Fin 2048) :
    k0_pay3 (F := Ideal) v x g w (ix2 ρ d) = x (ix2 ρ d) + g (ix3 0 0 d) * ∑ k : Fin 2048, v (ix2 ρ k) * w (ix3 0 k d) := by
  pointwise [k0_pay3]

theorem pay4_at (v : FVec Ideal S256x2048 .f32) (x : FVec Ideal S256x2048 .f32) (g sc sh : FVec Ideal S1x1x2048 .f32) (nw : FVec Ideal S1x2048 .f32) (w : FVec Ideal S1x2048x2048 .bf16) (ρ : Fin 256) (d : Fin 2048) :
    k0_pay4 (F := Ideal) v x g w nw sc sh (ix2 ρ d)
      = normed (fun d => k0_pay3 (F := Ideal) v x g w (ix2 ρ d)) (nw (ix2 0 d)) (sc (ix3 0 0 d)) (sh (ix3 0 0 d)) d := by
  unfold normed
  pointwise [k0_pay4]

theorem pay5_at (v : FVec Ideal S256x2048 .f32) (x : FVec Ideal S256x2048 .f32) (g sc sh : FVec Ideal S1x1x2048 .f32) (nw : FVec Ideal S1x2048 .f32) (w : FVec Ideal S1x2048x2048 .bf16) (ρ : Fin 256) (d : Fin 2048) :
    k0_pay5 (F := Ideal) v x g w nw sc sh (ix2 ρ d) = k0_pay4 (F := Ideal) v x g w nw sc sh (ix2 ρ d) := by
  pointwise [k0_pay5]

theorem slt36 (l : Fin 128) : IntOp.cmpi CmpIPredicate.slt (BitVec.ofNat 32 (l : ℕ)) 36#32 = BitVec.ofBool (decide ((l : ℕ) < 36)) := by
  revert l; decide

/-- A row's logits, real numbers given: the low part of the row is zero. -/
theorem pay1_at (h : FVec Ideal S256x2048 .f32) (w : FVec Ideal S128x2048 .f32) (b : FVec Ideal S1x128 .f32) (ρ : Fin 256) (l : Fin 128)
    (hh : ∀ k, IsReal (h (ix2 ρ k))) :
    k0_pay1 (F := Ideal) h w b (ix2 ρ l) = (if (l : ℕ) < 36 then ∑ k : Fin 2048, h (ix2 ρ k) * w (ix2 l k) else 0) + b (ix2 0 l) := by
  pointwise [k0_pay1]
  rw [slt36]
  congr 1
  by_cases hl : (l : ℕ) < 36
  · simp [hl, Scalar.select, fun k => (hh k).sub_self]
  · simp [hl, Scalar.select]
end Cert.Tail

end
-- ==== Proof.Tail.Rows.lean ====
/- Writing a run of rows, or a run of one row's entries, into an array at a fixed place. -/
module

public import Idealize.ShloMosaic.Lib.Routing.OpsOne
public import Idealize.ShloMosaic.Lib.ValueIdx

@[expose] public section

namespace Cert.Tail

open Idealize.ShloMosaic Idealize.ShloMosaic.ValueIdx Idealize.ShloMosaic.Routing

/-- The rows of the update replace the rows from the `k`-th on; the other rows stay. -/
theorem set_rows {α : Type} {N C U : Nat} (wf : ScatterDims.WF (shape2 N C) (shape1 1) (shape2 U C) [0, 1] [] [0] 0)
    (x : (shape2 N C).Idx → α) (idx : IVec (shape1 1) 32) (upd : (shape2 U C).Idx → α) (k : Nat)
    (hidx : (idx (ix1 0)).toInt = (k : Int)) (e : Fin N) (c : Fin C) :
    Host.scatter (⟨[0, 1], [], [0], 0, wf⟩ : ScatterDims (shape2 N C) (shape1 1) (shape2 U C)) (fun _ b => b) x idx upd (ix2 e c)
      = if h : k ≤ e.val ∧ e.val - k < U then upd (ix2 ⟨e.val - k, h.2⟩ c) else x (ix2 e c) := by
  set d : ScatterDims (shape2 N C) (shape1 1) (shape2 U C) := ⟨[0, 1], [], [0], 0, wf⟩ with hd
  have hw : ∀ (u : Fin U) (q : Fin C), d.window (ix2 u q) 0 = u.val ∧ d.window (ix2 u q) 1 = q.val := fun u q => ⟨rfl, rfl⟩
  have hs : ∀ (u : Fin U) (q : Fin C), d.start (ix2 u q) idx 0 = (k : Int) ∧ d.start (ix2 u q) idx 1 = 0 := by
    intro u q
    refine ⟨?_, rfl⟩
    rw [← hidx]
    show (idx _).toInt = _
    refine congrArg (fun i => (idx i).toInt) ?_
    funext b
    match b with
    | ⟨0, _⟩ => exact Subsingleton.elim (α := Fin 1) _ _
  have lands : ∀ (u : Fin U) (q : Fin C), d.resultIdx? (ix2 u q) idx = some (ix2 e c) ↔ k + u.val = e.val ∧ q = c := by
    intro u q
    rw [resultIdx?_ix2, (hs u q).1, (hs u q).2, (hw u q).1, (hw u q).2, Fin.ext_iff]
    omega
  by_cases h : k ≤ e.val ∧ e.val - k < U
  · rw [dif_pos h]
    refine scatter_set_hit d x idx upd _ _ (fun j hj => ?_) (ix2 ⟨e.val - k, h.2⟩ c) ((lands _ _).2 ⟨by show k + (e.val - k) = _; omega, rfl⟩)
    rw [eq_ix2 j] at hj ⊢
    obtain ⟨h1, h2⟩ := (lands _ _).1 hj
    rw [h2]
    exact congrArg (fun u => upd (ix2 u c)) (Fin.ext (by show (j 0).val = e.val - k; omega))
  · rw [dif_neg h]
    refine scatter_set_miss d x idx upd _ fun j hj => h ?_
    rw [eq_ix2 j] at hj
    obtain ⟨h1, _⟩ := (lands _ _).1 hj
    have : (j 0).val < U := (j 0).isLt
    omega

/-- The entries of the update replace the entries of the one row from the `k`-th on; the others stay. -/
theorem set_cells {α : Type} {C U : Nat} (wf : ScatterDims.WF (shape2 1 C) (shape1 2) (shape1 U) [0] [0] [0, 1] 0)
    (x : (shape2 1 C).Idx → α) (idx : IVec (shape1 2) 32) (upd : (shape1 U).Idx → α) (k : Nat)
    (h0 : (idx (ix1 0)).toInt = 0) (h1 : (idx (ix1 1)).toInt = (k : Int)) (c : Fin C) :
    Host.scatter (⟨[0], [0], [0, 1], 0, wf⟩ : ScatterDims (shape2 1 C) (shape1 2) (shape1 U)) (fun _ b => b) x idx upd (ix2 0 c)
      = if h : k ≤ c.val ∧ c.val - k < U then upd (ix1 ⟨c.val - k, h.2⟩) else x (ix2 0 c) := by
  set d : ScatterDims (shape2 1 C) (shape1 2) (shape1 U) := ⟨[0], [0], [0, 1], 0, wf⟩ with hd
  have hw : ∀ (u : Fin U), d.window (ix1 u) 0 = 0 ∧ d.window (ix1 u) 1 = u.val := fun u => ⟨rfl, rfl⟩
  have hs : ∀ (u : Fin U), d.start (ix1 u) idx 0 = 0 ∧ d.start (ix1 u) idx 1 = (k : Int) := by
    intro u
    rw [start_pair d rfl rfl, start_pair d rfl rfl]
    exact ⟨h0, h1⟩
  have lands : ∀ (u : Fin U), d.resultIdx? (ix1 u) idx = some (ix2 0 c) ↔ k + u.val = c.val := by
    intro u
    rw [resultIdx?_ix2, (hs u).1, (hs u).2, (hw u).1, (hw u).2]
    simp only [Fin.val_zero]
    omega
  by_cases h : k ≤ c.val ∧ c.val - k < U
  · rw [dif_pos h]
    refine scatter_set_hit d x idx upd _ _ (fun j hj => ?_) (ix1 ⟨c.val - k, h.2⟩) ((lands _).2 (by show k + (c.val - k) = _; omega))
    rw [eq_ix1 j] at hj ⊢
    have h1 := (lands _).1 hj
    exact congrArg (fun u => upd (ix1 u)) (Fin.ext (by show (j 0).val = c.val - k; omega))
  · rw [dif_neg h]
    refine scatter_set_miss d x idx upd _ fun j hj => h ?_
    rw [eq_ix1 j] at hj
    have h1 := (lands _).1 hj
    have : (j 0).val < U := (j 0).isLt
    omega

end Cert.Tail
-- ==== Proof.Tail.Host.lean ====
/- The arrays the tail's caller prepares, at an index. -/
module

public import proofs.«01_k».proof.Proof.Gen.Kernel3Ideal.Frame
public import proofs.«01_k».proof.Proof.Tail.Rows
public import proofs.«01_k».proof.Proof.Tail.Form
public import Idealize.ShloMosaic.Lib.Pointwise
public import Idealize.ShloMosaic.Lib.Claim
public import Idealize.ShloMosaic.Lib.StableHlo.RunRead
public import Idealize.ShloMosaic.Lib.Pipeline.ValueKit

@[expose] public section

set_option maxRecDepth 16384

noncomputable section

namespace Cert.Tail

open Cert.Kernel3Ideal Cert.Kernel3Ideal.Gen Idealize.ShloMosaic Idealize.ShloMosaic.TcCoe Idealize.SL.Sem

variable (m : (ℓ : Loc nD τ sig) → Buf (Elt Ideal) ℓ) (c : Dev nD)

theorem host16 (l : Fin 4) (k : Fin 1024) (d : Fin 2048) : (V m c main_v16 : FVec Ideal S4x1024x2048 .bf16) (ix3 l k d)
    = (m ((c : Thread nD τ).loc main_arg3) : FVec Ideal S4x1024x2048 .f32) (ix3 l k d) := by
  have e : (V m c main_v16 : FVec Ideal S4x1024x2048 .bf16) = (truncf .bf16 (m ((c : Thread nD τ).loc main_arg3) : FVec Ideal S4x1024x2048 .f32) bitsLt_bf16_f32 : FVec Ideal S4x1024x2048 .bf16) := by
    show StableHlo.after hostOps0 _ _ = _
    after_reads_simp
  rw [e]; pointwise

theorem host17 (l : Fin 4) (k : Fin 1024) (d : Fin 2048) : (V m c main_v17 : FVec Ideal S4x1024x2048 .bf16) (ix3 l k d)
    = (m ((c : Thread nD τ).loc main_arg4) : FVec Ideal S4x1024x2048 .f32) (ix3 l k d) := by
  have e : (V m c main_v17 : FVec Ideal S4x1024x2048 .bf16) = (truncf .bf16 (m ((c : Thread nD τ).loc main_arg4) : FVec Ideal S4x1024x2048 .f32) bitsLt_bf16_f32 : FVec Ideal S4x1024x2048 .bf16) := by
    show StableHlo.after hostOps0 _ _ = _
    after_reads_simp
  rw [e]; pointwise

theorem host18 (l : Fin 4) (k : Fin 2048) (d : Fin 2048) : (V m c main_v18 : FVec Ideal S4x2048x2048 .bf16) (ix3 l k d)
    = (m ((c : Thread nD τ).loc main_arg5) : FVec Ideal S4x2048x2048 .f32) (ix3 l k d) := by
  have e : (V m c main_v18 : FVec Ideal S4x2048x2048 .bf16) = (truncf .bf16 (m ((c : Thread nD τ).loc main_arg5) : FVec Ideal S4x2048x2048 .f32) bitsLt_bf16_f32 : FVec Ideal S4x2048x2048 .bf16) := by
    show StableHlo.after hostOps0 _ _ = _
    after_reads_simp
  rw [e]; pointwise

theorem host19 (d : Fin 2048) : (V m c main_v19 : FVec Ideal S1x2048 .f32) (ix2 0 d)
    = (m ((c : Thread nD τ).loc main_arg8) : FVec Ideal S2048 .f32) (ix1 d) := by
  have e : (V m c main_v19 : FVec Ideal S1x2048 .f32) = shapeCast _ (m ((c : Thread nD τ).loc main_arg8) : FVec Ideal S2048 .f32) shapeCasts_S2048_S1x2048 := by
    show StableHlo.after hostOps0 _ _ = _
    after_reads_simp
    rfl
  rw [e]; pointwise

/-- The router's weights, transposed and one under the other: the groups' four rows first, then the experts'. -/
theorem host6 (l : Fin 128) (k : Fin 2048) (hl : (l : ℕ) < 36) : (V m c main_v6 : FVec Ideal S128x2048 .f32) (ix2 l k)
    = if h : (l : ℕ) < 4 then (m ((c : Thread nD τ).loc main_arg9) : FVec Ideal S2048x4 .f32) (ix2 k ⟨l, h⟩)
      else (m ((c : Thread nD τ).loc main_arg11) : FVec Ideal S2048x32 .f32) (ix2 k ⟨l - 4, by omega⟩) := by
  have e : (V m c main_v6 : FVec Ideal S128x2048 .f32)
      = Host.scatter scatter_S128x2048_S1_S32x2048_01_n_0_0 (fun _ b => b)
          (Host.scatter scatter_S128x2048_S1_S4x2048_01_n_0_0 (fun _ b => b)
            (broadcastInDim S128x2048 ![] bcast_S_S128x2048 (constant (F := Ideal) S_ .f32 0x00000000#32))
            (broadcastInDim S1 ![] bcast_S_S1 (constantI S_ 32 0#32))
            (transpose S4x2048 [1, 0] (m ((c : Thread nD τ).loc main_arg9) : FVec Ideal S2048x4 .f32) transposes_S2048x4_S4x2048_1_0))
          (broadcastInDim S1 ![] bcast_S_S1 (constantI S_ 32 4#32))
          (transpose S32x2048 [1, 0] (m ((c : Thread nD τ).loc main_arg11) : FVec Ideal S2048x32 .f32) transposes_S2048x32_S32x2048_1_0) := by
    show StableHlo.after hostOps0 _ _ = _
    after_reads_simp
  rw [e]
  refine (set_rows _ _ _ _ 4 (by pointwise; rfl) l k).trans ?_
  by_cases h : (l : ℕ) < 4
  · rw [dif_neg (by omega), dif_pos h]
    refine (set_rows _ _ _ _ 0 (by pointwise; rfl) l k).trans ?_
    rw [dif_pos (by omega)]
    pointwise
  · rw [dif_pos (by omega), dif_neg h]
    pointwise

/-- The router's offsets, one after the other, and zeros. -/
theorem host15 (l : Fin 128) : (V m c main_v15 : FVec Ideal S1x128 .f32) (ix2 0 l)
    = if h : (l : ℕ) < 4 then (m ((c : Thread nD τ).loc main_arg10) : FVec Ideal S4 .f32) (ix1 ⟨l, h⟩)
      else if h' : (l : ℕ) < 36 then (m ((c : Thread nD τ).loc main_arg12) : FVec Ideal S32 .f32) (ix1 ⟨l - 4, by omega⟩) else (0 : EReal) := by
  have e : (V m c main_v15 : FVec Ideal S1x128 .f32)
      = Host.scatter scatter_S1x128_S2_S32_0_0_01_0 (fun _ b => b)
          (Host.scatter scatter_S1x128_S2_S4_0_0_01_0 (fun _ b => b)
            (broadcastInDim S1x128 ![] bcast_S_S1x128 (constant (F := Ideal) S_ .f32 0x00000000#32))
            (concatenate S2 0 [⟨S1, broadcastInDim S1 ![] bcast_S_S1 (constantI S_ 32 0#32)⟩, ⟨S1, broadcastInDim S1 ![] bcast_S_S1 (constantI S_ 32 0#32)⟩] concatenates_S1_S1_S2_d0)
            (m ((c : Thread nD τ).loc main_arg10) : FVec Ideal S4 .f32))
          (concatenate S2 0 [⟨S1, broadcastInDim S1 ![] bcast_S_S1 (constantI S_ 32 0#32)⟩, ⟨S1, broadcastInDim S1 ![] bcast_S_S1 (constantI S_ 32 4#32)⟩] concatenates_S1_S1_S2_d0)
          (m ((c : Thread nD τ).loc main_arg12) : FVec Ideal S32 .f32) := by
    show StableHlo.after hostOps0 _ _ = _
    after_reads_simp
    rfl
  rw [e]
  refine (set_cells _ _ _ _ 4 (by pointwise; rfl) (by pointwise; rfl) l).trans ?_
  by_cases h : (l : ℕ) < 4
  · rw [dif_neg (by omega), dif_pos h]
    refine (set_cells _ _ _ _ 0 (by pointwise; rfl) (by pointwise; rfl) l).trans ?_
    rw [dif_pos (by omega)]
    rfl
  · rw [dif_neg h]
    by_cases h' : (l : ℕ) < 36
    · rw [dif_pos (by omega), dif_pos h']
      rfl
    · rw [dif_neg (by omega), dif_neg h']
      refine (set_cells _ _ _ _ 0 (by pointwise; rfl) (by pointwise; rfl) l).trans ?_
      rw [dif_neg (by omega)]
      pointwise

end Cert.Tail

end
-- ==== Proof.Tail.Blocks.lean ====
/- The blocks the tail's body finds, at an index of the arguments. -/
module

public import proofs.«01_k».proof.Proof.Tail.Pay
public import proofs.«01_k».proof.Proof.Tail.Host

@[expose] public section

set_option maxRecDepth 16384

noncomputable section

namespace Cert.Tail

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 7] ∧ win0_3.index t = ![t.val, 8]
    ∧ win0_4.index t = ![t.val, 9] ∧ win0_5.index t = ![t.val, 10] ∧ win0_6.index t = ![0, 0, 0] ∧ win0_7.index t = ![0, 0, 0] ∧ win0_8.index t = ![0, 0, 0]
    ∧ win0_9.index t = ![t.val, 0] ∧ win0_10.index t = ![t.val / 8, 0, 0] ∧ win0_11.index t = ![0, 0] ∧ win0_12.index t = ![0, 0] ∧ win0_13.index t = ![0, 0]
    ∧ win0_14.index t = ![t.val, 0] ∧ win0_15.index t = ![t.val, 0] ∧ win0_16.index t = ![t.val, 0] :=
  (by decide +kernel : ∀ t : Fin grid0.N, _)

/-- The row of the arrays that row `ρ` of block `t` is. -/
abbrev rw' (t : Fin cfg0.N) (ρ : Fin 256) : Fin 8192 := ⟨t.val * 256 + ρ, by have : t.val < 32 := t.isLt; omega⟩

section
variable (c : Dev nD) (t : Fin cfg0.N)

theorem b0 (ρ : Fin 256) (k : Fin 1024) : (iblk m c 0 t : FVec Ideal S256x1024 .bf16) (ix2 ρ k)
    = (m ((c : Thread nD τ).loc main_arg0) : FVec Ideal S8192x1024 .bf16) (ix2 (rw' t ρ) k) := by
  rw [← V_main_arg0 m c]
  blk_ext [iblk, idx t]
theorem b1 (ρ : Fin 256) (k : Fin 1024) : (iblk m c 1 t : FVec Ideal S256x1024 .bf16) (ix2 ρ k)
    = (m ((c : Thread nD τ).loc main_arg1) : FVec Ideal S8192x1024 .bf16) (ix2 (rw' t ρ) k) := by
  rw [← V_main_arg1 m c]
  blk_ext [iblk, idx t]
theorem b2 (ρ : Fin 256) (k : Fin 1024) : (iblk m c 2 t : FVec Ideal S256x1024 .bf16) (ix2 ρ k)
    = (m ((c : Thread nD τ).loc main_arg2) : FVec Ideal S8192x11264 .bf16) (ix2 (rw' t ρ) ⟨7168 + k, by omega⟩) := by
  rw [← V_main_arg2 m c]
  blk_ext [iblk, idx t]
theorem b3 (ρ : Fin 256) (k : Fin 1024) : (iblk m c 3 t : FVec Ideal S256x1024 .bf16) (ix2 ρ k)
    = (m ((c : Thread nD τ).loc main_arg2) : FVec Ideal S8192x11264 .bf16) (ix2 (rw' t ρ) ⟨8192 + k, by omega⟩) := by
  rw [← V_main_arg2 m c]
  blk_ext [iblk, idx t]
theorem b4 (ρ : Fin 256) (k : Fin 1024) : (iblk m c 4 t : FVec Ideal S256x1024 .bf16) (ix2 ρ k)
    = (m ((c : Thread nD τ).loc main_arg2) : FVec Ideal S8192x11264 .bf16) (ix2 (rw' t ρ) ⟨9216 + k, by omega⟩) := by
  rw [← V_main_arg2 m c]
  blk_ext [iblk, idx t]
theorem b5 (ρ : Fin 256) (k : Fin 1024) : (iblk m c 5 t : FVec Ideal S256x1024 .bf16) (ix2 ρ k)
    = (m ((c : Thread nD τ).loc main_arg2) : FVec Ideal S8192x11264 .bf16) (ix2 (rw' t ρ) ⟨10240 + k, by omega⟩) := by
  rw [← V_main_arg2 m c]
  blk_ext [iblk, idx t]
theorem b6 (k : Fin 1024) (d : Fin 2048) : (iblk m c 6 t : FVec Ideal S1x1024x2048 .bf16) (ix3 0 k d)
    = (m ((c : Thread nD τ).loc main_arg3) : FVec Ideal S4x1024x2048 .f32) (ix3 0 k d) := by
  rw [← host16 m c]
  blk_ext [iblk, idx t]
theorem b7 (k : Fin 1024) (d : Fin 2048) : (iblk m c 7 t : FVec Ideal S1x1024x2048 .bf16) (ix3 0 k d)
    = (m ((c : Thread nD τ).loc main_arg4) : FVec Ideal S4x1024x2048 .f32) (ix3 0 k d) := by
  rw [← host17 m c]
  blk_ext [iblk, idx t]
theorem b8 (k : Fin 2048) (d : Fin 2048) : (iblk m c 8 t : FVec Ideal S1x2048x2048 .bf16) (ix3 0 k d)
    = (m ((c : Thread nD τ).loc main_arg5) : FVec Ideal S4x2048x2048 .f32) (ix3 0 k d) := by
  rw [← host18 m c]
  blk_ext [iblk, idx t]
theorem b9 (ρ : Fin 256) (k : Fin 2048) : (iblk m c 9 t : FVec Ideal S256x2048 .f32) (ix2 ρ k)
    = (m ((c : Thread nD τ).loc main_arg6) : FVec Ideal S8192x2048 .f32) (ix2 (rw' t ρ) k) := by
  rw [← V_main_arg6 m c]
  blk_ext [iblk, idx t]
theorem b10 (ρ : Fin 256) (j : Fin 6) (d : Fin 2048) : (iblk m c 10 t : FVec Ideal S1x6x2048 .f32) (ix3 0 j d)
    = (m ((c : Thread nD τ).loc main_arg7) : FVec Ideal S4x6x2048 .f32) (ix3 (bt (rw' t ρ)) j d) := by
  have h : (bt (rw' t ρ)) = ⟨t.val / 8, by have : t.val < 32 := t.isLt; omega⟩ :=
    Fin.ext (by show (t.val * 256 + (ρ : ℕ)) / 2048 = t.val / 8; omega)
  rw [h, ← V_main_arg7 m c]
  blk_ext [iblk, idx t]
theorem b11 (d : Fin 2048) : (iblk m c 11 t : FVec Ideal S1x2048 .f32) (ix2 0 d)
    = (m ((c : Thread nD τ).loc main_arg8) : FVec Ideal S2048 .f32) (ix1 d) := by
  rw [← host19 m c]
  blk_ext [iblk, idx t]
theorem b12 (l : Fin 128) (k : Fin 2048) : (iblk m c 12 t : FVec Ideal S128x2048 .f32) (ix2 l k) = (V m c main_v6 : FVec Ideal S128x2048 .f32) (ix2 l k) := by
  unfold iblk
  generalize V m c = W
  show W main_v6 _ = W main_v6 _
  refine congrArg _ ?_
  funext a
  apply Fin.ext
  match a with
  | ⟨0, _⟩ => blk_simp [idx t]
  | ⟨1, _⟩ => blk_simp [idx t]
theorem b13 (l : Fin 128) : (iblk m c 13 t : FVec Ideal S1x128 .f32) (ix2 0 l) = (V m c main_v15 : FVec Ideal S1x128 .f32) (ix2 0 l) := by
  blk_ext [iblk, idx t]
end

end Cert.Tail

end
-- ==== Proof.Tail.Arr.lean ====
/- The tail's three result arrays as functions of its arguments. -/
module

public import proofs.«01_k».proof.Proof.Tail.Blocks

@[expose] public section

set_option maxRecDepth 16384

noncomputable section

namespace Cert.Tail

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

theorem ld2 (x : FVec Ideal S1x6x2048 .f32) (d : Fin 2048) :
    (View.ld (Val := Elt Ideal) (e' := .f32) x r0_3 : FVec Ideal S1x1x2048 .f32) (ix3 0 0 d) = x (ix3 0 2 d) := by
  show x _ = x _
  refine congrArg x ?_
  funext a
  apply Fin.ext
  match a with
  | ⟨0, _⟩ => rfl
  | ⟨1, _⟩ => rfl
  | ⟨2, _⟩ => show 0 + 1 * (d : ℕ) = d; omega

theorem ld4 (x : FVec Ideal S1x6x2048 .f32) (d : Fin 2048) :
    (View.ld (Val := Elt Ideal) (e' := .f32) x r0_6 : FVec Ideal S1x1x2048 .f32) (ix3 0 0 d) = x (ix3 0 4 d) := by
  show x _ = x _
  refine congrArg x ?_
  funext a
  apply Fin.ext
  match a with
  | ⟨0, _⟩ => rfl
  | ⟨1, _⟩ => rfl
  | ⟨2, _⟩ => show 0 + 1 * (d : ℕ) = d; omega

theorem ld3 (x : FVec Ideal S1x6x2048 .f32) (d : Fin 2048) :
    (View.ld (Val := Elt Ideal) (e' := .f32) x r0_7 : FVec Ideal S1x1x2048 .f32) (ix3 0 0 d) = x (ix3 0 3 d) := by
  show x _ = x _
  refine congrArg x ?_
  funext a
  apply Fin.ext
  match a with
  | ⟨0, _⟩ => rfl
  | ⟨1, _⟩ => rfl
  | ⟨2, _⟩ => show 0 + 1 * (d : ℕ) = d; omega

/-! ### The arguments by name -/

section
variable (c : Dev nD)
abbrev aA : Mat 8192 1024 := m ((c : Thread nD τ).loc main_arg0)
abbrev aH : Mat 8192 1024 := m ((c : Thread nD τ).loc main_arg1)
abbrev aP : Mat 8192 11264 := m ((c : Thread nD τ).loc main_arg2)
abbrev aWa : Cube 4 1024 2048 := m ((c : Thread nD τ).loc main_arg3)
abbrev aWm : Cube 4 1024 2048 := m ((c : Thread nD τ).loc main_arg4)
abbrev aWo : Cube 4 2048 2048 := m ((c : Thread nD τ).loc main_arg5)
abbrev aX : Mat 8192 2048 := m ((c : Thread nD τ).loc main_arg6)
abbrev aM : Cube 4 6 2048 := m ((c : Thread nD τ).loc main_arg7)
abbrev aN : Row 2048 := m ((c : Thread nD τ).loc main_arg8)
abbrev aCw : Mat 2048 4 := m ((c : Thread nD τ).loc main_arg9)
abbrev aCb : Row 4 := m ((c : Thread nD τ).loc main_arg10)
abbrev aFw : Mat 2048 32 := m ((c : Thread nD τ).loc main_arg11)
abbrev aFb : Row 32 := m ((c : Thread nD τ).loc main_arg12)

/-- Every entry of every argument that the rows depend on is real. -/
structure Reals : Prop where
  A : ∀ i, IsReal (aA m c i)
  H : ∀ i, IsReal (aH m c i)
  P : ∀ i, IsReal (aP m c i)
  Wa : ∀ i, IsReal (aWa m c i)
  Wm : ∀ i, IsReal (aWm m c i)
  Wo : ∀ i, IsReal (aWo m c i)
  X : ∀ i, IsReal (aX m c i)
  M : ∀ i, IsReal (aM m c i)
  N : ∀ i, IsReal (aN m c i)

abbrev XO (R : Fin 8192) (d : Fin 2048) : EReal := xo (aA m c) (aH m c) (aP m c) (aWa m c) (aWm m c) (aWo m c) (aX m c) (aM m c) R d
abbrev HO (R : Fin 8192) (d : Fin 2048) : EReal := ho (aA m c) (aH m c) (aP m c) (aWa m c) (aWm m c) (aWo m c) (aX m c) (aM m c) (aN m c) R d
abbrev LO (R : Fin 8192) (l : Fin 128) : EReal := logit (aCw m c) (aCb m c) (aFw m c) (aFb m c) (HO m c R) l

variable {m c} (hr : Reals m c)
include hr

theorem merged_real (R : Fin 8192) (d : Fin 2048) : IsReal (merged (aA m c) (aH m c) (aP m c) (aWa m c) (aWm m c) R d) :=
  ((hr.P _).sg.mul (IsReal.sum fun k => (hr.A _).mul (hr.Wa _))).add ((hr.P _).sg.mul (IsReal.sum fun k => (hr.H _).mul (hr.Wm _)))
theorem xo_real (R : Fin 8192) (d : Fin 2048) : IsReal (XO m c R d) :=
  (hr.X _).add ((hr.M _).mul (IsReal.sum fun k => (merged_real hr _ _).mul (hr.Wo _)))
theorem ho_real (R : Fin 8192) (d : Fin 2048) : IsReal (HO m c R d) :=
  normed_real _ _ _ _ d (xo_real hr R) (hr.N _) (hr.M _) (hr.M _)

/-! ### One block -/
variable (t : Fin cfg0.N)

/-- The gates of a row, by the hyperbolic tangent or not. -/
theorem gateA (ρ : Fin 256) (d : Fin 2048) : sgt (cat (iblk m c 2 t) (iblk m c 3 t) ρ d) = sg (aP m c (ix2 (rw' t ρ) ⟨7168 + d, by omega⟩)) := by
  have e : cat (iblk m c 2 t) (iblk m c 3 t) ρ d = aP m c (ix2 (rw' t ρ) ⟨7168 + d, by omega⟩) := by
    unfold cat
    split
    · exact b2 m c t ρ _
    · refine (b3 m c t ρ _).trans (congrArg (fun j => aP m c (ix2 (rw' t ρ) j)) (Fin.ext ?_))
      show 8192 + ((d : ℕ) - 1024) = 7168 + d
      omega
  obtain ⟨x, hx⟩ := hr.P (ix2 (rw' t ρ) ⟨7168 + d, by omega⟩)
  rw [e, hx, sgt_eq]
theorem gateM (ρ : Fin 256) (d : Fin 2048) : sgt (cat (iblk m c 4 t) (iblk m c 5 t) ρ d) = sg (aP m c (ix2 (rw' t ρ) ⟨9216 + d, by omega⟩)) := by
  have e : cat (iblk m c 4 t) (iblk m c 5 t) ρ d = aP m c (ix2 (rw' t ρ) ⟨9216 + d, by omega⟩) := by
    unfold cat
    split
    · exact b4 m c t ρ _
    · refine (b5 m c t ρ _).trans (congrArg (fun j => aP m c (ix2 (rw' t ρ) j)) (Fin.ext ?_))
      show 10240 + ((d : ℕ) - 1024) = 9216 + d
      omega
  obtain ⟨x, hx⟩ := hr.P (ix2 (rw' t ρ) ⟨9216 + d, by omega⟩)
  rw [e, hx, sgt_eq]

theorem pt_merged (ρ : Fin 256) (d : Fin 2048) :
    k0_pay2 (F := Ideal) (iblk m c 0 t) (iblk m c 6 t) (iblk m c 1 t) (iblk m c 7 t) (iblk m c 2 t) (iblk m c 3 t) (iblk m c 4 t) (iblk m c 5 t) (ix2 ρ d)
      = merged (aA m c) (aH m c) (aP m c) (aWa m c) (aWm m c) (rw' t ρ) d := by
  rw [pay2_at, gateA hr, gateM hr]
  unfold merged
  simp only [b0, b1, b6, b7]
  rfl

abbrev mg : FVec Ideal S256x2048 .f32 :=
  k0_pay2 (F := Ideal) (iblk m c 0 t) (iblk m c 6 t) (iblk m c 1 t) (iblk m c 7 t) (iblk m c 2 t) (iblk m c 3 t) (iblk m c 4 t) (iblk m c 5 t)

theorem pt_x (g : FVec Ideal S1x1x2048 .f32) (ρ : Fin 256) (d : Fin 2048) (hg : g (ix3 0 0 d) = aM m c (ix3 (bt (rw' t ρ)) 2 d)) :
    k0_pay3 (F := Ideal) (mg (m := m) (c := c) t) (iblk m c 9 t) g (iblk m c 8 t) (ix2 ρ d) = XO m c (rw' t ρ) d := by
  rw [pay3_at, b9, hg]
  unfold XO xo
  refine congrArg₂ _ rfl (congrArg₂ _ rfl (Finset.sum_congr rfl fun k _ => ?_))
  rw [show mg (m := m) (c := c) t (ix2 ρ k) = _ from pt_merged hr t ρ k, b8]
  rfl

theorem pt_h (g sc sh : FVec Ideal S1x1x2048 .f32) (ρ : Fin 256) (d : Fin 2048) (hg : ∀ d, g (ix3 0 0 d) = aM m c (ix3 (bt (rw' t ρ)) 2 d))
    (hsc : sc (ix3 0 0 d) = aM m c (ix3 (bt (rw' t ρ)) 4 d)) (hsh : sh (ix3 0 0 d) = aM m c (ix3 (bt (rw' t ρ)) 3 d)) :
    k0_pay4 (F := Ideal) (mg (m := m) (c := c) t) (iblk m c 9 t) g (iblk m c 8 t) (iblk m c 11 t) sc sh (ix2 ρ d) = HO m c (rw' t ρ) d := by
  rw [pay4_at, b11, hsc, hsh]
  unfold HO ho
  rw [show (fun d => k0_pay3 (F := Ideal) (mg (m := m) (c := c) t) (iblk m c 9 t) g (iblk m c 8 t) (ix2 ρ d)) = XO m c (rw' t ρ) from
    funext fun d => pt_x hr t g ρ d (hg d)]
  rfl

theorem pt_l (g sc sh : FVec Ideal S1x1x2048 .f32) (ρ : Fin 256) (l : Fin 128) (hg : ∀ d, g (ix3 0 0 d) = aM m c (ix3 (bt (rw' t ρ)) 2 d))
    (hsc : ∀ d, sc (ix3 0 0 d) = aM m c (ix3 (bt (rw' t ρ)) 4 d)) (hsh : ∀ d, sh (ix3 0 0 d) = aM m c (ix3 (bt (rw' t ρ)) 3 d)) :
    k0_pay1 (F := Ideal) (k0_pay4 (F := Ideal) (mg (m := m) (c := c) t) (iblk m c 9 t) g (iblk m c 8 t) (iblk m c 11 t) sc sh) (iblk m c 12 t) (iblk m c 13 t) (ix2 ρ l)
      = LO m c (rw' t ρ) l := by
  have hH : ∀ k, k0_pay4 (F := Ideal) (mg (m := m) (c := c) t) (iblk m c 9 t) g (iblk m c 8 t) (iblk m c 11 t) sc sh (ix2 ρ k) = HO m c (rw' t ρ) k :=
    fun k => pt_h hr t g sc sh ρ k hg (hsc k) (hsh k)
  rw [pay1_at _ _ _ _ _ fun k => by rw [hH]; exact ho_real hr _ _]
  rw [b13, host15]
  unfold LO logit
  by_cases h4 : (l : ℕ) < 4
  · rw [if_pos (by omega), dif_pos h4, dif_pos h4]
    refine congrArg₂ _ (Finset.sum_congr rfl fun k _ => ?_) rfl
    rw [hH, b12, host6 m c l k (by omega), dif_pos h4]
    rfl
  · rw [dif_neg h4, dif_neg h4]
    by_cases h36 : (l : ℕ) < 36
    · rw [if_pos h36, dif_pos h36, dif_pos h36]
      refine congrArg₂ _ (Finset.sum_congr rfl fun k _ => ?_) rfl
      rw [hH, b12, host6 m c l k h36, dif_neg h4]
      rfl
    · rw [if_neg h36, dif_neg h36, dif_neg h36, add_zero]

/-! ### The arrays -/

theorem final14 : (dats m 0 c).arrAt 14 (cfgs 0).N = (fun i => XO m c (i 0) (i 1) : FVec Ideal S8192x2048 .f32) := by
  refine (dats m 0 c).arrAt_eq_of_covers 14 _ (by decide +kernel) fun t _ y => ?_
  blk_simp
  rw [after0_14]
  obtain ⟨ρ, d, rfl⟩ : ∃ (ρ : Fin 256) (d : Fin 2048), y = ix2 ρ d := ⟨y 0, y 1, by idx_vars y⟩
  have h0 : (win0_14.blk t).view.emb (ix2 ρ d) 0 = rw' t ρ := Fin.ext (by blk_simp [idx t])
  have h1 : (win0_14.blk t).view.emb (ix2 ρ d) 1 = d := Fin.ext (by blk_simp [idx t])
  rw [h0, h1]
  frame_out
  unfold k0_pay6
  frame_out
  exact pt_x hr t _ ρ d ((ld2 _ d).trans (b10 m c t ρ 2 d))

theorem final15 : (dats m 0 c).arrAt 15 (cfgs 0).N = (fun i => HO m c (i 0) (i 1) : FVec Ideal S8192x2048 .bf16) := by
  refine (dats m 0 c).arrAt_eq_of_covers 15 _ (by decide +kernel) fun t _ y => ?_
  blk_simp
  rw [after0_15]
  obtain ⟨ρ, d, rfl⟩ : ∃ (ρ : Fin 256) (d : Fin 2048), y = ix2 ρ d := ⟨y 0, y 1, by idx_vars y⟩
  have h0 : (win0_15.blk t).view.emb (ix2 ρ d) 0 = rw' t ρ := Fin.ext (by blk_simp [idx t])
  have h1 : (win0_15.blk t).view.emb (ix2 ρ d) 1 = d := Fin.ext (by blk_simp [idx t])
  rw [h0, h1]
  frame_out
  unfold k0_pay6
  frame_out
  refine (pay5_at _ _ _ _ _ _ _ ρ d).trans ?_
  exact pt_h hr t _ _ _ ρ d (fun d => (ld2 _ d).trans (b10 m c t ρ 2 d)) ((ld4 _ d).trans (b10 m c t ρ 4 d)) ((ld3 _ d).trans (b10 m c t ρ 3 d))

theorem final16 : (dats m 0 c).arrAt 16 (cfgs 0).N = (fun i => LO m c (i 0) (i 1) : FVec Ideal S8192x128 .f32) := by
  refine (dats m 0 c).arrAt_eq_of_covers 16 _ (by decide +kernel) fun t _ y => ?_
  blk_simp
  rw [after0_16]
  obtain ⟨ρ, d, rfl⟩ : ∃ (ρ : Fin 256) (d : Fin 128), y = ix2 ρ d := ⟨y 0, y 1, by idx_vars y⟩
  have h0 : (win0_16.blk t).view.emb (ix2 ρ d) 0 = rw' t ρ := Fin.ext (by blk_simp [idx t])
  have h1 : (win0_16.blk t).view.emb (ix2 ρ d) 1 = d := Fin.ext (by blk_simp [idx t])
  rw [h0, h1]
  frame_out
  unfold k0_pay6
  frame_out
  exact pt_l hr t _ _ _ ρ d (fun d => (ld2 _ d).trans (b10 m c t ρ 2 d)) (fun d => (ld4 _ d).trans (b10 m c t ρ 4 d)) (fun d => (ld3 _ d).trans (b10 m c t ρ 3 d))

end

end Cert.Tail

end
-- ==== Proof.Tail.Ref.lean ====
/- The reference's tail as the same formulas. -/
module

public import proofs.«01_k».proof.Proof.Gen.Reference3Ideal.Read
public import proofs.«01_k».proof.Proof.Tail.Form
public import Idealize.ShloMosaic.Lib.Pointwise

@[expose] public section

set_option maxRecDepth 16384

noncomputable section

namespace Cert.Tail

open Cert.Reference3Ideal Cert.Reference3Ideal.Read Idealize.ShloMosaic

variable (A H : FVec Ideal S8192x1024 .bf16) (P : FVec Ideal S8192x11264 .bf16) (Wa Wm : FVec Ideal S4x1024x2048 .f32)
    (Wo : FVec Ideal S4x2048x2048 .f32) (X : FVec Ideal S8192x2048 .f32) (M : FVec Ideal S4x6x2048 .f32) (nw : FVec Ideal S2048 .f32)
    (cw : FVec Ideal S2048x4 .f32) (cb : FVec Ideal S4 .f32) (fw : FVec Ideal S2048x32 .f32) (fb : FVec Ideal S32 .f32)

/-- Row `s` of batch `b`. -/
abbrev row (b : Fin 4) (s : Fin 2048) : Fin 8192 := ⟨b * 2048 + s, by omega⟩

theorem bt_row (b : Fin 4) (s : Fin 2048) : bt (row b s) = b := Fin.ext (by show ((b : ℕ) * 2048 + s) / 2048 = b; omega)
theorem row_split (R : Fin 8192) : row ⟨R / 2048, by omega⟩ ⟨R % 2048, by omega⟩ = R := Fin.ext (by show (R : ℕ) / 2048 * 2048 + R % 2048 = R; omega)

theorem r32 (b : Fin 4) (s d : Fin 2048) : val_main_v32 (F := Ideal) A H P Wa Wm (ix3 b s d) = merged A H P Wa Wm (row b s) d := by
  unfold merged sg
  pointwise [val_main_v32, val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14, val_main_v13, val_main_v12,
    val_main_v8, val_main_v7, val_main_v5, val_main_v4, val_main_v3, val_main_v2, val_main_v1, val_main_v0, val_main_cst, val_main_cst_0, val_main_cst_1, val_main_cst_2]
  rfl

theorem r38 (b : Fin 4) (s d : Fin 2048) : val_main_v38 (F := Ideal) A H P Wa Wm Wo X M (ix3 b s d) = xo A H P Wa Wm Wo X M (row b s) d := by
  unfold xo
  rw [bt_row]
  pointwise [val_main_v38, val_main_v37, val_main_v36, val_main_v35, val_main_v34, val_main_v33, val_main_v9, val_main_v6]
  simp only [r32]
  rfl

theorem r57 (b : Fin 4) (s d : Fin 2048) : val_main_v57 (F := Ideal) A H P Wa Wm Wo X M nw (ix3 b s d) = ho A H P Wa Wm Wo X M nw (row b s) d := by
  unfold ho normed
  rw [bt_row]
  pointwise [val_main_v57, val_main_v56, val_main_v55, val_main_v54, val_main_v53, val_main_v52, val_main_v51, val_main_v50, val_main_v49, val_main_v48, val_main_v47,
    val_main_v46, val_main_v45, val_main_v44, val_main_v43, val_main_v42, val_main_v41, val_main_v40, val_main_v39, val_main_v10, val_main_v11, val_main_cst_3, val_main_cst_4,
    val_main_cst_5, val_main_cst_6]
  simp only [r38]
  rfl

theorem r58 (R : Fin 8192) (d : Fin 2048) : val_main_v58 (F := Ideal) A H P Wa Wm Wo X M nw (ix2 R d) = ho A H P Wa Wm Wo X M nw R d := by
  pointwise [val_main_v58]
  rw [r57, row_split]

theorem r68 (R : Fin 8192) (d : Fin 2048) : val_main_v68 (F := Ideal) A H P Wa Wm Wo X M (ix2 R d) = xo A H P Wa Wm Wo X M R d := by
  pointwise [val_main_v68]
  rw [r38, row_split]

theorem r69 (R : Fin 8192) (d : Fin 2048) : val_main_v69 (F := Ideal) A H P Wa Wm Wo X M nw (ix2 R d) = ho A H P Wa Wm Wo X M nw R d := by
  pointwise [val_main_v69]
  exact r58 A H P Wa Wm Wo X M nw R d

theorem r70 (R : Fin 8192) (l : Fin 128) : val_main_v70 (F := Ideal) A H P Wa Wm Wo X M nw cw cb fw fb (ix2 R l)
    = logit cw cb fw fb (ho A H P Wa Wm Wo X M nw R) l := by
  unfold logit
  pointwise [val_main_v70, val_main_v67, val_main_v66, val_main_v65, val_main_v64, val_main_v63, val_main_v62, val_main_v61, val_main_v60, val_main_v59,
    val_main_call0_v0, val_main_c]
  simp only [r58]
  have z : (FloatOps.sitofp (F := Ideal) FTy.f32 0#32 : EReal) = 0 := by
    show (((0#32 : BitVec 32).toInt : ℝ) : EReal) = 0
    simp
  by_cases h4 : (l : ℕ) < 4
  · rw [dif_pos (by omega), dif_pos h4, dif_pos h4]
    rfl
  · by_cases h36 : (l : ℕ) < 36
    · rw [dif_pos h36, dif_neg h4, dif_neg h4, dif_pos h36]
      rfl
    · rw [dif_neg h36, dif_neg h4, dif_neg h36]
      exact z

end Cert.Tail

end
-- ==== Proof.Tail.Finite.lean ====
/- What the precondition `finite3` gives: the entries of the first nine arguments are real numbers. -/
module

public import proofs.«01_k».proof.Proof.Gen.Pre_finite3
public import proofs.«01_k».proof.Proof.Finite

@[expose] public section

noncomputable section

namespace Cert.Tail

open Idealize.ShloMosaic

open Cert.Pre_finite3 in
theorem reals3 [Facts] (a0 a1 : FVec Ideal S8192x1024 .bf16) (a2 : FVec Ideal S8192x11264 .bf16) (a3 a4 : FVec Ideal S4x1024x2048 .f32)
    (a5 : FVec Ideal S4x2048x2048 .f32) (a6 : FVec Ideal S8192x2048 .f32) (a7 : FVec Ideal S4x6x2048 .f32) (a8 : FVec Ideal S2048 .f32)
    (a9 : FVec Ideal S2048x4 .f32) (a10 : FVec Ideal S4 .f32) (a11 : FVec Ideal S2048x32 .f32) (a12 : FVec Ideal S32 .f32)
    (h0 : (fn (F := Ideal) a0 a1 a2 a3 a4 a5 a6 a7 a8 a9 a10 a11 a12).1 = (fun _ => 1#1))
    (h1 : (fn (F := Ideal) a0 a1 a2 a3 a4 a5 a6 a7 a8 a9 a10 a11 a12).2.1 = (fun _ => 1#1))
    (h2 : (fn (F := Ideal) a0 a1 a2 a3 a4 a5 a6 a7 a8 a9 a10 a11 a12).2.2.1 = (fun _ => 1#1))
    (h3 : (fn (F := Ideal) a0 a1 a2 a3 a4 a5 a6 a7 a8 a9 a10 a11 a12).2.2.2.1 = (fun _ => 1#1))
    (h4 : (fn (F := Ideal) a0 a1 a2 a3 a4 a5 a6 a7 a8 a9 a10 a11 a12).2.2.2.2.1 = (fun _ => 1#1))
    (h5 : (fn (F := Ideal) a0 a1 a2 a3 a4 a5 a6 a7 a8 a9 a10 a11 a12).2.2.2.2.2.1 = (fun _ => 1#1))
    (h6 : (fn (F := Ideal) a0 a1 a2 a3 a4 a5 a6 a7 a8 a9 a10 a11 a12).2.2.2.2.2.2.1 = (fun _ => 1#1))
    (h7 : (fn (F := Ideal) a0 a1 a2 a3 a4 a5 a6 a7 a8 a9 a10 a11 a12).2.2.2.2.2.2.2.1 = (fun _ => 1#1))
    (h8 : (fn (F := Ideal) a0 a1 a2 a3 a4 a5 a6 a7 a8 a9 a10 a11 a12).2.2.2.2.2.2.2.2 = (fun _ => 1#1)) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal)) := by
  refine ⟨fun i => ?_, fun i => ?_, fun i => ?_, fun i => ?_, fun i => ?_, fun i => ?_, fun i => ?_, fun i => ?_, fun i => ?_⟩
  · have e := congrFun h0 i
    simp only [fn, fn_part1] at e
    pointwise at e
    exact Cert.Finite.real_of_test _ e
  · have e := congrFun h1 i
    simp only [fn, fn_part1] at e
    pointwise at e
    exact Cert.Finite.real_of_test _ e
  · have e := congrFun h2 i
    simp only [fn, fn_part1] at e
    pointwise at e
    exact Cert.Finite.real_of_test _ e
  · have e := congrFun h3 i
    simp only [fn, fn_part1] at e
    pointwise at e
    exact Cert.Finite.real_of_test _ e
  · have e := congrFun h4 i
    simp only [fn, fn_part1] at e
    pointwise at e
    exact Cert.Finite.real_of_test _ e
  · have e := congrFun h5 i
    simp only [fn, fn_part1] at e
    pointwise at e
    exact Cert.Finite.real_of_test _ e
  · have e := congrFun h6 i
    simp only [fn, fn_part1] at e
    pointwise at e
    exact Cert.Finite.real_of_test _ e
  · have e := congrFun h7 i
    simp only [fn, fn_part1] at e
    pointwise at e
    exact Cert.Finite.real_of_test _ e
  · have e := congrFun h8 i
    simp only [fn, fn_part1] at e
    pointwise at e
    exact Cert.Finite.real_of_test _ e

end Cert.Tail

end
-- ==== Proof.Tail.Claims.lean ====
/- The claims about the mixer's tail. -/
module

public import proofs.«01_k».proof.Defs
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Tail.Arr
public import proofs.«01_k».proof.Proof.Tail.Ref
public import proofs.«01_k».proof.Proof.Tail.Finite
public import Idealize.ShloMosaic.Init

@[expose] public section

noncomputable section

namespace Cert.TailClaims

open Idealize.ShloMosaic Idealize.SL.Sem

theorem frame_k : Cert.quiescent_Kernel3 := fun m ρ _ => Cert.Kernel3.Gen.frame m ρ
theorem frame_ki : Cert.quiescent_Kernel3Ideal := fun m ρ _ => Cert.Kernel3Ideal.Gen.frame m ρ
theorem frame_kif : Cert.quiescent_Kernel3Ideal_pre_finite3 := fun m ρ _ => Cert.Kernel3Ideal.Gen.frame m ρ

theorem frame_r : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)
theorem frame_rf : Cert.quiescent_Reference3Ideal_pre_finite3 := fun m ρ _ => frame_r m ρ trivial

theorem preserves : Cert.preserves_Kernel3_Kernel3Ideal := trivial

/-- The precondition gives the real entries that the kernel's side asks for. -/
theorem reals_of (m : (ℓ : Loc Cert.Kernel3Ideal.nD Cert.Kernel3Ideal.τ Cert.Kernel3Ideal.sig) → Buf (Elt Ideal) ℓ)
    (hpre : Cert.Pre_Kernel3Ideal_finite3 m) (c : Dev Cert.Kernel3Ideal.nD) : Cert.Tail.Reals m c := by
  obtain ⟨A, H, P, Wa, Wm, Wo, X, M, N⟩ := Cert.Tail.reals3 _ _ _ _ _ _ _ _ _ _ _ _ _ ((hpre c).1) ((hpre c).2.1) ((hpre c).2.2.1) ((hpre c).2.2.2.1) ((hpre c).2.2.2.2.1) ((hpre c).2.2.2.2.2.1) ((hpre c).2.2.2.2.2.2.1) ((hpre c).2.2.2.2.2.2.2.1) ((hpre c).2.2.2.2.2.2.2.2)
  exact ⟨A, H, P, Wa, Wm, Wo, X, M, N⟩

/-- Both programs run, and their three results agree at every index. -/
theorem algebraic : Cert.algebraic_Kernel3Ideal_Reference3Ideal_pre_finite3 := by
  intro m g m' g' hpre hagree
  refine ⟨fun c => (Cert.Kernel3Ideal.Gen.dats m 0 c).arrAt 14 (Cert.Kernel3Ideal.cfgs 0).N,
    fun c => (Cert.Kernel3Ideal.Gen.dats m 0 c).arrAt 15 (Cert.Kernel3Ideal.cfgs 0).N,
    fun c => (Cert.Kernel3Ideal.Gen.dats m 0 c).arrAt 16 (Cert.Kernel3Ideal.cfgs 0).N, ?_, ?_⟩
  · exact Cert.Kernel3Ideal.Value.run_blocks (F := Ideal) m g
  refine (θ_run Cert.Reference3Ideal.defs _ _).mono (fun _ h c => ⟨(h c).1.trans ?_, (h c).2.1.trans ?_, (h c).2.2.1.trans ?_, (h c).2.2.2⟩)
    (Cert.Reference3Ideal.Value.run (F := Ideal) m' g')
  · obtain ⟨e0, e1, e2, e3, e4, e5, e6, e7, e8, e9, e10, e11, e12⟩ := hagree c
    refine (Cert.Reference3Ideal.Read.val_main_v68_eq _ _ _ _ _ _ _ _).trans ?_
    refine Eq.trans ?_ (Cert.Tail.final14 (reals_of m hpre c)).symm
    rw [e0, e1, e2, e3, e4, e5, e6, e7]
    funext i
    rw [ValueIdx.eq_ix2 i]
    exact Cert.Tail.r68 _ _ _ _ _ _ _ _ (i 0) (i 1)
  · obtain ⟨e0, e1, e2, e3, e4, e5, e6, e7, e8, e9, e10, e11, e12⟩ := hagree c
    refine (Cert.Reference3Ideal.Read.val_main_v69_eq m' c).trans ?_
    refine Eq.trans ?_ (Cert.Tail.final15 (reals_of m hpre c)).symm
    rw [e0, e1, e2, e3, e4, e5, e6, e7, e8]
    funext i
    rw [ValueIdx.eq_ix2 i]
    exact Cert.Tail.r69 _ _ _ _ _ _ _ _ _ (i 0) (i 1)
  · obtain ⟨e0, e1, e2, e3, e4, e5, e6, e7, e8, e9, e10, e11, e12⟩ := hagree c
    refine (Cert.Reference3Ideal.Read.val_main_v70_eq m' c).trans ?_
    refine Eq.trans ?_ (Cert.Tail.final16 (reals_of m hpre c)).symm
    rw [e0, e1, e2, e3, e4, e5, e6, e7, e8, e9, e10, e11, e12]
    funext i
    rw [ValueIdx.eq_ix2 i]
    exact Cert.Tail.r70 _ _ _ _ _ _ _ _ _ _ _ _ _ (i 0) (i 1)

end Cert.TailClaims

end
-- ==== Proof.Ada.Arr.lean ====
/- The modulation's array after the kernel's run. -/
module

public import proofs.«01_k».proof.Proof.Gen.Kernel4Ideal.Frame
public import proofs.«01_k».proof.Proof.Tail.Rows
public import proofs.«01_k».proof.Proof.Tail.Form
public import Idealize.ShloMosaic.Lib.Pointwise
public import Idealize.ShloMosaic.Lib.Claim
public import Idealize.ShloMosaic.Lib.StableHlo.RunRead
public import Idealize.ShloMosaic.Lib.Pipeline.ValueKit

@[expose] public section

set_option maxRecDepth 65536

noncomputable section

namespace Cert.Ada

open Cert.Kernel4Ideal Cert.Kernel4Ideal.Gen Idealize.ShloMosaic Idealize.ShloMosaic.TcCoe Idealize.SL.Sem
open Cert.Tail (Mat Cube IsReal set_rows)
open Idealize.ShloMosaic.Pipeline (Dat)

/-- The conditioning with rows of zeros below it. -/
def padded (C : Mat 4 2048) (r : Fin 8) (k : Fin 2048) : EReal := if h : (r : ℕ) < 4 then C (ix2 ⟨r, h⟩ k) else 0

/-- The modulation of layer `l`: a product and an offset. -/
def ada (C : Mat 4 2048) (W : Cube 4 2048 12288) (B : Mat 4 12288) (l : Fin 4) (r : Fin 8) (j : Fin 12288) : EReal :=
  (∑ k : Fin 2048, padded C r k * W (ix3 l k j)) + B (ix2 l j)

theorem padded_real (C : Mat 4 2048) (hC : ∀ i, IsReal (C i)) (r : Fin 8) (k : Fin 2048) : IsReal (padded C r k) := by
  unfold padded
  by_cases h : (r : ℕ) < 4
  · rw [dif_pos h]; exact hC _
  · rw [dif_neg h]; exact ⟨0, EReal.coe_zero.symm⟩

/-- What the body stores: both halves of the rows' product, added, and the offset. -/
theorem pay_at (w : FVec Ideal S1x2048x1024 .f32) (x : FVec Ideal S16x2048 .bf16) (b : FVec Ideal S1x1x1024 .f32) (r : Fin 8) (j : Fin 1024) :
    k0_pay1 (F := Ideal) w x b (ix3 0 r j)
      = (∑ k : Fin 2048, x (ix2 ⟨r, by omega⟩ k) * w (ix3 0 k j)) + (∑ k : Fin 2048, x (ix2 ⟨8 + r, by omega⟩ k) * w (ix3 0 k j)) + b (ix3 0 0 j) := by
  pointwise [k0_pay1]

variable (m : (ℓ : Loc nD τ sig) → Buf (Elt Ideal) ℓ) (c : Dev nD)

abbrev aC : Mat 4 2048 := m ((c : Thread nD τ).loc main_arg0)
abbrev aW : Cube 4 2048 12288 := m ((c : Thread nD τ).loc main_arg1)
abbrev aB : Mat 4 12288 := m ((c : Thread nD τ).loc main_arg2)

theorem host8 (l : Fin 4) (j : Fin 12288) : (V m c main_v8 : FVec Ideal S4x1x12288 .f32) (ix3 l 0 j) = aB m c (ix2 l j) := by
  have e : (V m c main_v8 : FVec Ideal S4x1x12288 .f32) = shapeCast _ (m ((c : Thread nD τ).loc main_arg2) : FVec Ideal S4x12288 .f32) shapeCasts_S4x12288_S4x1x12288 := by
    show StableHlo.after hostOps0 _ _ = _
    after_reads_simp
    rfl
  rw [e]
  exact shapeCast_apply _ shapeCasts_S4x12288_S4x1x12288 (ix3 l 0 j) (ix2 l j) (by
    rewrite [Shape.rowMajor_val_two, Shape.rowMajor_val_three]
    show (l : ℕ) * 12288 + j = (l * 1 + 0) * 12288 + j
    omega)

/-- The padded conditioning, as an array. -/
def padArr : FVec Ideal S8x2048 .f32 :=
  Host.scatter scatter_S8x2048_S1_S4x2048_01_n_0_0 (fun _ b => b)
    (broadcastInDim S8x2048 ![] bcast_S_S8x2048 (constant (F := Ideal) S_ .f32 0x00000000#32))
    (broadcastInDim S1 ![] bcast_S_S1 (constantI S_ 32 0#32)) (m ((c : Thread nD τ).loc main_arg0) : FVec Ideal S4x2048 .f32)

theorem padArr_at (r : Fin 8) (k : Fin 2048) : padArr m c (ix2 r k) = padded (aC m c) r k := by
  unfold padArr padded
  refine (set_rows _ _ _ _ 0 (by pointwise; rfl) r k).trans ?_
  by_cases h : (r : ℕ) < 4
  · rw [dif_pos (by omega), dif_pos h]
    rfl
  · rw [dif_neg (by omega), dif_neg h]
    pointwise

/-- Eight rows over eight rows. -/
theorem cat16 (A B : FVec Ideal S8x2048 .bf16) (r : Fin 16) (k : Fin 2048) :
    (concatenate S16x2048 0 [⟨S8x2048, A⟩, ⟨S8x2048, B⟩] concatenates_S8x2048_S8x2048_S16x2048_d0 : FVec Ideal S16x2048 .bf16) (ix2 r k)
      = if h : (r : ℕ) < 8 then A (ix2 ⟨r, h⟩ k) else B (ix2 ⟨r - 8, by omega⟩ k) := by
  pointwise
  try rfl

/-- The sixteen rows the caller hands over: the conditioning, and what rounding took from it. -/
theorem host7 (r : Fin 16) (k : Fin 2048) (hC : ∀ i, IsReal (aC m c i)) : (V m c main_v7 : FVec Ideal S16x2048 .bf16) (ix2 r k)
    = if h : (r : ℕ) < 8 then padded (aC m c) ⟨r, h⟩ k else (0 : EReal) := by
  have e3 : (StableHlo.upto hostOps0 (fun b => m (c, b)) 9 (Proc.tc.devRef main_v3) : FVec Ideal S8x2048 .bf16) = truncf .bf16 (padArr m c) bitsLt_bf16_f32 := by
    unfold padArr
    after_reads_simp
  have e6 : (StableHlo.upto hostOps0 (fun b => m (c, b)) 9 (Proc.tc.devRef main_v6) : FVec Ideal S8x2048 .bf16)
      = truncf .bf16 (subf (padArr m c) (extf .f32 (truncf .bf16 (padArr m c) bitsLt_bf16_f32 : FVec Ideal S8x2048 .bf16) bitsLt_bf16_f32)) bitsLt_bf16_f32 := by
    unfold padArr
    after_reads_simp
  have key : ∀ A B A' B' : FVec Ideal S8x2048 .bf16, A = A' → B = B' →
      (concatenate S16x2048 0 [⟨S8x2048, A⟩, ⟨S8x2048, B⟩] concatenates_S8x2048_S8x2048_S16x2048_d0 : FVec Ideal S16x2048 .bf16)
        = concatenate S16x2048 0 [⟨S8x2048, A'⟩, ⟨S8x2048, B'⟩] concatenates_S8x2048_S8x2048_S16x2048_d0 := by
    rintro A B _ _ rfl rfl; rfl
  generalize hP : padArr m c = P at e3 e6
  have e : (V m c main_v7 : FVec Ideal S16x2048 .bf16)
      = concatenate S16x2048 0 [⟨S8x2048, (truncf .bf16 P bitsLt_bf16_f32 : FVec Ideal S8x2048 .bf16)⟩,
          ⟨S8x2048, (truncf .bf16 (subf P (extf .f32 (truncf .bf16 P bitsLt_bf16_f32 : FVec Ideal S8x2048 .bf16) bitsLt_bf16_f32)) bitsLt_bf16_f32 : FVec Ideal S8x2048 .bf16)⟩]
          concatenates_S8x2048_S8x2048_S16x2048_d0 := by
    show StableHlo.after hostOps0 _ _ = _
    after_reads_simp
    exact key _ _ _ _ e3 e6
  rw [e]
  refine (cat16 _ _ r k).trans ?_
  by_cases h : (r : ℕ) < 8
  · rw [dif_pos h, dif_pos h]
    rw [← padArr_at m c ⟨r, h⟩ k, hP]
    rfl
  · rw [dif_neg h, dif_neg h]
    have hp := (padded_real (aC m c) hC ⟨r - 8, by omega⟩ k).sub_self
    rw [← padArr_at, hP] at hp
    exact hp

theorem idx : ∀ t : Fin cfg0.N, win0_0.index t = ![0, 0] ∧ win0_1.index t = ![t.val / 12, 0, t.val % 12] ∧ win0_2.index t = ![t.val / 12, 0, t.val % 12]
    ∧ win0_3.index t = ![t.val / 12, 0, t.val % 12] :=
  (by decide +kernel : ∀ t : Fin grid0.N, _)

abbrev ly (t : Fin cfg0.N) : Fin 4 := ⟨t.val / 12, by have : t.val < 48 := t.isLt; omega⟩
abbrev cl (t : Fin cfg0.N) (j : Fin 1024) : Fin 12288 := ⟨t.val % 12 * 1024 + j, by omega⟩

theorem b0 (t : Fin cfg0.N) (r : Fin 16) (k : Fin 2048) : (iblk m c 0 t : FVec Ideal S16x2048 .bf16) (ix2 r k)
    = (V m c main_v7 : FVec Ideal S16x2048 .bf16) (ix2 r k) := by
  unfold iblk
  generalize V m c = W
  show W main_v7 _ = W main_v7 _
  refine congrArg _ ?_
  funext a
  apply Fin.ext
  match a with
  | ⟨0, _⟩ => blk_simp [idx t]
  | ⟨1, _⟩ => blk_simp [idx t]
theorem b1 (t : Fin cfg0.N) (k : Fin 2048) (j : Fin 1024) : (iblk m c 1 t : FVec Ideal S1x2048x1024 .f32) (ix3 0 k j) = aW m c (ix3 (ly t) k (cl t j)) := by
  show _ = (m ((c : Thread nD τ).loc main_arg1) : FVec Ideal S4x2048x12288 .f32) _
  rw [← V_main_arg1 m c]
  blk_ext [iblk, idx t]
theorem b2 (t : Fin cfg0.N) (j : Fin 1024) : (iblk m c 2 t : FVec Ideal S1x1x1024 .f32) (ix3 0 0 j) = aB m c (ix2 (ly t) (cl t j)) := by
  rw [← host8 m c]
  blk_ext [iblk, idx t]

/-- The array that the kernel returns. -/
theorem final (hC : ∀ i, IsReal (aC m c i)) :
    (dats m 0 c).arrAt 3 (cfgs 0).N = (fun i => ada (aC m c) (aW m c) (aB m c) (i 0) (i 1) (i 2) : FVec Ideal S4x8x12288 .f32) := by
  refine (dats m 0 c).arrAt_eq_of_covers 3 _ (by decide +kernel) fun t _ y => ?_
  blk_simp
  rw [after0_3]
  obtain ⟨r, j, rfl⟩ : ∃ (r : Fin 8) (j : Fin 1024), y = ix3 0 r j := ⟨y 1, y 2, by
    idx_vars y
    rw [Subsingleton.elim y0 0]⟩
  have h0 : (win0_3.blk t).view.emb (ix3 0 r j) 0 = ly t := Fin.ext (by blk_simp [idx t]; rfl)
  have h1 : (win0_3.blk t).view.emb (ix3 0 r j) 1 = r := Fin.ext (by blk_simp [idx t])
  have h2 : (win0_3.blk t).view.emb (ix3 0 r j) 2 = cl t j := Fin.ext (by blk_simp [idx t])
  rw [h0, h1, h2]
  frame_out
  refine (pay_at _ _ _ r j).trans ?_
  unfold ada
  simp only [b1 m c t, b2 m c t, b0 m c t, fun r k => host7 m c r k hC]
  have hz : ¬ (8 + (r : ℕ) < 8) := by omega
  simp [hz]

end Cert.Ada

end
-- ==== Proof.Ada.Ref.lean ====
/- The reference's modulation as the same formula. -/
module

public import proofs.«01_k».proof.Proof.Gen.Reference4Ideal.Read
public import proofs.«01_k».proof.Proof.Ada.Arr
public import Idealize.ShloMosaic.Lib.Pointwise

@[expose] public section

set_option maxRecDepth 16384

noncomputable section

namespace Cert.Ada

open Cert.Reference4Ideal Cert.Reference4Ideal.Read Idealize.ShloMosaic
open Cert.Tail (Mat Cube)

variable (C : FVec Ideal S4x2048 .f32) (W : FVec Ideal S4x2048x12288 .f32) (B : FVec Ideal S4x12288 .f32)

theorem zero_eq : (FloatOps.sitofp (F := Ideal) FTy.f32 0#32 : EReal) = 0 := by
  show (((0#32 : BitVec 32).toInt : ℝ) : EReal) = 0
  simp

theorem r0 (r : Fin 8) (k : Fin 2048) : val_main_v0 (F := Ideal) C (ix2 r k) = padded C r k := by
  unfold padded
  pointwise [val_main_v0, val_main_call0_v0, val_main_c]
  by_cases h : (r : ℕ) < 4
  · simp [h]
  · simp [h, zero_eq]

theorem r8 (r : Fin 8) (j : Fin 12288) : val_main_v8 (F := Ideal) C W B (ix2 r j) = ada C W B 0 r j := by
  unfold ada
  pointwise [val_main_v8, val_main_v7, val_main_v6, val_main_v5, val_main_v4, val_main_v3, val_main_v2, val_main_v1]
  simp only [r0]
theorem r16 (r : Fin 8) (j : Fin 12288) : val_main_v16 (F := Ideal) C W B (ix2 r j) = ada C W B 1 r j := by
  unfold ada
  pointwise [val_main_v16, val_main_v15, val_main_v14, val_main_v13, val_main_v12, val_main_v11, val_main_v10, val_main_v9]
  simp only [r0]
theorem r24 (r : Fin 8) (j : Fin 12288) : val_main_v24 (F := Ideal) C W B (ix2 r j) = ada C W B 2 r j := by
  unfold ada
  pointwise [val_main_v24, val_main_v23, val_main_v22, val_main_v21, val_main_v20, val_main_v19, val_main_v18, val_main_v17]
  simp only [r0]
theorem r32 (r : Fin 8) (j : Fin 12288) : val_main_v32 (F := Ideal) C W B (ix2 r j) = ada C W B 3 r j := by
  unfold ada
  pointwise [val_main_v32, val_main_v31, val_main_v30, val_main_v29, val_main_v28, val_main_v27, val_main_v26, val_main_v25]
  simp only [r0]

theorem r37 (l : Fin 4) (r : Fin 8) (j : Fin 12288) : val_main_v37 (F := Ideal) C W B (ix3 l r j) = ada C W B l r j := by
  pointwise [val_main_v37, val_main_v36, val_main_v35, val_main_v34, val_main_v33]
  simp only [r8, r16, r24, r32]
  match l with
  | 0 => simp
  | 1 => simp
  | 2 => simp
  | 3 => simp

end Cert.Ada

end
-- ==== Proof.Ada.Claims.lean ====
/- The claims about the modulation. -/
module

public import proofs.«01_k».proof.Defs
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_finite4
public import proofs.«01_k».proof.Proof.Finite
public import proofs.«01_k».proof.Proof.Ada.Arr
public import proofs.«01_k».proof.Proof.Ada.Ref
public import Idealize.ShloMosaic.Init

@[expose] public section

noncomputable section

namespace Cert.AdaClaims

open Idealize.ShloMosaic Idealize.SL.Sem

theorem frame_k : Cert.quiescent_Kernel4 := fun m ρ _ => Cert.Kernel4.Gen.frame m ρ
theorem frame_ki : Cert.quiescent_Kernel4Ideal := fun m ρ _ => Cert.Kernel4Ideal.Gen.frame m ρ
theorem frame_kif : Cert.quiescent_Kernel4Ideal_pre_finite4 := fun m ρ _ => Cert.Kernel4Ideal.Gen.frame m ρ

theorem frame_r : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
theorem frame_rf : Cert.quiescent_Reference4Ideal_pre_finite4 := fun m ρ _ => frame_r m ρ trivial

theorem preserves : Cert.preserves_Kernel4_Kernel4Ideal := trivial

open Cert.Pre_finite4 in
/-- The precondition gives real entries of the conditioning. -/
theorem reals4 [Facts] (a0 : FVec Ideal S4x2048 .f32) (a1 : FVec Ideal S4x2048x12288 .f32) (a2 : FVec Ideal S4x12288 .f32)
    (h : fn (F := Ideal) a0 a1 a2 = (fun _ => 1#1)) : ∀ i, ∃ r : ℝ, a0 i = (r : EReal) := by
  intro i
  have e := congrFun h i
  simp only [fn] at e
  pointwise at e
  exact Cert.Finite.real_of_test _ e

/-- Both programs run, and their results agree at every index. -/
theorem algebraic : Cert.algebraic_Kernel4Ideal_Reference4Ideal_pre_finite4 := by
  intro m g m' g' hpre hagree
  refine ⟨fun c => (Cert.Kernel4Ideal.Gen.dats m 0 c).arrAt 3 (Cert.Kernel4Ideal.cfgs 0).N, ?_, ?_⟩
  · exact Cert.Kernel4Ideal.Value.run_blocks (F := Ideal) m g
  refine (θ_run Cert.Reference4Ideal.defs _ _).mono (fun _ h c => ⟨(h c).1.trans ?_, (h c).2⟩)
    (Cert.Reference4Ideal.Value.run (F := Ideal) m' g')
  obtain ⟨e0, e1, e2⟩ := hagree c
  have hC := reals4 _ _ _ (hpre c)
  refine (Cert.Reference4Ideal.Read.val_main_v37_eq _ _ _).trans ?_
  refine Eq.trans ?_ (Cert.Ada.final m c hC).symm
  rw [e0, e1, e2]
  funext i
  rw [ValueIdx.eq_ix3 i]
  exact Cert.Ada.r37 _ _ _ (i 0) (i 1) (i 2)

end Cert.AdaClaims

end
-- ==== Proof.Route.Pick.lean ====
/- The place of the first greatest entry of a row, and the two operations that find it. -/
module

public import Idealize.ShloMosaic.Lib.Pointwise
public import Idealize.ShloMosaic.Lib.Claim
public import Idealize.ShloMosaic.Lib.SortPrefix
public import Idealize.ShloMosaic.Lib.SortFacts
public import Idealize.ShloMosaic.Lib.SortNet.Extract

@[expose] public section

set_option maxRecDepth 16384

noncomputable section

namespace Cert.Route

open Idealize.ShloMosaic

variable {n : ℕ}

/-- `k` holds the greatest entry, and no place before it does. -/
def First (f : Fin n → EReal) (k : Fin n) : Prop := (∀ j, f j ≤ f k) ∧ ∀ j, j < k → f j < f k

theorem exists_first (f : Fin n → EReal) (h : 0 < n) : ∃ k, First f k := by
  classical
  obtain ⟨b, -, hb⟩ := Finset.exists_max_image (Finset.univ : Finset (Fin n)) f ⟨⟨0, h⟩, Finset.mem_univ _⟩
  have hs : (Finset.univ.filter fun k : Fin n => ∀ j, f j ≤ f k).Nonempty :=
    ⟨b, by simpa using fun j => hb j (Finset.mem_univ j)⟩
  refine ⟨_, (Finset.mem_filter.mp (Finset.min'_mem _ hs)).2, fun j hj => ?_⟩
  have hk := (Finset.mem_filter.mp (Finset.min'_mem _ hs)).2
  refine lt_of_le_of_ne (hk j) fun e => ?_
  have : j ∈ Finset.univ.filter fun k : Fin n => ∀ j, f j ≤ f k := by
    simpa using fun i => (hk i).trans e.ge
  exact absurd hj (not_lt.mpr (Finset.min'_le _ _ this))

/-- The row with one entry taken out. -/
def without (f : Fin n → EReal) (k : Fin n) : Fin n → EReal := fun j => if j = k then ⊥ else f j

/-- The greatest by a fold. -/
theorem fold_max (f : Fin n → EReal) (k : Fin n) (h : ∀ j, f j ≤ f k) : Finset.fold max ⊥ f Finset.univ = f k :=
  le_antisymm ((Finset.fold_max_le _).mpr ⟨bot_le, fun j _ => h j⟩)
    ((Finset.le_fold_max _).mpr (Or.inr ⟨k, Finset.mem_univ k, le_rfl⟩))

theorem fold_min_spec (b : BitVec 32) (f : Fin n → BitVec 32) (s : Finset (Fin n)) :
    (∀ j ∈ s, (Finset.fold IntOp.minsi b f s).toInt ≤ (f j).toInt)
      ∧ (Finset.fold IntOp.minsi b f s = b ∨ ∃ j, Finset.fold IntOp.minsi b f s = f j) := by
  classical
  induction s using Finset.induction_on with
  | empty => exact ⟨fun j hj => absurd hj (Finset.notMem_empty j), Or.inl (Finset.fold_empty)⟩
  | insert a s ha ih =>
    rw [Finset.fold_insert ha]
    obtain ⟨h1, h2⟩ := ih
    refine ⟨fun j hj => ?_, ?_⟩
    · rw [SortNet.toInt_minsi]
      rcases Finset.mem_insert.mp hj with rfl | hj
      · exact min_le_left _ _
      · exact (min_le_right _ _).trans (h1 j hj)
    · have : IntOp.minsi (f a) (Finset.fold IntOp.minsi b f s) = f a
          ∨ IntOp.minsi (f a) (Finset.fold IntOp.minsi b f s) = Finset.fold IntOp.minsi b f s := by
        unfold IntOp.minsi; split <;> simp
      rcases this with e | e
      · exact Or.inr ⟨a, e⟩
      · rw [e]; exact h2

/-- The least number of a lane that has a property, by a fold. -/
theorem fold_lane (P : Fin 128 → Prop) [DecidablePred P] (g : Fin 128) (hg : P g) (h : ∀ j, j < g → ¬ P j) :
    Finset.fold IntOp.minsi (2147483647#32) (fun l : Fin 128 => if P l then BitVec.ofNat 32 (l : ℕ) else 1073741824#32) Finset.univ
      = BitVec.ofNat 32 (g : ℕ) := by
  have small : ∀ l : Fin 128, (BitVec.ofNat 32 (l : ℕ)).toInt = (l : ℤ) := by decide +kernel
  obtain ⟨h1, h2⟩ := fold_min_spec (2147483647#32) (fun l : Fin 128 => if P l then BitVec.ofNat 32 (l : ℕ) else 1073741824#32) Finset.univ
  have hle := h1 g (Finset.mem_univ g)
  rw [if_pos hg, small] at hle
  have hlt := g.isLt
  rcases h2 with e | ⟨j, e⟩
  · rw [e] at hle
    have : (2147483647#32 : BitVec 32).toInt = 2147483647 := by decide
    omega
  · rw [e] at hle ⊢
    by_cases hj : P j
    · rw [if_pos hj, small] at hle
      have : j = g := le_antisymm (Fin.le_def.mpr (by omega)) (not_lt.mp fun c => h j c hj)
      rw [this, if_pos hg]
    · rw [if_neg hj] at hle
      have : (1073741824#32 : BitVec 32).toInt = 1073741824 := by decide
      omega

section
variable {ι : Type} [LinearOrder ι]

theorem stable_congr (R R' : ι → ι → Bool) (h : ∀ a b, a < b → R b a = R' b a) (l : List ι) (hl : l.Pairwise (· < ·)) :
    stableSort R l = stableSort R' l := by
  induction l with
  | nil => rfl
  | cons a l ih =>
    obtain ⟨ha, hl⟩ := List.pairwise_cons.mp hl
    unfold stableSort
    rw [ih hl]
    exact insertBefore_congr R R' a _ fun b hb => h a b (ha b ((perm_stableSort _ _).mem_iff.mp hb))
end

/-- Greater first, and of equals the earlier place. -/
def ahead (f : Fin n → EReal) : Fin n → Fin n → Bool := by
  classical
  exact fun k k' => decide (f k' < f k) || (decide (f k = f k') && decide (k < k'))

theorem ahead_total (f : Fin n → EReal) : StrictTotalBefore (ahead f) := by
  classical
  unfold ahead
  refine StrictTotalBefore.of_key_then_position (fun a b : EReal => decide (b < a)) f (by simp) (fun a b c => ?_) (fun a b => ?_)
  · simpa using fun h1 h2 => lt_trans h2 h1
  · rcases lt_trichotomy a b with h | h | h
    · exact Or.inr (Or.inr (by simpa using h))
    · exact Or.inr (Or.inl h)
    · exact Or.inl (by simpa using h)

theorem ahead_first (f : Fin n → EReal) (k p : Fin n) (h : First f k) : ahead f p k = false := by
  classical
  unfold ahead
  rw [Bool.or_eq_false_iff]
  refine ⟨by simpa using h.1 p, ?_⟩
  by_cases hp : p < k
  · simp [(h.2 p hp).ne]
  · simp [hp]

theorem sorted_ahead (f : Fin n → EReal) : sortedFrom (fun k k' => decide (f k' < f k)) = sortedFrom (ahead f) := by
  classical
  funext k
  unfold sortedFrom
  have e : sortPositions n (fun k k' => decide (f k' < f k)) = sortPositions n (ahead f) := by
    unfold sortPositions
    refine stable_congr _ _ (fun a b hab => ?_) _ (List.pairwise_lt_finRange n)
    unfold ahead
    simp [not_lt.mpr hab.le]
  rw [List.get_of_eq e]
  rfl

/-- Where the stable sort finds its first entry. -/
theorem sorted_one (f : Fin n → EReal) (k : Fin n) (h : First f k) (hn : 0 < n) :
    sortedFrom (fun k k' => decide (f k' < f k)) ⟨0, hn⟩ = k := by
  rw [sorted_ahead]
  refine (ahead_total f).sortedFrom_eq_of_prefix (k := 1) hn (fun _ => k) (fun a b _ => Subsingleton.elim a b)
    (fun i j hij => ?_) (fun i p _ => ahead_first f k p h) 0
  exact absurd hij (by rw [Subsingleton.elim i j]; exact lt_irrefl _)

/-- Where it finds its first two. -/
theorem sorted_two (f : Fin n → EReal) (k l : Fin n) (h : First f k) (hl : First (without f k) l) (hkl : k ≠ l) (hn : 2 ≤ n) (i : Fin 2) :
    sortedFrom (fun k k' => decide (f k' < f k)) (i.castLE hn) = ![k, l] i := by
  classical
  rw [sorted_ahead]
  refine (ahead_total f).sortedFrom_eq_of_prefix hn ![k, l] (fun a b hab => ?_) (fun i j hij => ?_) (fun i p hp => ?_) i
  · fin_cases a <;> fin_cases b <;> simp_all
  · fin_cases i <;> fin_cases j <;> simp_all [ahead_first]
  · have hpk : p ≠ k := fun e => hp 0 e.symm
    fin_cases i
    · exact ahead_first f k p h
    · have e := ahead_first (without f k) l p hl
      unfold ahead without at e
      rw [if_neg hpk, if_neg (Ne.symm hkl)] at e
      unfold ahead
      exact e

theorem greater (a b : EReal) : (FloatOps.cmpfTotal (F := Ideal) (φ := .f32) .gt a b == 1#1) = decide (b < a) := by
  rw [Ideal.cmpfTotal_def]
  unfold Ideal.cmp CmpDirection.ordered
  by_cases h : b < a <;> simp [h]

section
variable {rows w k : ℕ} (x : FVec Ideal ⟨2, ![rows, w]⟩ .f32) (h : Shape.Slices ⟨2, ![rows, w]⟩ (fun _ => 0) ⟨2, ![rows, k]⟩)
    (r : Fin rows) (j : Fin k) (hk : k ≤ w)

theorem along_at (r : Fin rows) (a b : Fin w) : Shape.Idx.along (s := ⟨2, ![rows, w]⟩) (ix2 r a) (1 : Fin 2) b = ix2 r b := by
  funext d
  match d with
  | ⟨0, _⟩ => rfl
  | ⟨1, _⟩ => rfl

theorem sliced {α : Type} (y : (⟨2, ![rows, w]⟩ : Shape).Idx → α) :
    extractStridedSlice ⟨2, ![rows, k]⟩ (fun _ => 0) y h (ix2 r j) = y (ix2 r (j.castLE hk)) :=
  extractStridedSlice_apply (fun _ => 0) y h (ix2 r j) _ (fun a => match a with
    | ⟨0, _⟩ => (Nat.zero_add _).symm
    | ⟨1, _⟩ => (Nat.zero_add _).symm)

theorem top_value : (Host.topK ⟨2, ![rows, k]⟩ 1 (FloatOps.cmpfTotal (F := Ideal) .gt) x h).1 (ix2 r j)
    = x (ix2 r (sortedFrom (fun a b : Fin w => decide (x (ix2 r b) < x (ix2 r a))) (j.castLE hk))) := by
  unfold Host.topK
  dsimp only
  refine (sliced h r j hk _).trans ?_
  unfold Host.sort2
  rw [dif_pos (show 1 < 2 from by decide)]
  refine (congrArg x (along_at r (j.castLE hk) _)).trans ?_
  refine congrArg (fun B => x (ix2 r (sortedFrom B (j.castLE hk)))) ?_
  funext a b
  refine (greater _ _).trans ?_
  exact congrArg₂ (fun u v => decide (x u < x v)) (along_at r (j.castLE hk) b) (along_at r (j.castLE hk) a)

theorem top_place : (Host.topK ⟨2, ![rows, k]⟩ 1 (FloatOps.cmpfTotal (F := Ideal) .gt) x h).2 (ix2 r j)
    = BitVec.ofNat 32 (sortedFrom (fun a b : Fin w => decide (x (ix2 r b) < x (ix2 r a))) (j.castLE hk) : ℕ) := by
  unfold Host.topK
  dsimp only
  refine (sliced h r j hk _).trans ?_
  unfold Host.sort2
  rw [dif_pos (show 1 < 2 from by decide)]
  refine congrArg (fun B => BitVec.ofNat 32 (sortedFrom B (j.castLE hk) : ℕ)) ?_
  funext a b
  refine (greater _ _).trans ?_
  exact congrArg₂ (fun u v => decide (x u < x v)) (along_at r (j.castLE hk) b) (along_at r (j.castLE hk) a)
end

end Cert.Route

end
-- ==== Proof.Route.Arr.lean ====
/- The weights the routing call leaves, row by row. -/
module

public import proofs.«01_k».proof.Proof.Gen.Kernel6Ideal.Frame
public import proofs.«01_k».proof.Proof.Route.Pick
public import Idealize.ShloMosaic.Lib.Pointwise
public import Idealize.ShloMosaic.Lib.Claim
public import Idealize.ShloMosaic.Lib.Pipeline.ValueKit

@[expose] public section

set_option maxRecDepth 65536

noncomputable section

namespace Cert.Route

open Cert.Kernel6Ideal Cert.Kernel6Ideal.Gen Idealize.ShloMosaic Idealize.ShloMosaic.TcCoe Idealize.SL.Sem

/-- The four group scores of a row. -/
def coarse (a : Fin 128 → EReal) : Fin 4 → EReal := fun j => a ⟨j, by omega⟩
/-- The eight expert scores of one group. -/
def fine (a : Fin 128 → EReal) (g : Fin 4) : Fin 8 → EReal := fun j => a ⟨4 + 8 * g + j, by omega⟩
/-- The chosen group's share. -/
def share (a : Fin 128 → EReal) (g : Fin 4) : EReal := Ideal.div 1 (∑ j, Ideal.exp (coarse a j - coarse a g))
/-- How much less the second expert counts than the first. -/
def less (a : Fin 128 → EReal) (g : Fin 4) (p q : Fin 8) : EReal := Ideal.exp (fine a g q - fine a g p)

/-- The weight written in a lane: the first expert's in lane 0, the second's in the others. -/
def weight (a : Fin 128 → EReal) (g : Fin 4) (p q : Fin 8) (l : Fin 128) : EReal :=
  if l = 0 then Ideal.div (share a g) (1 + less a g p q) else Ideal.div (share a g) (1 + less a g p q) * less a g p q

/-- What the rows' entries are worth beside the greatest: nothing infinite among them. -/
def Reals (a : Fin 128 → EReal) : Prop := ∀ l, ∃ v : ℝ, a l = (v : EReal)

/-- The choices made in a row. -/
structure Chosen (a : Fin 128 → EReal) (g : Fin 4) (p q : Fin 8) : Prop where
  group : First (coarse a) g
  one : First (fine a g) p
  two : First (without (fine a g) p) q
  ne : p ≠ q

theorem other : ∀ p : Fin 8, ∃ j, j ≠ p := by decide

theorem exists_chosen (a : Fin 128 → EReal) (h : Reals a) : ∃ g p q, Chosen a g p q := by
  obtain ⟨g, hg⟩ := exists_first (coarse a) (by decide)
  obtain ⟨p, hp⟩ := exists_first (fine a g) (by decide)
  obtain ⟨q, hq⟩ := exists_first (without (fine a g) p) (by decide)
  refine ⟨g, p, q, hg, hp, hq, fun e => ?_⟩
  subst e
  obtain ⟨j, hj⟩ := other p
  have := hq.1 j
  unfold without at this
  rw [if_pos rfl, if_neg hj] at this
  unfold fine at this
  obtain ⟨v, e⟩ := h ⟨4 + 8 * g + j, by omega⟩
  rw [e] at this
  exact absurd this (not_le.mpr (EReal.bot_lt_coe v))

theorem low : Ideal.ofBits .f32 4286578688#32 = (⊥ : EReal) := by
  rw [show (4286578688#32 : BitVec 32) = 0xFF800000#32 from rfl]
  simp [Ideal.ofBits, Ideal.ieee]

theorem lt4 : ∀ l : Fin 128, IntOp.cmpi CmpIPredicate.slt (BitVec.ofNat 32 (l : ℕ)) 4#32 = BitVec.ofBool (decide ((l : ℕ) < 4)) := by
  decide +kernel

theorem band : ∀ (g : Fin 4) (l : Fin 128), IntOp.andi
        (IntOp.cmpi CmpIPredicate.sge (BitVec.ofNat 32 (l : ℕ)) (IntOp.addi (4#32) (IntOp.muli (BitVec.ofNat 32 (g : ℕ)) 8#32)))
        (IntOp.cmpi CmpIPredicate.slt (BitVec.ofNat 32 (l : ℕ)) (IntOp.addi (IntOp.addi (4#32) (IntOp.muli (BitVec.ofNat 32 (g : ℕ)) 8#32)) 8#32))
      = BitVec.ofBool (decide (4 + 8 * (g : ℕ) ≤ l ∧ (l : ℕ) < 12 + 8 * g)) := by
  decide +kernel

theorem same : ∀ l p : Fin 128, IntOp.cmpi CmpIPredicate.eq (BitVec.ofNat 32 (l : ℕ)) (BitVec.ofNat 32 (p : ℕ)) = BitVec.ofBool (decide (l = p)) := by
  decide +kernel

theorem sel {α : Type} (P : Prop) [Decidable P] (u v : α) : Scalar.select (BitVec.ofBool (decide P)) u v = if P then u else v := by
  unfold Scalar.select
  by_cases h : P <;> simp [h]

section
variable (x : FVec Ideal S1024x128 .f32) (r : Fin 1024) {g : Fin 4} {p q : Fin 8}

/-- A row of the block. -/
abbrev row (x : FVec Ideal S1024x128 .f32) (r : Fin 1024) : Fin 128 → EReal := fun l => x (ix2 r l)

variable (hx : Reals (row x r)) (hc : Chosen (row x r) g p q)
include hx hc

theorem pay3_at (l : Fin 128) : k0_pay3 (F := Ideal) x (ix2 r l) = if (l : ℕ) < 4 then row x r l else ⊥ := by
  pointwise [k0_pay3, k0_pay2]
  rw [lt4, sel, low]

theorem pay4_at : k0_pay4 (F := Ideal) x (ix2 r 0) = coarse (row x r) g := by
  pointwise [k0_pay4]
  rw [low]
  have e : (fun l => k0_pay3 (F := Ideal) x (ix2 r l)) = fun l : Fin 128 => if (l : ℕ) < 4 then row x r l else ⊥ :=
    funext fun l => pay3_at x r hx hc l
  rw [e, fold_max _ ⟨g, by omega⟩]
  · rw [if_pos (by exact g.isLt)]; rfl
  · intro j
    rw [if_pos (show ((⟨g, by omega⟩ : Fin 128) : ℕ) < 4 from g.isLt)]
    split
    · next h => exact hc.group.1 ⟨j, h⟩
    · exact bot_le

theorem pay5_at : k0_pay5 (F := Ideal) x (ix2 r 0) = share (row x r) g := by
  pointwise [k0_pay5, k0_pay2]
  rw [pay4_at x r hx hc]
  unfold share
  refine congrArg (Ideal.div 1) ?_
  refine (Fin.sum_univ_add (a := 4) (b := 124) _).trans ?_
  have z : ∀ u : EReal, u + 0 = u := add_zero
  refine Eq.trans (congrArg₂ (· + ·) (Finset.sum_congr rfl fun j _ => ?_) (Finset.sum_eq_zero fun j _ => ?_)) (z _)
  · rw [lt4, sel, if_pos (by exact j.isLt)]; rfl
  · rw [lt4, sel, if_neg (by simp)]

theorem group_at : Finset.fold IntOp.minsi (2147483647#32)
    (fun l : Fin 128 => if (k0_pay3 (F := Ideal) x (ix2 r l) : EReal) = k0_pay4 (F := Ideal) x (ix2 r 0) then BitVec.ofNat 32 (l : ℕ) else 1073741824#32) Finset.univ
      = BitVec.ofNat 32 (g : ℕ) := by
  refine fold_lane (fun l => (k0_pay3 (F := Ideal) x (ix2 r l) : EReal) = k0_pay4 (F := Ideal) x (ix2 r 0)) ⟨g, by omega⟩ ?_ fun j hj => ?_
  · rw [pay3_at x r hx hc, pay4_at x r hx hc, if_pos (by exact g.isLt)]; rfl
  · have hj' : (j : ℕ) < 4 := lt_trans (Fin.lt_def.mp hj) g.isLt
    rw [pay3_at x r hx hc, pay4_at x r hx hc, if_pos hj']
    exact (hc.group.2 ⟨j, hj'⟩ hj).ne

theorem pay6_at (l : Fin 128) : k0_pay6 (F := Ideal) x (ix2 r l) = if 4 + 8 * (g : ℕ) ≤ l ∧ (l : ℕ) < 12 + 8 * g then row x r l else ⊥ := by
  pointwise [k0_pay6]
  rw [group_at x r hx hc, band, sel, low]

theorem pay6_in (j : Fin 8) : k0_pay6 (F := Ideal) x (ix2 r ⟨4 + 8 * g + j, by omega⟩) = fine (row x r) g j := by
  rw [pay6_at x r hx hc, if_pos (by show _ ≤ 4 + 8 * (g : ℕ) + j ∧ 4 + 8 * (g : ℕ) + j < _; omega)]; rfl

theorem pay6_le (l : Fin 128) : k0_pay6 (F := Ideal) x (ix2 r l) = ⊥
    ∨ ∃ j : Fin 8, (l : ℕ) = 4 + 8 * g + j ∧ k0_pay6 (F := Ideal) x (ix2 r l) = fine (row x r) g j := by
  by_cases h : 4 + 8 * (g : ℕ) ≤ l ∧ (l : ℕ) < 12 + 8 * g
  · refine Or.inr ⟨⟨l - (4 + 8 * g), by omega⟩, by show (l : ℕ) = 4 + 8 * g + (l - (4 + 8 * g)); omega, ?_⟩
    rw [← pay6_in x r hx hc]
    exact congrArg (fun i => k0_pay6 (F := Ideal) x (ix2 r i)) (Fin.ext (by show (l : ℕ) = 4 + 8 * g + (l - (4 + 8 * g)); omega))
  · exact Or.inl (by rw [pay6_at x r hx hc, if_neg h])

theorem pay7_at : k0_pay7 (F := Ideal) x (ix2 r 0) = fine (row x r) g p := by
  pointwise [k0_pay7]
  rw [low, fold_max _ ⟨4 + 8 * g + p, by omega⟩]
  · exact pay6_in x r hx hc p
  · intro l
    rw [pay6_in x r hx hc p]
    rcases pay6_le x r hx hc l with e | ⟨j, -, e⟩
    · rw [e]; exact bot_le
    · rw [e]; exact hc.one.1 j

/-- The lanes' numbers. -/
abbrev lanes : IVec S1024x128 32 := iota .tc S1024x128 32 [1] iota_S1024x128_d1_w32

omit hx hc in
theorem pay8_form (f : FVec Ideal S1024x128 .f32) (v : FVec Ideal S1024x1 .f32) : k0_pay8 (F := Ideal) lanes f v (ix2 r 0)
    = Finset.fold IntOp.minsi (2147483647#32)
      (fun l : Fin 128 => if f (ix2 r l) = v (ix2 r 0) then BitVec.ofNat 32 (l : ℕ) else 1073741824#32) Finset.univ := by
  pointwise [k0_pay8]

theorem pay8_at : k0_pay8 lanes (k0_pay6 (F := Ideal) x) (k0_pay7 (F := Ideal) x) (ix2 r 0) = BitVec.ofNat 32 (4 + 8 * (g : ℕ) + p) := by
  refine (pay8_form r _ _).trans ?_
  refine fold_lane (fun l => (k0_pay6 (F := Ideal) x (ix2 r l) : EReal) = k0_pay7 (F := Ideal) x (ix2 r 0)) ⟨4 + 8 * g + p, by omega⟩ ?_ fun l hl => ?_
  · rw [pay6_in x r hx hc, pay7_at x r hx hc]
  · rw [pay7_at x r hx hc]
    rcases pay6_le x r hx hc l with e | ⟨j, hj, e⟩
    · rw [e]
      obtain ⟨v, hv⟩ := hx ⟨4 + 8 * g + p, by omega⟩
      unfold fine
      rw [hv]
      exact EReal.bot_ne_coe v
    · rw [e]
      refine (hc.one.2 j (Fin.lt_def.mpr ?_)).ne
      have : (l : ℕ) < 4 + 8 * g + p := Fin.lt_def.mp hl
      omega

theorem pay9_at (l : Fin 128) : k0_pay9 lanes (k0_pay6 (F := Ideal) x) (k0_pay7 (F := Ideal) x) (ix2 r l)
    = if (l : ℕ) = 4 + 8 * g + p then ⊥ else k0_pay6 (F := Ideal) x (ix2 r l) := by
  pointwise [k0_pay9]
  rw [pay8_at x r hx hc, same l ⟨4 + 8 * g + p, by omega⟩, sel, low]
  simp only [Fin.ext_iff]

theorem pay10_at : k0_pay10 lanes (k0_pay6 (F := Ideal) x) (k0_pay7 (F := Ideal) x) (ix2 r 0) = fine (row x r) g q := by
  have hpq : (p : ℕ) ≠ q := fun e => hc.ne (Fin.ext e)
  have top : k0_pay9 lanes (k0_pay6 (F := Ideal) x) (k0_pay7 (F := Ideal) x) (ix2 r ⟨4 + 8 * g + q, by omega⟩) = fine (row x r) g q := by
    rw [pay9_at x r hx hc, if_neg (by show 4 + 8 * (g : ℕ) + q ≠ _; omega), pay6_in x r hx hc]
  pointwise [k0_pay10]
  rw [low, fold_max _ ⟨4 + 8 * g + q, by omega⟩ fun l => ?_]
  · exact top
  · rw [top, pay9_at x r hx hc]
    split
    · exact bot_le
    · next h =>
      rcases pay6_le x r hx hc l with e | ⟨j, hj, e⟩
      · rw [e]; exact bot_le
      · rw [e]
        have := hc.two.1 j
        unfold without at this
        rwa [if_neg (fun e => h (by rw [hj, e])), if_neg (Ne.symm hc.ne)] at this

theorem out_at (l : Fin 128) :
    k0_pay23 (F := Ideal) lanes (k0_pay12 lanes (k0_pay5 x) (k0_pay6 x) (k0_pay7 x)) (k0_pay13 lanes (k0_pay5 x) (k0_pay6 x) (k0_pay7 x)) (ix2 r l)
      = weight (row x r) g p q l := by
  unfold weight
  pointwise [k0_pay23, k0_pay12, k0_pay13, k0_pay11]
  rw [pay5_at x r hx hc, pay10_at x r hx hc, pay7_at x r hx hc]
  have e := same l 0
  rw [show BitVec.ofNat 32 ((0 : Fin 128) : ℕ) = 0#32 from rfl] at e
  rw [e, sel]
  rfl
end

/-! ### The array -/

variable (m : (ℓ : Loc nD τ sig) → Buf (Elt Ideal) ℓ) (c : Dev nD)

abbrev aX : FVec Ideal S8192x128 .f32 := m ((c : Thread nD τ).loc main_arg0)
/-- A row of the argument. -/
abbrev whole (X : FVec Ideal S8192x128 .f32) (R : Fin 8192) : Fin 128 → EReal := fun l => X (ix2 R l)

theorem idx : ∀ t : Fin cfg0.N, win0_0.index t = ![t.val, 0] ∧ win0_2.index t = ![t.val, 0] :=
  (by decide +kernel : ∀ t : Fin grid0.N, _)

theorem blk0 (t : Fin cfg0.N) (ρ : Fin 1024) (l : Fin 128) : (iblk m c 0 t : FVec Ideal S1024x128 .f32) (ix2 ρ l)
    = aX m c (ix2 ⟨t.val * 1024 + ρ, by have : t.val < 8 := t.isLt; omega⟩ l) := by
  unfold aX
  rw [← V_main_arg0 m c]
  blk_ext [iblk, idx t]

theorem row0 (t : Fin cfg0.N) (ρ : Fin 1024) : row (iblk m c 0 t) ρ
    = whole (aX m c) ⟨t.val * 1024 + ρ, by have : t.val < 8 := t.isLt; omega⟩ := funext fun l => blk0 m c t ρ l

theorem point (t : Fin cfg0.N) (ρ : Fin 1024) (l : Fin 128) (hx : ∀ R, Reals (whole (aX m c) R)) {g : Fin 4} {p q : Fin 8}
    (hc : Chosen (whole (aX m c) ⟨t.val * 1024 + ρ, by have : t.val < 8 := t.isLt; omega⟩) g p q) :
    ((outsAt0 m c t.val t.isLt).2.1 : FVec Ideal S1024x128 .f32) (ix2 ρ l)
      = weight (whole (aX m c) ⟨t.val * 1024 + ρ, by have : t.val < 8 := t.isLt; omega⟩) g p q l := by
  rw [← row0 m c t ρ] at hc ⊢
  have hr : Reals (row (iblk m c 0 t) ρ) := by rw [row0]; exact hx _
  by_cases h : t.val % 8 = 0
  · rw [outsAt0_A m c t h]
    frame_out
    exact out_at _ ρ hr hc l
  · rw [outsAt0_B m c t h]
    frame_out
    exact out_at _ ρ hr hc l

/-- The weights are any array that is right in every row. -/
theorem final (hx : ∀ R, Reals (whole (aX m c) R)) (G : FVec Ideal S8192x128 .f32)
    (hG : ∀ R l g p q, Chosen (whole (aX m c) R) g p q → G (ix2 R l) = weight (whole (aX m c) R) g p q l) :
    (dats m 0 c).arrAt 2 (cfgs 0).N = G := by
  refine (dats m 0 c).arrAt_eq_of_covers 2 _ (by decide +kernel) fun t _ y => ?_
  blk_simp
  rw [after0_2]
  obtain ⟨ρ, l, rfl⟩ : ∃ (ρ : Fin 1024) (l : Fin 128), y = ix2 ρ l := ⟨y 0, y 1, by idx_vars y⟩
  have e : (win0_2.blk t).view.emb (ix2 ρ l) = ix2 (⟨t.val * 1024 + ρ, by have : t.val < 8 := t.isLt; omega⟩ : Fin 8192) l := by
    funext a
    match a with
    | ⟨0, _⟩ => exact Fin.ext (by blk_simp [idx t])
    | ⟨1, _⟩ => exact Fin.ext (by blk_simp [idx t])
  rw [e]
  obtain ⟨g, p, q, hc⟩ := exists_chosen _ (hx ⟨t.val * 1024 + ρ, by have : t.val < 8 := t.isLt; omega⟩)
  exact (point m c t ρ l hx hc).trans (hG _ _ _ _ _ hc).symm

end Cert.Route

end
-- ==== Proof.Route.Ref.lean ====
/- The reference's weights, row by row. -/
module

public import proofs.«01_k».proof.Proof.Gen.Reference6Ideal.Read
public import proofs.«01_k».proof.Proof.Route.Arr

@[expose] public section

set_option maxRecDepth 65536

noncomputable section

namespace Cert.RouteRef

open Cert.Reference6Ideal Cert.Reference6Ideal.Gen Cert.Reference6Ideal.Read Idealize.ShloMosaic Cert.Route

variable (X : FVec Ideal S8192x128 .f32) (R : Fin 8192)

theorem v1_at (j : Fin 4) : val_main_v1 (F := Ideal) X (ix2 R j) = coarse (whole X R) j := by
  pointwise [val_main_v1]
  rfl
theorem v3_at (g : Fin 4) (j : Fin 8) : val_main_v3 (F := Ideal) X (ix3 R g j) = fine (whole X R) g j := by
  pointwise [val_main_v3, val_main_v2]
  exact congrArg (fun i => X (ix2 R i)) (Fin.ext (by show 4 + ((g : ℕ) * 8 + j) = 4 + 8 * g + j; omega))

theorem zero_at {u : EReal} (hu : ∃ v : ℝ, u = (v : EReal)) : Ideal.exp (u - u) = 1 := by
  obtain ⟨v, rfl⟩ := hu
  rw [← EReal.coe_sub, sub_self, Ideal.exp_coe, Real.exp_zero]
  rfl

/-- A pair of places picks one score of one row. -/
theorem pick_at (x : FVec Ideal S8192x4 .f32) (w : IVec S8192x2 32) (R : Fin 8192) (g : Fin 4)
    (h0 : (w (ix2 R 0)).toInt = (R : ℕ)) (h1 : (w (ix2 R 1)).toInt = (g : ℕ)) :
    Host.gather gather_S8192x4_S8192x2_S8192_n_01_n_n_01_1_11 x w (ix1 R) = x (ix2 R g) := by
  unfold Host.gather
  congr 1
  funext a
  refine Fin.ext ?_
  show GatherDims.start _ _ w a + GatherDims.batchCoord _ _ a + GatherDims.offCoord _ _ a = _
  rw [GatherDims.batchCoord_eq_zero _ _ _ (List.not_mem_nil)]
  have i0 : GatherDims.siIdx gather_S8192x4_S8192x2_S8192_n_01_n_n_01_1_11 (ix1 R) ⟨0, by decide⟩ = ix2 R 0 := by
    funext b
    match b with
    | ⟨0, _⟩ => rfl
    | ⟨1, _⟩ => rfl
  have i1 : GatherDims.siIdx gather_S8192x4_S8192x2_S8192_n_01_n_n_01_1_11 (ix1 R) ⟨1, by decide⟩ = ix2 R 1 := by
    funext b
    match b with
    | ⟨0, _⟩ => rfl
    | ⟨1, _⟩ => rfl
  match a with
  | ⟨0, _⟩ =>
    rw [GatherDims.offCoord_eq_zero _ _ _ (fun h => ((GatherDims.mem_sKept _ _).mp h).1 (List.Mem.head _))]
    unfold GatherDims.start
    rw [dif_pos (show (⟨0, _⟩ : Fin 2) ∈ gather_S8192x4_S8192x2_S8192_n_01_n_n_01_1_11.startIndexMap from List.Mem.head _)]
    show min (w (GatherDims.siIdx _ _ ⟨0, _⟩)).toInt.toNat 8191 + 0 + 0 = (R : ℕ)
    rw [i0, h0]
    omega
  | ⟨1, _⟩ =>
    rw [GatherDims.offCoord_eq_zero _ _ _ (fun h => ((GatherDims.mem_sKept _ _).mp h).1 (List.Mem.tail _ (List.Mem.head _)))]
    unfold GatherDims.start
    rw [dif_pos (show (⟨1, _⟩ : Fin 2) ∈ gather_S8192x4_S8192x2_S8192_n_01_n_n_01_1_11.startIndexMap from List.Mem.tail _ (List.Mem.head _))]
    show min (w (GatherDims.siIdx _ _ ⟨1, _⟩)).toInt.toNat 3 + 0 + 0 = (g : ℕ)
    rw [i1, h1]
    omega

/-- A pair of places picks one group of one row, whole. -/
theorem pick_group (x : FVec Ideal S8192x4x8 .f32) (w : IVec S8192x2 32) (R : Fin 8192) (g : Fin 4) (j : Fin 8)
    (h0 : (w (ix2 R 0)).toInt = (R : ℕ)) (h1 : (w (ix2 R 1)).toInt = (g : ℕ)) :
    Host.gather gather_S8192x4x8_S8192x2_S8192x8_1_01_n_n_01_1_118 x w (ix2 R j) = x (ix3 R g j) := by
  unfold Host.gather
  congr 1
  funext a
  refine Fin.ext ?_
  show GatherDims.start _ _ w a + GatherDims.batchCoord _ _ a + GatherDims.offCoord _ _ a = _
  rw [GatherDims.batchCoord_eq_zero _ _ _ (List.not_mem_nil)]
  have i0 : GatherDims.siIdx gather_S8192x4x8_S8192x2_S8192x8_1_01_n_n_01_1_118 (ix2 R j) ⟨0, by decide⟩ = ix2 R 0 := by
    funext b
    match b with
    | ⟨0, _⟩ => rfl
    | ⟨1, _⟩ => rfl
  have i1 : GatherDims.siIdx gather_S8192x4x8_S8192x2_S8192x8_1_01_n_n_01_1_118 (ix2 R j) ⟨1, by decide⟩ = ix2 R 1 := by
    funext b
    match b with
    | ⟨0, _⟩ => rfl
    | ⟨1, _⟩ => rfl
  match a with
  | ⟨0, _⟩ =>
    rw [GatherDims.offCoord_eq_zero _ _ _ (fun h => ((GatherDims.mem_sKept _ _).mp h).1 (List.Mem.head _))]
    unfold GatherDims.start
    rw [dif_pos (show (⟨0, _⟩ : Fin 3) ∈ gather_S8192x4x8_S8192x2_S8192x8_1_01_n_n_01_1_118.startIndexMap from List.Mem.head _)]
    show min (w (GatherDims.siIdx _ _ ⟨0, _⟩)).toInt.toNat 8191 + 0 + 0 = (R : ℕ)
    rw [i0, h0]
    omega
  | ⟨1, _⟩ =>
    rw [GatherDims.offCoord_eq_zero _ _ _ (fun h => ((GatherDims.mem_sKept _ _).mp h).1 (List.Mem.tail _ (List.Mem.head _)))]
    unfold GatherDims.start
    rw [dif_pos (show (⟨1, _⟩ : Fin 3) ∈ gather_S8192x4x8_S8192x2_S8192x8_1_01_n_n_01_1_118.startIndexMap from List.Mem.tail _ (List.Mem.head _))]
    show min (w (GatherDims.siIdx _ _ ⟨1, _⟩)).toInt.toNat 3 + 0 + 0 = (g : ℕ)
    rw [i1, h1]
    omega
  | ⟨2, _⟩ => exact Nat.zero_add _

theorem low_word : ∀ g : Fin 4, (Scalar.select (IntOp.cmpi CmpIPredicate.slt (BitVec.ofNat 32 (g : ℕ)) 0#32)
    (IntOp.addi (BitVec.ofNat 32 (g : ℕ)) 4#32) (BitVec.ofNat 32 (g : ℕ))).toInt = (g : ℕ) := by decide +kernel

theorem row_word : ∀ R : Fin 8192, (Scalar.select (IntOp.cmpi CmpIPredicate.slt (BitVec.ofNat 32 (R : ℕ)) 0#32)
    (IntOp.addi (BitVec.ofNat 32 (R : ℕ)) 8192#32) (BitVec.ofNat 32 (R : ℕ))).toInt = (R : ℕ) := by decide +kernel

variable (hx : ∀ R, Reals (whole X R)) {g : Fin 4} {p q : Fin 8} (hc : Chosen (whole X R) g p q)

theorem v28_at0 : (val_main_v28 (F := Ideal) X (ix2 R 0)).toInt = (R : ℕ) := by
  pointwise [val_main_v28, val_main_v26, val_main_v20, val_main_v19, val_main_v18, val_main_v17, val_main_v16, val_main_v0, val_main_c, val_main_c_2]
  exact row_word R
theorem v42_at0 : (val_main_v42 (F := Ideal) X (ix2 R 0)).toInt = (R : ℕ) := by
  pointwise [val_main_v42, val_main_v40, val_main_v34, val_main_v33, val_main_v32, val_main_v31, val_main_v30, val_main_v0, val_main_c_5, val_main_c_6]
  exact row_word R

include hc
theorem group_at : val_main_indices (F := Ideal) X (ix2 R 0) = BitVec.ofNat 32 (g : ℕ) := by
  unfold val_main_indices
  refine (top_place (rows := 8192) (w := 4) (k := 1) (val_main_v1 (F := Ideal) X) _ R 0 (by decide)).trans ?_
  have e := sorted_one (coarse (whole X R)) g hc.group (by decide)
  simp only [v1_at]
  exact congrArg (fun i : Fin 4 => BitVec.ofNat 32 (i : ℕ)) e

theorem v28_at1 : (val_main_v28 (F := Ideal) X (ix2 R 1)).toInt = (g : ℕ) := by
  pointwise [val_main_v28, val_main_v27, val_main_v25, val_main_v24, val_main_v23, val_main_v22, val_main_v21, val_main_c_3, val_main_c_4, val_main_v4]
  rw [group_at X R hc]
  exact low_word g
theorem v42_at1 : (val_main_v42 (F := Ideal) X (ix2 R 1)).toInt = (g : ℕ) := by
  pointwise [val_main_v42, val_main_v41, val_main_v39, val_main_v38, val_main_v37, val_main_v36, val_main_v35, val_main_c_7, val_main_c_8, val_main_v4]
  rw [group_at X R hc]
  exact low_word g

theorem v43_at (j : Fin 8) : val_main_v43 (F := Ideal) X (ix2 R j) = fine (whole X R) g j := by
  unfold val_main_v43
  rw [pick_group _ _ R g j (v42_at0 X R) (v42_at1 X R hc), v3_at]

theorem two_at (i : Fin 2) : val_main_values_9 (F := Ideal) X (ix2 R i) = fine (whole X R) g (![p, q] i) := by
  unfold val_main_values_9
  refine (top_value (rows := 8192) (w := 8) (k := 2) (val_main_v43 (F := Ideal) X) _ R i (by decide)).trans ?_
  simp only [v43_at X R hc]
  rw [sorted_two (fine (whole X R) g) p q hc.one hc.two hc.ne (by decide) i]

theorem fine_two : ∀ i : Fin 2, fine (whole X R) g (![p, q] i) ≤ fine (whole X R) g p := fun i => hc.one.1 _

theorem v5_at : val_main_v5 (F := Ideal) X (ix1 R) = coarse (whole X R) g := by
  pointwise [val_main_v5, val_main_cst]
  simp only [v1_at]
  rw [low, fold_max _ g hc.group.1]

include hx
theorem zero_c : Ideal.exp (coarse (whole X R) g - coarse (whole X R) g) = 1 := zero_at (hx R _)
theorem zero_f : Ideal.exp (fine (whole X R) g p - fine (whole X R) g p) = 1 := zero_at (hx R _)

theorem v29_at : val_main_v29 (F := Ideal) X (ix1 R) = share (whole X R) g := by
  unfold val_main_v29
  rw [pick_at _ _ R g (v28_at0 X R) (v28_at1 X R hc)]
  pointwise [val_main_v15, val_main_v14, val_main_v13, val_main_v12, val_main_v11, val_main_v10, val_main_v9, val_main_v8, val_main_v7, val_main_v6, val_main_cst_0, val_main_cst_1]
  simp only [v1_at, v5_at X R hc, low, max_bot_left]
  rw [zero_c X R hx hc]
  rfl

theorem v57_at (l : Fin 2) : val_main_v57 (F := Ideal) X (ix2 R l)
    = share (whole X R) g * Ideal.div (Ideal.exp (fine (whole X R) g (![p, q] l) - fine (whole X R) g p)) (1 + less (whole X R) g p q) := by
  pointwise [val_main_v57, val_main_v56, val_main_v55, val_main_v54, val_main_v53, val_main_v52, val_main_v51, val_main_v50, val_main_v49, val_main_v48, val_main_v47, val_main_v46, val_main_v45, val_main_v44, val_main_cst_11, val_main_cst_12, val_main_cst_13]
  simp only [two_at X R hc]
  rw [low, fold_max _ 0 (fine_two X R hc), max_bot_left, v29_at X R hx hc, Fin.sum_univ_two]
  show _ * Ideal.div (Ideal.exp (fine (whole X R) g (![p, q] l) - fine (whole X R) g p)) (Ideal.exp (fine (whole X R) g p - fine (whole X R) g p) + Ideal.exp (fine (whole X R) g q - fine (whole X R) g p)) = _
  rw [zero_f X R hx hc]
  rfl

theorem v109_at (l : Fin 128) : val_main_v109 (F := Ideal) X (ix2 R l) = weight (whole X R) g p q l := by
  pointwise [val_main_v109, val_main_v108, val_main_v107, val_main_v106]
  obtain ⟨a, ha⟩ := hx R ⟨4 + 8 * g + p, by omega⟩
  obtain ⟨b, hb⟩ := hx R ⟨4 + 8 * g + q, by omega⟩
  have e : less (whole X R) g p q = ((Real.exp (b - a) : ℝ) : EReal) := by
    unfold less fine
    rw [ha, hb, ← EReal.coe_sub, Ideal.exp_coe]
  have d : (1 : EReal) + less (whole X R) g p q = ((1 + Real.exp (b - a) : ℝ) : EReal) := by
    rw [e, EReal.coe_add]; rfl
  have n : (1 + Real.exp (b - a) : ℝ) ≠ 0 := by positivity
  unfold weight
  by_cases h : (l : ℕ) < 1
  · have hl : l = 0 := Fin.ext (by show (l : ℕ) = 0; omega)
    subst hl
    rw [dif_pos h, if_pos rfl]
    refine (v57_at X R hx hc 0).trans ?_
    show _ * Ideal.div (Ideal.exp (fine (whole X R) g p - fine (whole X R) g p)) _ = _
    rw [zero_f X R hx hc, d, Ideal.div_coe n, Ideal.div_coe n, one_mul]
  · have hl : l ≠ 0 := fun e => h (by rw [e]; decide)
    rw [dif_neg h, if_neg hl]
    refine (v57_at X R hx hc 1).trans ?_
    show _ * Ideal.div (less (whole X R) g p q) _ = _
    rw [d, Ideal.div_coe n, Ideal.div_coe n, mul_assoc, mul_comm (less _ _ _ _)]

end Cert.RouteRef

end
-- ==== Proof.Route.Count.lean ====
/- The routing call's choice of experts, and how often each expert is chosen. -/
module

public import proofs.«01_k».proof.Proof.Route.Arr
public import proofs.«01_k».proof.Proof.Gen.Kernel6Ideal.Value

@[expose] public section

set_option maxRecDepth 65536

noncomputable section

namespace Cert.Route

open Cert.Kernel6Ideal Cert.Kernel6Ideal.Gen Idealize.ShloMosaic Idealize.ShloMosaic.TcCoe Idealize.SL.Sem

theorem minus4 : ∀ (g : Fin 4) (p : Fin 8), IntOp.subi (BitVec.ofNat 32 (4 + 8 * (g : ℕ) + p)) 4#32 = BitVec.ofNat 32 (8 * (g : ℕ) + p) := by
  decide +kernel

theorem of_word {w : ℕ} (b : BitVec w) : (FloatOps.sitofp (F := Ideal) .f32 b : EReal) = ((b.toInt : ℝ) : EReal) := rfl

theorem either (a b : Bool) :
    (FloatOps.sitofp (F := Ideal) .f32 (BitVec.setWidth 32 (IntOp.ori (BitVec.ofBool a) (BitVec.ofBool b))) : EReal) = if (a || b) = true then 1 else 0 := by
  cases a <;> cases b <;> simp [IntOp.ori, of_word]

section
variable (x : FVec Ideal S1024x128 .f32) (r : Fin 1024) {g : Fin 4} {p q : Fin 8}
variable (hx : Reals (row x r)) (hc : Chosen (row x r) g p q)
include hx hc

theorem first_at : k0_pay14 lanes (k0_pay6 (F := Ideal) x) (k0_pay7 (F := Ideal) x) (ix2 r 0) = BitVec.ofNat 32 (8 * (g : ℕ) + p) := by
  pointwise [k0_pay14]
  rw [pay8_at x r hx hc]
  exact minus4 g p

omit hx hc in
theorem pay15_form : k0_pay15 (F := Ideal) lanes (k0_pay6 (F := Ideal) x) (k0_pay7 (F := Ideal) x) (ix2 r 0)
    = IntOp.subi (Finset.fold IntOp.minsi (2147483647#32)
      (fun l : Fin 128 => if k0_pay9 lanes (k0_pay6 (F := Ideal) x) (k0_pay7 (F := Ideal) x) (ix2 r l) = k0_pay10 lanes (k0_pay6 (F := Ideal) x) (k0_pay7 (F := Ideal) x) (ix2 r 0)
        then BitVec.ofNat 32 (l : ℕ) else 1073741824#32) Finset.univ) 4#32 := by
  pointwise [k0_pay15]

theorem second_at : k0_pay15 lanes (k0_pay6 (F := Ideal) x) (k0_pay7 (F := Ideal) x) (ix2 r 0) = BitVec.ofNat 32 (8 * (g : ℕ) + q) := by
  have hpq : (p : ℕ) ≠ q := fun e => hc.ne (Fin.ext e)
  rw [pay15_form x r, ← minus4 g q]
  refine congrArg (fun w => IntOp.subi w 4#32) ?_
  refine fold_lane (fun l => (k0_pay9 lanes (k0_pay6 (F := Ideal) x) (k0_pay7 (F := Ideal) x) (ix2 r l) : EReal)
    = k0_pay10 lanes (k0_pay6 (F := Ideal) x) (k0_pay7 (F := Ideal) x) (ix2 r 0)) ⟨4 + 8 * g + q, by omega⟩ ?_ fun l hl => ?_
  · rw [pay9_at x r hx hc, if_neg (by show 4 + 8 * (g : ℕ) + q ≠ _; omega), pay6_in x r hx hc, pay10_at x r hx hc]
  · obtain ⟨v, hv⟩ := hx ⟨4 + 8 * g + q, by omega⟩
    have nb : (⊥ : EReal) ≠ fine (row x r) g q := by
      unfold fine
      rw [hv]
      exact EReal.bot_ne_coe v
    rw [pay10_at x r hx hc, pay9_at x r hx hc]
    split
    · exact nb
    · next h =>
      rcases pay6_le x r hx hc l with e | ⟨j, hj, e⟩
      · rw [e]; exact nb
      · rw [e]
        have hlt : (l : ℕ) < 4 + 8 * g + q := Fin.lt_def.mp hl
        have := hc.two.2 j (Fin.lt_def.mpr (by omega))
        unfold without at this
        rw [if_neg (fun e => h (by rw [hj, e])), if_neg (Ne.symm hc.ne)] at this
        exact this.ne

theorem picks_at (l : Fin 128) : (k0_pay18 lanes (k0_pay6 (F := Ideal) x) (k0_pay7 (F := Ideal) x) (ix2 r l) : EReal)
    = if (l : ℕ) = 8 * g + p ∨ (l : ℕ) = 8 * g + q then 1 else 0 := by
  pointwise [k0_pay18, k0_pay17, k0_pay16]
  rw [first_at x r hx hc, second_at x r hx hc, same l ⟨8 * g + p, by omega⟩, same l ⟨8 * g + q, by omega⟩]
  refine (either _ _).trans ?_
  simp only [Bool.or_eq_true, decide_eq_true_eq, Fin.ext_iff]
end

theorem pay21_at (a : FVec Ideal S1024x128 .bf16) (b : FVec Ideal S1x128 .f32) (l : Fin 128) :
    (k0_pay21 (F := Ideal) a b (ix2 0 l) : EReal) = b (ix2 0 l) + ∑ r : Fin 1024, (a (ix2 r l) : EReal) := by
  pointwise [k0_pay21]

theorem pay1_at (l : Fin 128) : (k0_pay1 (F := Ideal) (ix2 0 l) : EReal) = 0 := by
  pointwise [k0_pay1]

/-! ### The carried counts -/

theorem sum_count (Q : ℕ → Prop) [DecidablePred Q] (n : ℕ) : ∑ r : Fin n, (if Q r then (1 : EReal) else 0) = (Nat.count Q n : EReal) := by
  induction n with
  | zero => simp
  | succ n ih =>
    rw [Fin.sum_univ_castSucc, Nat.count_succ, Nat.cast_add, ← ih]
    congr 1
    by_cases h : Q n <;> simp [h]

variable (m : (ℓ : Loc nD τ sig) → Buf (Elt Ideal) ℓ) (c : Dev nD)

/-- Whether an expert is one of the two of a row. -/
def Hit (g : Fin 8192 → Fin 4) (p q : Fin 8192 → Fin 8) (e : ℕ) (R : ℕ) : Prop :=
  ∃ h : R < 8192, e = 8 * (g ⟨R, h⟩ : ℕ) + p ⟨R, h⟩ ∨ e = 8 * (g ⟨R, h⟩ : ℕ) + q ⟨R, h⟩

open Classical in
theorem left_at (hx : ∀ R, Reals (whole (aX m c) R)) (g : Fin 8192 → Fin 4) (p q : Fin 8192 → Fin 8)
    (hc : ∀ R, Chosen (whole (aX m c) R) (g R) (p R) (q R)) (l : Fin 128) : ∀ (n : ℕ) (hn : n < cfg0.N),
    ((outsAt0 m c n hn).2.2.1 : FVec Ideal S1x128 .f32) (ix2 0 l) = (Nat.count (Hit g p q l) (1024 * (n + 1)) : EReal)
      ∧ ((outsAt0 m c n hn).2.2.2 : FVec Ideal S1x128 .f32) (ix2 0 l) = (Nat.count (Hit g p q l) (1024 * (n + 1)) : EReal) := by
  have step : ∀ (t : Fin cfg0.N), ∑ r : Fin 1024, (k0_pay18 lanes (k0_pay6 (F := Ideal) (iblk m c 0 t)) (k0_pay7 (F := Ideal) (iblk m c 0 t)) (ix2 r l) : EReal)
      = (Nat.count (fun k => Hit g p q l (1024 * t + k)) 1024 : EReal) := by
    intro t
    rw [← sum_count]
    refine Finset.sum_congr rfl fun r _ => ?_
    have ht : t.val < 8 := t.isLt
    have hR : 1024 * t.val + r < 8192 := by omega
    have e : (⟨t.val * 1024 + r, by omega⟩ : Fin 8192) = ⟨1024 * t.val + r, hR⟩ := Fin.ext (by show t.val * 1024 + (r : ℕ) = 1024 * t.val + r; omega)
    rw [picks_at (g := g ⟨1024 * t.val + r, hR⟩) (p := p ⟨1024 * t.val + r, hR⟩) (q := q ⟨1024 * t.val + r, hR⟩) _ r (by rw [row0]; exact hx _) (by rw [row0, e]; exact hc _)]
    refine if_congr ?_ rfl rfl
    unfold Hit
    exact ⟨fun h => ⟨hR, h⟩, fun ⟨_, h⟩ => h⟩
  have startc : ∀ a : FVec Ideal S1024x128 .bf16, ∑ r : Fin 1024, (a (ix2 r l) : EReal) = (Nat.count (fun k => Hit g p q l (1024 * 0 + k)) 1024 : EReal) →
      (k0_pay21 (F := Ideal) a (k0_pay1 (F := Ideal)) (ix2 0 l) : EReal) = (Nat.count (Hit g p q l) (1024 * (0 + 1)) : EReal) := by
    intro a h
    rw [pay21_at, h, pay1_at, zero_add]
    simp only [Nat.mul_zero, Nat.zero_add, Nat.mul_one]
  have nextc : ∀ (n : ℕ) (a : FVec Ideal S1024x128 .bf16) (b : FVec Ideal S1x128 .f32),
      ∑ r : Fin 1024, (a (ix2 r l) : EReal) = (Nat.count (fun k => Hit g p q l (1024 * (n + 1) + k)) 1024 : EReal) →
      (b (ix2 0 l) : EReal) = (Nat.count (Hit g p q l) (1024 * (n + 1)) : EReal) →
      (k0_pay21 (F := Ideal) a b (ix2 0 l) : EReal) = (Nat.count (Hit g p q l) (1024 * (n + 1 + 1)) : EReal) := by
    intro n a b ha hb
    rw [pay21_at, ha, hb, ← Nat.cast_add, ← Nat.count_add]
    rfl
  intro n
  induction n with
  | zero =>
    intro hn
    have eA := outsAt0_A m c ⟨0, hn⟩ (Nat.zero_mod _)
    dsimp only at eA
    rw [eA]
    constructor
    · frame_out
      exact startc _ (step _)
    · frame_out
      exact startc _ (step _)
  | succ n ih =>
    intro hn
    have h : ¬ (⟨n + 1, hn⟩ : Fin cfg0.N).val % 8 = 0 := by
      have : n + 1 < 8 := hn
      show ¬ (n + 1) % 8 = 0
      omega
    have eB := outsAt0_B m c ⟨n + 1, hn⟩ h
    dsimp only at eB
    rw [eB]
    constructor
    · frame_out
      exact nextc n _ _ (step ⟨n + 1, hn⟩) ((congrFun ((Memref.isWhole_whole cc0_scratch0).read_unread _) (ix2 0 l)).trans (ih (Nat.lt_of_succ_lt hn)).2)
    · frame_out
      exact nextc n _ _ (step ⟨n + 1, hn⟩) ((congrFun ((Memref.isWhole_whole cc0_scratch0).read_unread _) (ix2 0 l)).trans (ih (Nat.lt_of_succ_lt hn)).2)

open Classical in
/-- The counts are any array that is right for every expert. -/
theorem final_count (hx : ∀ R, Reals (whole (aX m c) R)) (g : Fin 8192 → Fin 4) (p q : Fin 8192 → Fin 8)
    (hc : ∀ R, Chosen (whole (aX m c) R) (g R) (p R) (q R)) (G : FVec Ideal S1x128 .f32)
    (hG : ∀ l : Fin 128, (G (ix2 0 l) : EReal) = (Nat.count (Hit g p q l) 8192 : EReal)) :
    (dats m 0 c).arrAt 3 (cfgs 0).N = G := by
  refine (Value.final3 m c).trans ((Value.G3_last m c).trans ?_)
  rw [← Value.outsAt0_sweep m c 7 (lt_of_lt_of_eq (by decide) N_0.symm)]
  funext y
  obtain ⟨l, rfl⟩ : ∃ l : Fin 128, y = ix2 0 l := ⟨y 1, by
    funext a
    match a with
    | ⟨0, _⟩ => exact Subsingleton.elim (α := Fin 1) _ _
    | ⟨1, _⟩ => rfl⟩
  exact ((left_at m c hx g p q hc l 7 _).1).trans (hG l).symm

end Cert.Route

end
-- ==== Proof.Route.RefCount.lean ====
/- The reference's experts, and how often it chooses each. -/
module

public import proofs.«01_k».proof.Proof.Route.Ref
public import proofs.«01_k».proof.Proof.Route.Count
public import Idealize.ShloMosaic.Lib.Routing.OpsOrder
public import Idealize.ShloMosaic.Lib.Routing.Ops

@[expose] public section

set_option maxRecDepth 65536

noncomputable section

namespace Cert.RouteRef

open Cert.Reference6Ideal Cert.Reference6Ideal.Gen Cert.Reference6Ideal.Read Idealize.ShloMosaic Cert.Route

theorem join_word : ∀ (g : Fin 4) (p : Fin 8), IntOp.addi (IntOp.muli (BitVec.ofNat 32 (g : ℕ)) 8#32) (BitVec.ofNat 32 (p : ℕ))
    = BitVec.ofNat 32 (8 * (g : ℕ) + p) := by decide +kernel

theorem keep_word : ∀ e : Fin 32, Scalar.select (IntOp.cmpi CmpIPredicate.slt (IntOp.maxsi 0#32 (BitVec.ofNat 32 (e : ℕ))) 0#32)
    (IntOp.addi (IntOp.maxsi 0#32 (BitVec.ofNat 32 (e : ℕ))) 32#32) (IntOp.maxsi 0#32 (BitVec.ofNat 32 (e : ℕ))) = BitVec.ofNat 32 (e : ℕ) := by
  decide +kernel

section
variable (X : FVec Ideal S8192x128 .f32) (R : Fin 8192) {g : Fin 4} {p q : Fin 8} (hc : Chosen (whole X R) g p q)
include hc

theorem place_at (i : Fin 2) : val_main_indices_10 (F := Ideal) X (ix2 R i) = BitVec.ofNat 32 ((![p, q] i : Fin 8) : ℕ) := by
  unfold val_main_indices_10
  refine (top_place (rows := 8192) (w := 8) (k := 2) (val_main_v43 (F := Ideal) X) _ R i (by decide)).trans ?_
  simp only [v43_at X R hc]
  rw [sorted_two (fine (whole X R) g) p q hc.one hc.two hc.ne (by decide) i]

theorem expert_at (i : Fin 2) : val_main_v62 (F := Ideal) X (ix2 R i) = BitVec.ofNat 32 (8 * (g : ℕ) + (![p, q] i : Fin 8)) := by
  pointwise [val_main_v62, val_main_v61, val_main_v60, val_main_v59, val_main_v58, val_main_c_14, val_main_v4]
  rw [group_at X R hc, place_at X R hc i]
  exact join_word g _
end

variable (X : FVec Ideal S8192x128 .f32) (g : Fin 8192 → Fin 4) (p q : Fin 8192 → Fin 8)

/-- The expert of an assignment, the assignments two a row. -/
def expert (j : Fin 16384) : ℕ :=
  8 * (g ⟨j / 2, by omega⟩ : ℕ) + (![p ⟨j / 2, by omega⟩, q ⟨j / 2, by omega⟩] ⟨j % 2, by omega⟩ : Fin 8)

theorem expert_lt (j : Fin 16384) : expert g p q j < 32 := by unfold expert; omega

variable (hc : ∀ R, Chosen (whole X R) (g R) (p R) (q R))
include hc

theorem flat_at (j : Fin 16384) : val_main_v63 (F := Ideal) X (ix1 j) = BitVec.ofNat 32 (expert g p q j) := by
  have e := expert_at X ⟨j / 2, by omega⟩ (hc _) ⟨j % 2, by omega⟩
  unfold expert
  rw [← e]
  pointwise [val_main_v63]

theorem word_at (j : Fin 16384) : val_main_v79 (F := Ideal) X (ix2 j 0) = BitVec.ofNat 32 (expert g p q j) := by
  pointwise [val_main_v79, val_main_v78, val_main_v77, val_main_v76, val_main_v75, val_main_v74, val_main_v73, val_main_call1_v1, val_main_call1_v0, val_main_c_18, val_main_c_19, val_main_c_20]
  rw [flat_at X g p q hc]
  exact keep_word ⟨_, expert_lt g p q j⟩

omit hc in
/-- An assignment counts for an expert exactly when its word is the expert's number. -/
theorem lands (w : IVec S16384x1 32) (j : Fin 16384) (e : Fin 32) :
    ScatterDims.resultIdx? scatter_S32_S16384x1_S16384_n_0_0_1 (ix1 j) w = some (ix1 e) ↔ (w (ix2 j 0)).toInt = (e : ℕ) := by
  have i0 : ScatterDims.siIdx scatter_S32_S16384x1_S16384_n_0_0_1 (ix1 j) ⟨0, by decide⟩ = ix2 j 0 := by
    funext b
    match b with
    | ⟨0, _⟩ => rfl
    | ⟨1, _⟩ => rfl
  have s0 : ScatterDims.start scatter_S32_S16384x1_S16384_n_0_0_1 (ix1 j) w 0 + (ScatterDims.window scatter_S32_S16384x1_S16384_n_0_0_1 (ix1 j) 0 : ℤ)
      = (w (ix2 j 0)).toInt := by
    have h0 : ScatterDims.window scatter_S32_S16384x1_S16384_n_0_0_1 (ix1 j) 0 = 0 := by
      unfold ScatterDims.window
      rw [dif_neg (by decide)]
    rw [h0]
    unfold ScatterDims.start
    rw [dif_pos (show (0 : Fin 1) ∈ scatter_S32_S16384x1_S16384_n_0_0_1.scatterDimsToOperandDims from List.Mem.head _)]
    show (w (ScatterDims.siIdx _ _ ⟨0, _⟩)).toInt + ((0 : ℕ) : ℤ) = _
    rw [i0]
    exact add_zero _
  have he := e.isLt
  unfold ScatterDims.resultIdx?
  split
  · next h =>
    have h1 : 0 ≤ (w (ix2 j 0)).toInt ∧ (w (ix2 j 0)).toInt < 32 := by
      have := h 0
      rwa [s0] at this
    refine ⟨fun q => ?_, fun q => congrArg some (funext fun a => Fin.ext ?_)⟩
    · have := congrArg Fin.val (congrFun (Option.some.inj q) 0)
      change Int.toNat _ = (e : ℕ) at this
      rw [s0] at this
      omega
    · match a with
      | ⟨0, _⟩ =>
        exact (congrArg Int.toNat s0).trans (show (w (ix2 j 0)).toInt.toNat = (e : ℕ) by omega)
  · next h =>
    refine ⟨fun q => (by cases q), fun q => absurd (fun a => ?_) h⟩
    match a with
    | ⟨0, _⟩ =>
      exact (congrArg (fun z : ℤ => 0 ≤ z ∧ z < 32) s0).mpr (by omega)

omit hc in
theorem fold_ones {ι : Type} (P : ι → Prop) [DecidablePred P] (l : List ι) (z : ℕ) :
    l.foldl (fun (a : BitVec 32) n => if P n then IntOp.addi a 1#32 else a) (BitVec.ofNat 32 z) = BitVec.ofNat 32 (z + l.countP fun n => decide (P n)) := by
  induction l generalizing z with
  | nil => rfl
  | cons n l ih =>
    rw [List.foldl_cons, List.countP_cons]
    by_cases h : P n
    · rw [if_pos h, show IntOp.addi (BitVec.ofNat 32 z) 1#32 = BitVec.ofNat 32 (z + 1) from (BitVec.ofNat_add z 1).symm, ih, decide_eq_true h, if_pos rfl]
      congr 1
      omega
    · rw [if_neg h, ih, decide_eq_false h]
      rfl

/-- The assignment of a number goes to an expert. -/
def To (e : ℕ) (j : ℕ) : Prop := ∃ h : j < 16384, expert g p q ⟨j, h⟩ = e

open Classical in
theorem count_at (e : Fin 32) : val_main_v81 (F := Ideal) X (ix1 e) = BitVec.ofNat 32 (Nat.count (To g p q e) 16384) := by
  have small : ∀ e : Fin 32, (BitVec.ofNat 32 (e : ℕ)).toInt = (e : ℕ) := by decide +kernel
  unfold val_main_v81
  rw [← Routing.scatterIn_finRange, Routing.scatterIn_at]
  have z : val_main_v72 (F := Ideal) (ix1 e) = BitVec.ofNat 32 0 := by pointwise [val_main_v72, val_main_c_17]
  have o : ∀ n, val_main_v80 (F := Ideal) n = 1#32 := fun n => by
    obtain ⟨j, rfl⟩ : ∃ j : Fin 16384, n = ix1 j := ⟨n 0, by idx_vars n⟩
    pointwise [val_main_v80, val_main_c_21]
  rw [z]
  simp only [o]
  rw [fold_ones, Nat.zero_add]
  refine congrArg (BitVec.ofNat 32) ((List.countP_congr fun n _ => ?_).trans ((Routing.countP_finRange _ (To g p q e)).trans ?_))
  · rw [decide_eq_true_iff, decide_eq_true_iff, Routing.symm1]
    refine (lands _ (n.cast (Routing.numel1 16384)) e).trans ?_
    rw [word_at X g p q hc]
    have := small ⟨_, expert_lt g p q (n.cast (Routing.numel1 16384))⟩
    rw [this]
    unfold To
    exact ⟨fun h => ⟨(n.cast (Routing.numel1 16384)).isLt, Int.ofNat.inj h⟩, fun ⟨_, h⟩ => congrArg Int.ofNat h⟩
  · rw [Routing.numel1]

open Classical in
/-- Two assignments a row, to two experts: an expert's assignments are as many as the rows that choose it. -/
theorem two_a_row (e n : ℕ) (hn : n ≤ 8192) : Nat.count (To g p q e) (2 * n) = Nat.count (Hit g p q e) n := by
  induction n with
  | zero => rfl
  | succ n ih =>
    have hne := (hc ⟨n, by omega⟩).ne
    have d : (p ⟨n, by omega⟩ : ℕ) ≠ q ⟨n, by omega⟩ := fun h => hne (Fin.ext h)
    have a : To g p q e (2 * n) ↔ e = 8 * (g ⟨n, by omega⟩ : ℕ) + p ⟨n, by omega⟩ := by
      unfold To expert
      have h2 : (⟨2 * n / 2, by omega⟩ : Fin 8192) = ⟨n, by omega⟩ := Fin.ext (by show 2 * n / 2 = n; omega)
      have h3 : (⟨2 * n % 2, by omega⟩ : Fin 2) = 0 := Fin.ext (by show 2 * n % 2 = 0; omega)
      simp only [h2, h3]
      exact ⟨fun ⟨_, h⟩ => h.symm, fun h => ⟨by omega, h.symm⟩⟩
    have b : To g p q e (2 * n + 1) ↔ e = 8 * (g ⟨n, by omega⟩ : ℕ) + q ⟨n, by omega⟩ := by
      unfold To expert
      have h2 : (⟨(2 * n + 1) / 2, by omega⟩ : Fin 8192) = ⟨n, by omega⟩ := Fin.ext (by show (2 * n + 1) / 2 = n; omega)
      have h3 : (⟨(2 * n + 1) % 2, by omega⟩ : Fin 2) = 1 := Fin.ext (by show (2 * n + 1) % 2 = 1; omega)
      simp only [h2, h3]
      exact ⟨fun ⟨_, h⟩ => h.symm, fun h => ⟨by omega, h.symm⟩⟩
    have c : Hit g p q e n ↔ (e = 8 * (g ⟨n, by omega⟩ : ℕ) + p ⟨n, by omega⟩ ∨ e = 8 * (g ⟨n, by omega⟩ : ℕ) + q ⟨n, by omega⟩) := by
      unfold Hit
      exact ⟨fun ⟨_, h⟩ => h, fun h => ⟨by omega, h⟩⟩
    rw [show 2 * (n + 1) = 2 * n + 1 + 1 from rfl, Nat.count_succ, Nat.count_succ, Nat.count_succ, ih (by omega), if_congr a rfl rfl, if_congr b rfl rfl,
      if_congr c rfl rfl]
    split <;> split <;> split <;> omega

open Classical in
theorem v112_at (l : Fin 128) : (val_main_v112 (F := Ideal) X (ix2 0 l) : EReal) = (Nat.count (Hit g p q l) 8192 : EReal) := by
  pointwise [val_main_v112, val_main_v111, val_main_v110, val_main_call3_v0, val_main_c_27]
  by_cases h : (l : ℕ) < 32
  · have b : Nat.count (Hit g p q l) 8192 ≤ 8192 := Nat.count_le _
    rw [dif_pos h, count_at X g p q hc ⟨l, h⟩, show (16384 : ℕ) = 2 * 8192 from rfl, two_a_row X g p q hc l 8192 le_rfl, of_word,
      StableHlo.Predicate.toInt_ofNat_small _ (by omega)]
    rfl
  · rw [dif_neg h, of_word]
    have z : Nat.count (Hit g p q l) 8192 = 0 := by
      refine (Routing.count_congr_of_lt (Q := fun _ => False) 8192 fun i _ => ⟨fun ⟨_, k⟩ => h (by omega), False.elim⟩).trans (Nat.count_false _)
    rw [z]
    simp

end Cert.RouteRef

end
-- ==== Proof.Route.RefRank.lean ====
/- The reference's ranks: how many assignments before one go to its expert. -/
module

public import proofs.«01_k».proof.Proof.Route.RefCount
public import Idealize.ShloMosaic.Lib.PlanTiles.StableSort
public import Idealize.ShloMosaic.Lib.Routing.OpsSet
public import Idealize.ShloMosaic.Lib.Routing.OpsPair

@[expose] public section

set_option maxRecDepth 65536

noncomputable section

namespace Cert.RouteRef

open Cert.Reference6Ideal Cert.Reference6Ideal.Gen Cert.Reference6Ideal.Read Idealize.ShloMosaic Cert.Route

/-! ### Counting -/

/-- In a list in order, an entry stands after as many entries as come before it in that order. -/
theorem stands {ι : Type} (R : ι → ι → Prop) [DecidableRel R] (hi : ∀ a, ¬ R a a) (ha : ∀ a b, R a b → ¬ R b a) (L : List ι)
    (hL : L.Pairwise R) (i : ℕ) (h : i < L.length) : L.countP (fun x => decide (R x L[i])) = i := by
  induction L generalizing i with
  | nil => exact absurd h (Nat.not_lt_zero _)
  | cons a l ih =>
    obtain ⟨hal, hl⟩ := List.pairwise_cons.mp hL
    cases i with
    | zero =>
      refine List.countP_eq_zero.mpr fun x hx => ?_
      rw [decide_eq_true_iff]
      rcases List.mem_cons.mp hx with e | e
      · rw [e]; exact hi a
      · exact ha a x (hal x e)
    | succ i =>
      have hil : i < l.length := Nat.lt_of_succ_lt_succ h
      rw [List.getElem_cons_succ, List.countP_cons, ih hl i hil, if_pos (decide_eq_true (hal _ (List.getElem_mem hil)))]

theorem count_split (P Q R : ℕ → Prop) [DecidablePred P] [DecidablePred Q] [DecidablePred R] (n : ℕ) (h : ∀ k, k < n → (R k ↔ P k ∨ Q k))
    (hd : ∀ k, k < n → P k → ¬ Q k) : Nat.count R n = Nat.count P n + Nat.count Q n := by
  induction n with
  | zero => rfl
  | succ n ih =>
    rw [Nat.count_succ, Nat.count_succ, Nat.count_succ, ih (fun k hk => h k (by omega)) (fun k hk => hd k (by omega))]
    have h1 := h n (by omega)
    have h2 := hd n (by omega)
    by_cases p : P n
    · rw [if_pos p, if_pos (h1.mpr (Or.inl p)), if_neg (h2 p)]; omega
    · by_cases q : Q n
      · rw [if_neg p, if_pos q, if_pos (h1.mpr (Or.inr q))]; omega
      · rw [if_neg p, if_neg q, if_neg (fun r => (h1.mp r).elim p q)]; omega

variable (X : FVec Ideal S8192x128 .f32) (g : Fin 8192 → Fin 4) (p q : Fin 8192 → Fin 8)

/-- The assignment of a number goes to an earlier expert. -/
def Below (e : ℕ) (j : ℕ) : Prop := ∃ h : j < 16384, expert g p q ⟨j, h⟩ < e

open Classical in
theorem below_sum (e : ℕ) : ((List.range e).map fun k => Nat.count (To g p q k) 16384).sum = Nat.count (Below g p q e) 16384 := by
  induction e with
  | zero =>
    refine Eq.symm ((Routing.count_congr_of_lt (Q := fun _ => False) 16384 fun i _ => ⟨fun ⟨_, k⟩ => Nat.not_lt_zero _ k, False.elim⟩).trans (Nat.count_false _))
  | succ e ih =>
    rw [List.range_succ, List.map_append, List.sum_append, ih, List.map_singleton, List.sum_singleton]
    refine (count_split _ _ _ _ (fun k hk => ?_) fun k hk => ?_).symm
    · unfold Below To
      constructor
      · rintro ⟨h, a⟩
        rcases Nat.lt_succ_iff_lt_or_eq.mp a with a | a
        · exact Or.inl ⟨h, a⟩
        · exact Or.inr ⟨h, a⟩
      · rintro (⟨h, a⟩ | ⟨h, a⟩)
        · exact ⟨h, by omega⟩
        · exact ⟨h, by omega⟩
    · rintro ⟨h, a⟩ ⟨_, b⟩
      omega

/-! ### The sort -/

/-- The assignment the sort puts at a place. -/
def from_ (i : Fin 16384) : Fin 16384 := sortedFrom (fun a b => decide (expert g p q a < expert g p q b)) i

/-- Expert by expert, and those of one expert in their order. -/
def Ahead (a b : Fin 16384) : Prop := expert g p q a < expert g p q b ∨ (expert g p q a = expert g p q b ∧ a < b)

open Classical in
theorem place_from (i : Fin 16384) : (i : ℕ) = Nat.count (Below g p q (expert g p q (from_ g p q i))) 16384
    + Nat.count (To g p q (expert g p q (from_ g p q i))) (from_ g p q i) := by
  have hs : (sortPositions 16384 fun a b => decide (expert g p q a < expert g p q b)).Pairwise (Ahead g p q) := by
    have e : (fun a b : Fin 16384 => decide (expert g p q a < expert g p q b)) = fun a b => decide (32 - expert g p q b < 32 - expert g p q a) := by
      funext a b
      have := expert_lt g p q a
      have := expert_lt g p q b
      exact decide_eq_decide.mpr (by omega)
    rw [e]
    refine (PlanTiles.pairwise_stableSort_lex (fun a => 32 - expert g p q a) (· < ·) (List.finRange 16384) (List.pairwise_lt_finRange _)).imp fun {a b} h => ?_
    have := expert_lt g p q a
    have := expert_lt g p q b
    unfold Ahead
    rcases h with h | ⟨h, k⟩
    · change 32 - expert g p q b < 32 - expert g p q a at h
      exact Or.inl (by omega)
    · change 32 - expert g p q a = 32 - expert g p q b at h
      exact Or.inr ⟨by omega, k⟩
  have hlen : (i : ℕ) < (sortPositions 16384 fun a b => decide (expert g p q a < expert g p q b)).length := by
    rw [length_sortPositions]; exact i.isLt
  have st := stands (Ahead g p q) (fun a h => by unfold Ahead at h; omega) (fun a b h k => by unfold Ahead at h k; omega) _ hs i hlen
  have hf : (sortPositions 16384 fun a b => decide (expert g p q a < expert g p q b))[(i : ℕ)] = from_ g p q i := rfl
  rw [hf, (perm_sortPositions _ _).countP_eq] at st
  generalize from_ g p q i = A at st ⊢
  have c := Routing.countP_finRange 16384 fun k => ∃ h : k < 16384, Ahead g p q ⟨k, h⟩ A
  have c' : (List.finRange 16384).countP (fun x => decide (Ahead g p q x A)) = (List.finRange 16384).countP fun n => decide (∃ h : n.val < 16384, Ahead g p q ⟨n.val, h⟩ A) := by
    refine List.countP_congr fun n _ => ?_
    rw [decide_eq_true_iff, decide_eq_true_iff]
    exact ⟨fun h => ⟨n.isLt, h⟩, fun ⟨_, h⟩ => h⟩
  rw [← st, c', c]
  have t : Nat.count (To g p q (expert g p q A)) A = Nat.count (fun k => To g p q (expert g p q A) k ∧ k < A) 16384 := by
    have split := Nat.count_add (fun k => To g p q (expert g p q A) k ∧ k < A) A (16384 - A)
    rw [show (A : ℕ) + (16384 - A) = 16384 by omega] at split
    rw [split]
    have z : Nat.count (fun k => To g p q (expert g p q A) (A + k) ∧ A + k < A) (16384 - A) = 0 :=
      (Routing.count_congr_of_lt (Q := fun _ => False) _ fun k _ => ⟨fun ⟨_, h⟩ => by omega, False.elim⟩).trans (Nat.count_false _)
    rw [z, Nat.add_zero]
    exact Routing.count_congr_of_lt _ fun k hk => ⟨fun h => ⟨h, hk⟩, fun h => h.1⟩
  rw [t]
  refine count_split _ _ _ _ (fun k hk => ?_) fun k hk => ?_
  · unfold Ahead Below To
    constructor
    · rintro ⟨h, a | ⟨a, b⟩⟩
      · exact Or.inl ⟨h, a⟩
      · exact Or.inr ⟨⟨h, a⟩, b⟩
    · rintro (⟨h, a⟩ | ⟨⟨h, a⟩, b⟩)
      · exact ⟨h, Or.inl a⟩
      · exact ⟨h, Or.inr ⟨a, b⟩⟩
  · rintro ⟨h, a⟩ ⟨⟨_, b⟩, _⟩
    omega

theorem from_all (A : Fin 16384) : ∃ i, from_ g p q i = A := sortedFrom_surjective _ A

/-! ### The reference's arrays -/

variable (hc : ∀ R, Chosen (whole X R) (g R) (p R) (q R))
include hc

theorem order_at (i : Fin 16384) : val_main_v64 (F := Ideal) X (ix1 i) = BitVec.ofNat 32 (from_ g p q i : ℕ) := by
  have e : ∀ c : Fin 16384, (ix1 i : S16384.Idx).along ⟨0, Nat.zero_lt_one⟩ c = ix1 c := fun c => by
    funext a
    match a with
    | ⟨0, _⟩ => rfl
  have hb : (fun a b : Fin 16384 => comparator_i32_i32_d0
      (val_main_v63 (F := Ideal) X ((ix1 i : S16384.Idx).along ⟨0, Nat.zero_lt_one⟩ a), val_main_call0_v0 (F := Ideal) ((ix1 i : S16384.Idx).along ⟨0, Nat.zero_lt_one⟩ a))
      (val_main_v63 (F := Ideal) X ((ix1 i : S16384.Idx).along ⟨0, Nat.zero_lt_one⟩ b), val_main_call0_v0 (F := Ideal) ((ix1 i : S16384.Idx).along ⟨0, Nat.zero_lt_one⟩ b)) == 1#1)
      = fun a b => decide (expert g p q a < expert g p q b) := by
    funext a b
    rw [e, e, flat_at X g p q hc, flat_at X g p q hc]
    have h1 := expert_lt g p q a
    have h2 := expert_lt g p q b
    have key : ∀ x y : Fin 32, (IntOp.cmpi CmpIPredicate.slt (BitVec.ofNat 32 (x : ℕ)) (BitVec.ofNat 32 (y : ℕ)) == 1#1) = decide ((x : ℕ) < y) := by
      decide +kernel
    exact key ⟨_, h1⟩ ⟨_, h2⟩
  have s : val_main_v64 (F := Ideal) X (ix1 i) = val_main_call0_v0 (F := Ideal) ((ix1 i : S16384.Idx).along ⟨0, Nat.zero_lt_one⟩ (sortedFrom (n := 16384) (fun a b : Fin 16384 => comparator_i32_i32_d0
      (val_main_v63 (F := Ideal) X ((ix1 i : S16384.Idx).along ⟨0, Nat.zero_lt_one⟩ a), val_main_call0_v0 (F := Ideal) ((ix1 i : S16384.Idx).along ⟨0, Nat.zero_lt_one⟩ a))
      (val_main_v63 (F := Ideal) X ((ix1 i : S16384.Idx).along ⟨0, Nat.zero_lt_one⟩ b), val_main_call0_v0 (F := Ideal) ((ix1 i : S16384.Idx).along ⟨0, Nat.zero_lt_one⟩ b)) == 1#1) i)) := rfl
  rw [s, hb, e]
  rfl

omit hc in
theorem wrapped (n : ℕ) (h : n < 2 ^ 31) (a : BitVec 32) : Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; exact h)

theorem order_word (i : Fin 16384) : val_main_v70 (F := Ideal) X (ix2 i 0) = BitVec.ofNat 32 (from_ g p q i : ℕ) := by
  pointwise [val_main_v70, val_main_v69, val_main_v68, val_main_v67, val_main_v66, val_main_v65, val_main_c_15, val_main_c_16]
  rw [order_at X g p q hc]
  exact wrapped _ (by omega) _

theorem set_word (i : Fin 16384) : val_main_v99 (F := Ideal) X (ix2 i 0) = BitVec.ofNat 32 (from_ g p q i : ℕ) := by
  pointwise [val_main_v99, val_main_v98, val_main_v97, val_main_v96, val_main_v95, val_main_v94, val_main_c_25, val_main_c_26]
  rw [order_at X g p q hc]
  exact wrapped _ (by omega) _

theorem taken_at (i : Fin 16384) : val_main_v71 (F := Ideal) X (ix1 i) = BitVec.ofNat 32 (expert g p q (from_ g p q i)) := by
  unfold val_main_v71
  refine (Routing.gather_take1 _ rfl rfl rfl rfl _ _ i (from_ g p q i) (order_word X g p q hc i) (by decide)).trans ?_
  exact flat_at X g p q hc _

theorem taken_word (i : Fin 16384) : val_main_v91 (F := Ideal) X (ix2 i 0) = BitVec.ofNat 32 (expert g p q (from_ g p q i)) := by
  pointwise [val_main_v91, val_main_v90, val_main_v89, val_main_v88, val_main_v87, val_main_v86, val_main_c_23, val_main_c_24]
  rw [taken_at X g p q hc]
  exact wrapped _ (by have := expert_lt g p q (from_ g p q i); omega) _

omit hc in
theorem minus_word (a b : ℕ) : IntOp.subi (BitVec.ofNat 32 (a + b)) (BitVec.ofNat 32 b) = BitVec.ofNat 32 a := by
  show BitVec.ofNat 32 (a + b) - BitVec.ofNat 32 b = _
  rw [BitVec.ofNat_add, BitVec.add_sub_cancel]

omit hc in
open Classical in
/-- How many assignments go to an expert. -/
def total (e : ℕ) : ℕ := Nat.count (To g p q e) 16384

theorem sums_at (e : Fin 32) : (val_main_v82 (F := Ideal) X (ix1 e) : BitVec 32) = BitVec.ofNat 32 ((List.range ((e : ℕ) + 1)).map (total g p q)).sum := by
  unfold val_main_v82
  exact Routing.cumsum1 rfl _ (total g p q) (fun i => count_at X g p q hc i) _ rfl _ _ e

open Classical in
theorem starts_at (e : Fin 32) : val_main_v83 (F := Ideal) X (ix1 e) = BitVec.ofNat 32 (Nat.count (Below g p q e) 16384) := by
  have c : val_main_v81 (F := Ideal) X (ix1 e) = BitVec.ofNat 32 (total g p q e) := count_at X g p q hc e
  have b : ((List.range (e : ℕ)).map (total g p q)).sum = Nat.count (Below g p q e) 16384 := below_sum g p q e
  refine (congrArg₂ IntOp.subi (sums_at X g p q hc e) c).trans ?_
  rw [List.range_succ, List.map_append, List.sum_append, List.map_singleton, List.sum_singleton, b]
  exact minus_word _ _

open Classical in
theorem ahead_at (i : Fin 16384) : val_main_v93 (F := Ideal) X (ix1 i) = BitVec.ofNat 32 (Nat.count (To g p q (expert g p q (from_ g p q i))) (from_ g p q i)) := by
  have t : val_main_v92 (F := Ideal) X (ix1 i) = BitVec.ofNat 32 (Nat.count (Below g p q (expert g p q (from_ g p q i))) 16384) := by
    unfold val_main_v92
    refine (Routing.gather_take1 _ rfl rfl rfl rfl _ _ i ⟨_, expert_lt g p q (from_ g p q i)⟩ (taken_word X g p q hc i) (by decide)).trans ?_
    exact starts_at X g p q hc _
  show IntOp.subi (BitVec.ofNat 32 (i : ℕ)) (val_main_v92 (F := Ideal) X (ix1 i)) = _
  rw [t]
  conv_lhs => rw [place_from g p q i, Nat.add_comm]
  exact minus_word _ _

open Classical in
theorem rank_at (A : Fin 16384) : val_main_v100 (F := Ideal) X (ix1 A) = BitVec.ofNat 32 (Nat.count (To g p q (expert g p q A)) A) := by
  have w : ∀ i : Fin 16384, (val_main_v99 (F := Ideal) X (ix2 i 0)).toInt = (from_ g p q i : ℕ) := fun i => by
    rw [set_word X g p q hc, StableHlo.Predicate.toInt_ofNat_small _ (by omega)]
  unfold val_main_v100
  refine (Routing.scatter_set_signed _ rfl rfl rfl _ _ _ A _ fun i hi => ?_).1 ?_
  · have : from_ g p q i = A := Fin.ext (Int.ofNat.inj ((w i).symm.trans hi))
    refine (ahead_at X g p q hc i).trans ?_
    rw [this]
  · obtain ⟨i, hi⟩ := from_all g p q A
    exact ⟨i, (w i).trans (by rw [hi])⟩

omit hc in
theorem expert_even (R : Fin 8192) (h : 2 * (R : ℕ) < 16384) : expert g p q ⟨2 * R, h⟩ = 8 * (g R : ℕ) + p R := by
  unfold expert
  have h2 : (⟨2 * (R : ℕ) / 2, by omega⟩ : Fin 8192) = R := Fin.ext (by show 2 * (R : ℕ) / 2 = R; omega)
  have h3 : (⟨2 * (R : ℕ) % 2, by omega⟩ : Fin 2) = 0 := Fin.ext (by show 2 * (R : ℕ) % 2 = 0; omega)
  simp only [h2, h3]
  rfl

omit hc in
theorem expert_odd (R : Fin 8192) (h : 2 * (R : ℕ) + 1 < 16384) : expert g p q ⟨2 * R + 1, h⟩ = 8 * (g R : ℕ) + q R := by
  unfold expert
  have h2 : (⟨(2 * (R : ℕ) + 1) / 2, by omega⟩ : Fin 8192) = R := Fin.ext (by show (2 * (R : ℕ) + 1) / 2 = R; omega)
  have h3 : (⟨(2 * (R : ℕ) + 1) % 2, by omega⟩ : Fin 2) = 1 := Fin.ext (by show (2 * (R : ℕ) + 1) % 2 = 1; omega)
  simp only [h2, h3]
  rfl

open Classical in
/-- The rank of a row's first assignment: how many rows before it choose the expert. -/
theorem rank_first (R : Fin 8192) : val_main_v101 (F := Ideal) X (ix2 R 0) = BitVec.ofNat 32 (Nat.count (Hit g p q (8 * (g R : ℕ) + p R)) R) := by
  have hA : 2 * (R : ℕ) < 16384 := by omega
  have s : val_main_v101 (F := Ideal) X (ix2 R 0) = val_main_v100 (F := Ideal) X (ix1 ⟨2 * (R : ℕ), hA⟩) := by
    unfold val_main_v101
    exact Routing.cast12 _ _ R 0 _ (by show 2 * (R : ℕ) = R * 2 + 0; omega)
  rw [s, rank_at X g p q hc, expert_even]
  exact congrArg (BitVec.ofNat 32) (two_a_row X g p q hc _ R (by omega))

open Classical in
/-- And of its second. -/
theorem rank_second (R : Fin 8192) : val_main_v101 (F := Ideal) X (ix2 R 1) = BitVec.ofNat 32 (Nat.count (Hit g p q (8 * (g R : ℕ) + q R)) R) := by
  have hA : 2 * (R : ℕ) + 1 < 16384 := by omega
  have s : val_main_v101 (F := Ideal) X (ix2 R 1) = val_main_v100 (F := Ideal) X (ix1 ⟨2 * (R : ℕ) + 1, hA⟩) := by
    unfold val_main_v101
    exact Routing.cast12 _ _ R 1 _ (by show 2 * (R : ℕ) + 1 = R * 2 + 1; omega)
  have no : ¬ To g p q (8 * (g R : ℕ) + q R) (2 * R) := by
    rintro ⟨h, a⟩
    rw [expert_even] at a
    exact (hc R).ne (Fin.ext (by omega))
  rw [s, rank_at X g p q hc, expert_odd]
  refine congrArg (BitVec.ofNat 32) ?_
  show Nat.count _ (2 * (R : ℕ) + 1) = _
  rw [Nat.count_succ, if_neg no, two_a_row X g p q hc _ R (by omega), Nat.add_zero]

open Classical in
/-- A row of the experts and ranks. -/
theorem v105_at (R : Fin 8192) (l : Fin 128) : val_main_v105 (F := Ideal) X (ix2 R l) = BitVec.ofNat 32 (
    if (l : ℕ) = 0 then 8 * (g R : ℕ) + p R else if (l : ℕ) = 1 then 8 * (g R : ℕ) + q R
    else if (l : ℕ) = 2 then Nat.count (Hit g p q (8 * (g R : ℕ) + p R)) R else Nat.count (Hit g p q (8 * (g R : ℕ) + q R)) R) := by
  have e0 := expert_at X R (hc R) 0
  have e1 := expert_at X R (hc R) 1
  have r0 := rank_first X g p q hc R
  have r1 := rank_second X g p q hc R
  pointwise [val_main_v105, val_main_v104, val_main_v103, val_main_v102]
  by_cases h0 : (l : ℕ) = 0
  · obtain rfl : l = 0 := Fin.ext h0
    exact e0
  by_cases h1 : (l : ℕ) = 1
  · obtain rfl : l = 1 := Fin.ext h1
    exact e1
  rw [dif_neg (by omega), if_neg h0, if_neg h1]
  by_cases h2 : (l : ℕ) = 2
  · obtain rfl : l = 2 := Fin.ext h2
    exact r0
  · rw [dif_neg (by omega), if_neg h2]
    exact r1

end Cert.RouteRef

end
-- ==== Proof.Route.Rank.lean ====
/- The routing call's experts and their ranks. -/
module

public import proofs.«01_k».proof.Proof.Route.Count
public import Idealize.ShloMosaic.Lib.Routing.OpsOrder
public import Idealize.ShloMosaic.Lib.Routing.Ops

@[expose] public section

set_option maxRecDepth 65536

noncomputable section

namespace Cert.Route

open Cert.Kernel6Ideal Cert.Kernel6Ideal.Gen Idealize.ShloMosaic Idealize.ShloMosaic.TcCoe Idealize.SL.Sem

theorem earlier (b : Bool) : (FloatOps.sitofp (F := Ideal) .f32 (BitVec.setWidth 32 (BitVec.ofBool b)) : EReal) = if b = true then 1 else 0 := by
  cases b <;> simp [of_word]

theorem less_word (a b : Fin 1024) : (BitVec.ofNat 32 (a : ℕ)).slt (BitVec.ofNat 32 (b : ℕ)) = decide ((a : ℕ) < b) := by
  rw [BitVec.slt_eq_decide, StableHlo.Predicate.toInt_ofNat_small _ (by omega), StableHlo.Predicate.toInt_ofNat_small _ (by omega)]
  exact decide_eq_decide.mpr Int.ofNat_lt

/-- A count as an integer word. -/
theorem to_word (n : ℕ) (h : n ≤ 8192) : Ideal.fptosi 32 (n : EReal) = BitVec.ofNat 32 n := by
  have e : (n : EReal) = ((n : ℝ) : EReal) := rfl
  have r : ((2 ^ (32 - 1) : ℕ) : ℤ) = 2147483648 := by norm_num
  rw [e, Ideal.fptosi, Ideal.toIntClamped_coe, if_pos (Nat.cast_nonneg n), Int.floor_natCast, r, min_eq_right (by omega), max_eq_right (by omega)]
  rfl

theorem seen_at (x : FVec Ideal S1024x128 .f32) (b : FVec Ideal S1x128 .f32) (r : Fin 1024) (l : Fin 128) :
    (k0_pay19 lanes (k0_pay6 (F := Ideal) x) (k0_pay7 (F := Ideal) x) b (ix2 r l) : EReal)
      = b (ix2 0 l) + ∑ k : Fin 1024, (if (k : ℕ) < r then 1 else 0) * (k0_pay18 lanes (k0_pay6 (F := Ideal) x) (k0_pay7 (F := Ideal) x) (ix2 k l) : EReal) := by
  pointwise [k0_pay19]
  refine congrArg (b (ix2 0 l) + ·) (Finset.sum_congr rfl fun k _ => congrArg (· * _) ?_)
  refine (earlier ((BitVec.ofNat 32 (k : ℕ)).slt (BitVec.ofNat 32 (r : ℕ)))).trans ?_
  rw [less_word]
  simp only [decide_eq_true_eq]

theorem place_of (x : FVec Ideal S1024x128 .f32) (s : FVec Ideal S1024x128 .f32) (r : Fin 1024) (l : Fin 128) {g : Fin 4} {p q : Fin 8}
    (hx : Reals (row x r)) (hc : Chosen (row x r) g p q) (a b : ℕ) (ha : a ≤ 8192) (hb : b ≤ 8192)
    (sa : (s (ix2 r ⟨8 * g + p, by omega⟩) : EReal) = a) (sb : (s (ix2 r ⟨8 * g + q, by omega⟩) : EReal) = b) :
    k0_pay22 (F := Ideal) lanes (k0_pay14 lanes (k0_pay6 (F := Ideal) x) (k0_pay7 (F := Ideal) x)) (k0_pay15 lanes (k0_pay6 (F := Ideal) x) (k0_pay7 (F := Ideal) x))
      (k0_pay16 lanes (k0_pay6 (F := Ideal) x) (k0_pay7 (F := Ideal) x)) (k0_pay17 lanes (k0_pay6 (F := Ideal) x) (k0_pay7 (F := Ideal) x)) s (k0_pay20 (F := Ideal)) (ix2 r l)
      = BitVec.ofNat 32 (if (l : ℕ) = 0 then 8 * (g : ℕ) + p else if (l : ℕ) = 1 then 8 * (g : ℕ) + q else if (l : ℕ) = 2 then a else b) := by
  pointwise [k0_pay22, k0_pay16, k0_pay17, k0_pay20]
  rw [first_at x r hx hc, second_at x r hx hc]
  have lane : ∀ e : Fin 128, (∑ k : Fin 128, Scalar.select (IntOp.cmpi CmpIPredicate.eq (BitVec.ofNat 32 (k : ℕ)) (BitVec.ofNat 32 (e : ℕ))) (s (ix2 r k) : EReal) 0 : EReal)
      = s (ix2 r e) := by
    intro e
    refine Eq.trans (Finset.sum_congr rfl fun k _ => ?_) (Fintype.sum_ite_eq' e fun k => (s (ix2 r k) : EReal))
    rw [same, sel]
  have ea := (congrArg (Ideal.fptosi 32) ((lane ⟨8 * g + p, by omega⟩).trans sa)).trans (to_word a ha)
  have eb := (congrArg (Ideal.fptosi 32) ((lane ⟨8 * g + q, by omega⟩).trans sb)).trans (to_word b hb)
  refine Eq.trans (congrArg₂ (Scalar.select _ · ·) rfl (congrArg₂ (Scalar.select _ · ·) rfl (congrArg₂ (Scalar.select _ · ·) ea eb))) ?_
  have s0 := same l 0
  have s1 := same l 1
  have s2 := same l 2
  rw [show BitVec.ofNat 32 ((0 : Fin 128) : ℕ) = 0#32 from rfl] at s0
  rw [show BitVec.ofNat 32 ((1 : Fin 128) : ℕ) = 1#32 from rfl] at s1
  rw [show BitVec.ofNat 32 ((2 : Fin 128) : ℕ) = 2#32 from rfl] at s2
  rw [s0, s1, s2, sel, sel, sel]
  simp only [Fin.ext_iff]
  by_cases h0 : (l : ℕ) = 0
  · rw [if_pos h0]; exact if_pos h0
  rw [if_neg h0]
  refine (if_neg h0).trans ?_
  by_cases h1 : (l : ℕ) = 1
  · rw [if_pos h1]; exact if_pos h1
  rw [if_neg h1]
  refine (if_neg h1).trans ?_
  by_cases h2 : (l : ℕ) = 2
  · rw [if_pos h2]; exact if_pos h2
  rw [if_neg h2]
  exact if_neg h2

/-- The rows before one, of those a condition holds of. -/
theorem sum_before (Q : ℕ → Prop) [DecidablePred Q] (r n : ℕ) (h : r ≤ n) :
    ∑ k : Fin n, (if (k : ℕ) < r then (1 : EReal) else 0) * (if Q k then 1 else 0) = (Nat.count Q r : EReal) := by
  rw [← sum_count]
  obtain ⟨d, rfl⟩ := Nat.exists_eq_add_of_le h
  refine (Fin.sum_univ_add _).trans ?_
  refine Eq.trans (congrArg₂ (· + ·) (Finset.sum_congr rfl fun k _ => ?_) (Finset.sum_eq_zero fun k _ => ?_)) (add_zero _)
  · rw [if_pos (by exact k.isLt), one_mul]; rfl
  · rw [if_neg (by simp), zero_mul]

/-! ### The array -/

variable (m : (ℓ : Loc nD τ sig) → Buf (Elt Ideal) ℓ) (c : Dev nD)

theorem idx1 : ∀ t : Fin cfg0.N, win0_1.index t = ![t.val, 0] :=
  (by decide +kernel : ∀ t : Fin grid0.N, _)

section
variable (hx : ∀ R, Reals (whole (aX m c) R)) (g : Fin 8192 → Fin 4) (p q : Fin 8192 → Fin 8)
variable (hc : ∀ R, Chosen (whole (aX m c) R) (g R) (p R) (q R))
include hx hc

open Classical in
/-- What a row sees: how often each expert was chosen in the rows before it. -/
theorem seen_count (t : Fin cfg0.N) (b : FVec Ideal S1x128 .f32) (r : Fin 1024) (l : Fin 128)
    (hb : (b (ix2 0 l) : EReal) = (Nat.count (Hit g p q l) (1024 * t) : EReal)) :
    (k0_pay19 lanes (k0_pay6 (F := Ideal) (iblk m c 0 t)) (k0_pay7 (F := Ideal) (iblk m c 0 t)) b (ix2 r l) : EReal)
      = (Nat.count (Hit g p q l) (1024 * t + r) : EReal) := by
  rw [seen_at, hb, Nat.count_add, Nat.cast_add]
  refine congrArg ((Nat.count (Hit g p q l) (1024 * t) : EReal) + ·) ?_
  rw [← sum_before _ r 1024 (le_of_lt r.isLt)]
  refine Finset.sum_congr rfl fun k _ => congrArg (HMul.hMul (α := EReal) _) ?_
  have ht : t.val < 8 := t.isLt
  have hR : 1024 * t.val + k < 8192 := by omega
  have e : (⟨t.val * 1024 + k, by omega⟩ : Fin 8192) = ⟨1024 * t.val + k, hR⟩ := Fin.ext (by show t.val * 1024 + (k : ℕ) = 1024 * t.val + k; omega)
  rw [picks_at (g := g ⟨1024 * t.val + k, hR⟩) (p := p ⟨1024 * t.val + k, hR⟩) (q := q ⟨1024 * t.val + k, hR⟩) _ k (by rw [row0]; exact hx _) (by rw [row0, e]; exact hc _)]
  refine if_congr ?_ rfl rfl
  unfold Hit
  exact ⟨fun h => ⟨hR, h⟩, fun ⟨_, h⟩ => h⟩

open Classical in
/-- What is written of a row: its experts, and how often each was chosen in the rows before. -/
def told (R : Fin 8192) (l : Fin 128) : BitVec 32 := BitVec.ofNat 32 (
  if (l : ℕ) = 0 then 8 * (g R : ℕ) + p R else if (l : ℕ) = 1 then 8 * (g R : ℕ) + q R
  else if (l : ℕ) = 2 then Nat.count (Hit g p q (8 * (g R : ℕ) + p R)) R else Nat.count (Hit g p q (8 * (g R : ℕ) + q R)) R)

open Classical in
theorem told_at (t : Fin cfg0.N) (r : Fin 1024) (l : Fin 128) (b : FVec Ideal S1x128 .f32)
    (hb : ∀ l : Fin 128, (b (ix2 0 l) : EReal) = (Nat.count (Hit g p q l) (1024 * t) : EReal)) :
    k0_pay22 (F := Ideal) lanes (k0_pay14 lanes (k0_pay6 (F := Ideal) (iblk m c 0 t)) (k0_pay7 (F := Ideal) (iblk m c 0 t)))
      (k0_pay15 lanes (k0_pay6 (F := Ideal) (iblk m c 0 t)) (k0_pay7 (F := Ideal) (iblk m c 0 t)))
      (k0_pay16 lanes (k0_pay6 (F := Ideal) (iblk m c 0 t)) (k0_pay7 (F := Ideal) (iblk m c 0 t)))
      (k0_pay17 lanes (k0_pay6 (F := Ideal) (iblk m c 0 t)) (k0_pay7 (F := Ideal) (iblk m c 0 t)))
      (k0_pay19 lanes (k0_pay6 (F := Ideal) (iblk m c 0 t)) (k0_pay7 (F := Ideal) (iblk m c 0 t)) b) (k0_pay20 (F := Ideal)) (ix2 r l)
      = told g p q ⟨t.val * 1024 + r, by have : t.val < 8 := t.isLt; omega⟩ l := by
  have ht : t.val < 8 := t.isLt
  have hr : t.val * 1024 + r < 8192 := by omega
  have e : t.val * 1024 + (r : ℕ) = 1024 * t + r := by omega
  have small : ∀ (Q : ℕ → Prop) [DecidablePred Q], Nat.count Q (t.val * 1024 + r) ≤ 8192 := fun Q _ => (Nat.count_le _).trans hr.le
  refine place_of (g := g ⟨t.val * 1024 + r, hr⟩) (p := p ⟨t.val * 1024 + r, hr⟩) (q := q ⟨t.val * 1024 + r, hr⟩) _ _ r l
    (by rw [row0]; exact hx _) (by rw [row0]; exact hc _) _ _ (small _) (small _) ?_ ?_
  · rw [seen_count m c hx g p q hc t b r _ (hb _), ← e]
  · rw [seen_count m c hx g p q hc t b r _ (hb _), ← e]

theorem told_point (t : Fin cfg0.N) (r : Fin 1024) (l : Fin 128) :
    ((outsAt0 m c t.val t.isLt).1 : IVec S1024x128 32) (ix2 r l)
      = told g p q ⟨t.val * 1024 + r, by have : t.val < 8 := t.isLt; omega⟩ l := by
  by_cases h : t.val % 8 = 0
  · have t0 : t.val = 0 := by have : t.val < 8 := t.isLt; omega
    rw [outsAt0_A m c t h]
    frame_out
    refine told_at m c hx g p q hc t r l _ fun l => ?_
    rw [t0, Nat.mul_zero, Nat.count_zero, Nat.cast_zero]
    exact pay1_at l
  · obtain ⟨n, hn⟩ : ∃ n, t.val = n + 1 := Nat.exists_eq_succ_of_ne_zero (fun e => h (by rw [e]))
    obtain ⟨t, ht⟩ := t
    change t = n + 1 at hn
    subst hn
    have eB := outsAt0_B m c ⟨n + 1, ht⟩ h
    dsimp only at eB
    dsimp only
    rw [eB]
    frame_out
    exact told_at m c hx g p q hc ⟨n + 1, ht⟩ r l _ fun l =>
      (congrFun ((Memref.isWhole_whole cc0_scratch0).read_unread _) (ix2 0 l)).trans (left_at m c hx g p q hc l n (Nat.lt_of_succ_lt ht)).2

/-- The experts and ranks are any array that is right in every row. -/
theorem final_rank (G : IVec S8192x128 32) (hG : ∀ R l, G (ix2 R l) = told g p q R l) :
    (dats m 0 c).arrAt 1 (cfgs 0).N = G := by
  refine (dats m 0 c).arrAt_eq_of_covers 1 _ (by decide +kernel) fun t _ y => ?_
  blk_simp
  rw [after0_1]
  obtain ⟨ρ, l, rfl⟩ : ∃ (ρ : Fin 1024) (l : Fin 128), y = ix2 ρ l := ⟨y 0, y 1, by idx_vars y⟩
  have e : (win0_1.blk t).view.emb (ix2 ρ l) = ix2 (⟨t.val * 1024 + ρ, by have : t.val < 8 := t.isLt; omega⟩ : Fin 8192) l := by
    funext a
    match a with
    | ⟨0, _⟩ => exact Fin.ext (by blk_simp [idx1 t])
    | ⟨1, _⟩ => exact Fin.ext (by blk_simp [idx1 t])
  rw [e]
  exact (told_point m c hx g p q hc t ρ l).trans (hG _ _).symm
end

end Cert.Route

end
-- ==== Proof.Route.Claims.lean ====
/- The claims about the routing. -/
module

public import proofs.«01_k».proof.Defs
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Pre_finite6
public import proofs.«01_k».proof.Proof.Finite
public import proofs.«01_k».proof.Proof.Route.Arr
public import proofs.«01_k».proof.Proof.Route.Ref
public import proofs.«01_k».proof.Proof.Route.RefRank
public import proofs.«01_k».proof.Proof.Route.Rank
public import Idealize.ShloMosaic.Init

@[expose] public section

noncomputable section

namespace Cert.RouteClaims

open Idealize.ShloMosaic Idealize.SL.Sem

theorem frame_k : Cert.quiescent_Kernel6 := fun m ρ _ => Cert.Kernel6.Gen.frame m ρ
theorem frame_ki : Cert.quiescent_Kernel6Ideal := fun m ρ _ => Cert.Kernel6Ideal.Gen.frame m ρ
theorem frame_kif : Cert.quiescent_Kernel6Ideal_pre_finite6 := fun m ρ _ => Cert.Kernel6Ideal.Gen.frame m ρ

theorem frame_r : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)
theorem frame_rf : Cert.quiescent_Reference6Ideal_pre_finite6 := fun m ρ _ => frame_r m ρ trivial

theorem preserves : Cert.preserves_Kernel6_Kernel6Ideal := trivial

open Cert.Pre_finite6 in
/-- The precondition gives real scores. -/
theorem reals6 [Facts] (a0 : FVec Ideal S8192x128 .f32) (h : fn (F := Ideal) a0 = (fun _ => 1#1)) :
    ∀ R, Cert.Route.Reals (Cert.Route.whole a0 R) := by
  intro R l
  have e := congrFun h (ix2 R l)
  simp only [fn] at e
  pointwise at e
  exact Cert.Finite.real_of_test _ e

/-- Both programs run, and their experts, ranks, weights and counts agree at every index. -/
theorem algebraic : Cert.algebraic_Kernel6Ideal_Reference6Ideal_pre_finite6 := by
  intro m g m' g' hpre hagree
  refine ⟨fun c => (Cert.Kernel6Ideal.Gen.dats m 0 c).arrAt 1 (Cert.Kernel6Ideal.cfgs 0).N,
    fun c => (Cert.Kernel6Ideal.Gen.dats m 0 c).arrAt 2 (Cert.Kernel6Ideal.cfgs 0).N,
    fun c => (Cert.Kernel6Ideal.Gen.dats m 0 c).arrAt 3 (Cert.Kernel6Ideal.cfgs 0).N, ?_, ?_⟩
  · exact (θ_run Cert.Kernel6Ideal.defs _ _).mono (fun _ h c => ⟨(h c).1, (h c).2.1, (h c).2.2.1, (h c).2.2.2⟩)
      (Cert.Kernel6Ideal.Value.run_blocks (F := Ideal) m g)
  refine (θ_run Cert.Reference6Ideal.defs _ _).mono (fun _ h c => ⟨(h c).1.trans ?_, (h c).2.1.trans ?_, (h c).2.2.1.trans ?_, (h c).2.2.2⟩)
    (Cert.Reference6Ideal.Value.run (F := Ideal) m' g')
  · have e0 := hagree c
    have hX := reals6 _ (hpre c)
    choose G P Q hc using fun R => Cert.Route.exists_chosen _ (hX R)
    refine (Cert.Reference6Ideal.Read.val_main_v105_eq _ _).trans ?_
    refine (Cert.Route.final_rank m c hX G P Q hc _ fun R l => ?_).symm
    rw [e0]
    exact Cert.RouteRef.v105_at _ G P Q hc R l
  · have e0 := hagree c
    have hX := reals6 _ (hpre c)
    refine (Cert.Reference6Ideal.Read.val_main_v109_eq _ _).trans ?_
    refine (Cert.Route.final m c hX _ fun R l g p q hc => ?_).symm
    rw [e0]
    exact Cert.RouteRef.v109_at _ R hX hc l
  · have e0 := hagree c
    have hX := reals6 _ (hpre c)
    choose G P Q hc using fun R => Cert.Route.exists_chosen _ (hX R)
    refine (Cert.Reference6Ideal.Read.val_main_v112_eq _ _).trans ?_
    refine (Cert.Route.final_count m c hX G P Q hc _ fun l => ?_).symm
    rw [e0]
    exact Cert.RouteRef.v112_at _ G P Q hc l

end Cert.RouteClaims

end
-- ==== Proof.Norm.FrameI.lean ====
/- The frame of the first norm's call, with the gates' columns: the weights' block reaches past the end of their array, so the
   staging buffer of the weights is known only in its first eight rows, and the body uses only those. -/
module

public import proofs.«01_k».proof.Proof.Gen.Kernel5Ideal.Frame
public import proofs.«01_k».proof.Proof.Gen.Kernel5Ideal.Skeleton
public import Idealize.ShloMosaic.Lib.Pointwise
public import Idealize.ShloMosaic.Lib.Claim

@[expose] public section

set_option maxRecDepth 16384

noncomputable section

namespace Cert.Kernel5Ideal.Norm

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

variable (m : (ℓ : Loc nD τ sig) → Buf (Elt F) ℓ) (ρ : Dev nD → PrngReg)

/-! ## The rectangles of the body's accesses -/

abbrev rX : Rect S512x2048 := Rect.unit (s := S512x2048) ![0, 0] S512x2048.size inb_S512x2048_S512x2048_0_0
abbrev rN : Rect S1x2048 := Rect.unit (s := S1x2048) ![0, 0] S1x2048.size inb_S1x2048_S1x2048_0_0
abbrev rC : Rect S1x6x2048 := Rect.unit (s := S1x6x2048) ![0, 1, 0] S1x1x2048.size inb_S1x6x2048_S1x1x2048_0_1_0
abbrev rS : Rect S1x6x2048 := Rect.unit (s := S1x6x2048) ![0, 0, 0] S1x1x2048.size inb_S1x6x2048_S1x1x2048_0_0_0
abbrev rW : Rect S1x128x2048 := Rect.unit (s := S1x128x2048) ![0, 0, 0] S1x128x2048.size inb_S1x128x2048_S1x128x2048_0_0_0
abbrev rB : Rect S1x128 := Rect.unit (s := S1x128) ![0, 0] S1x128.size inb_S1x128_S1x128_0_0
abbrev rG : Rect S512x128 := Rect.unit (s := S512x128) ![0, 0] S512x128.size inb_S512x128_S512x128_0_0

/-! ## What the body stores -/

/-- The normed and modulated rows, rounded. -/
def outH (x0 : Vec F S512x2048 .f32) (x1 : Vec F S1x2048 .f32) (x2 : Vec F S1x6x2048 .f32) : Vec F S512x2048 .bf16 :=
  View.canon [⟨rX, k0_pay3 (View.ld x0 rX) (View.ld x1 rN) (View.ld x2 rC) (View.ld x2 rS)⟩]

/-- The gates' columns. -/
def outG (x0 : Vec F S512x2048 .f32) (x1 : Vec F S1x2048 .f32) (x2 : Vec F S1x6x2048 .f32) (x3 : Vec F S1x128x2048 .f32)
    (x4 : Vec F S1x128 .f32) : Vec F S512x128 .f32 :=
  View.canon [⟨rG, k0_pay1 (k0_pay4 (View.ld x0 rX) (View.ld x1 rN) (View.ld x2 rC) (View.ld x2 rS)) (k0_pay5 (View.ld x3 rW))
    (constant S512x128 .f32 0x00000000#32) (View.ld x4 rB)⟩]

theorem coverH (p0 : Vec F S512x2048 .bf16) (y : S512x2048.Idx) :
    ∃ pc ∈ ([⟨rX, p0⟩] : List (View.Piece (Elt F) S512x2048 .bf16)), y ∈ pc.1.set :=
  View.cover_of_tiled [⟨rX, p0⟩] S512x2048.size (by rfl) y
theorem coverG (p0 : Vec F S512x128 .f32) (y : S512x128.Idx) :
    ∃ pc ∈ ([⟨rG, p0⟩] : List (View.Piece (Elt F) S512x128 .f32)), y ∈ pc.1.set :=
  View.cover_of_tiled [⟨rG, p0⟩] S512x128.size (by rfl) y

theorem slt8 (l : Fin 128) : IntOp.cmpi CmpIPredicate.slt (BitVec.ofNat 32 (l : ℕ)) 8#32 = BitVec.ofBool (decide ((l : ℕ) < 8)) := by
  revert l; decide

/-- The weights' rows from the eighth on are replaced by zeros, so only the first eight matter. -/
theorem pay5_congr (X Y : Vec F S1x128x2048 .f32) (h : ∀ (l : Fin 128) (k : Fin 2048), (l : ℕ) < 8 → X (ix3 0 l k) = Y (ix3 0 l k)) :
    k0_pay5 (F := F) X = k0_pay5 Y := by
  funext y
  obtain ⟨l, k, rfl⟩ : ∃ (l : Fin 128) (k : Fin 2048), y = ix2 l k := ⟨y 0, y 1, by idx_vars y⟩
  pointwise [k0_pay5]
  rw [slt8]
  by_cases hl : (l : ℕ) < 8
  · rw [h l k hl]
  · rw [decide_eq_false hl]; rfl

/-! ## The proof data -/

/-- The weights' staging buffer: the array's rows, and zero words below them, which nothing reads. -/
def wblk (c : Dev nD) (t : Fin cfg0.N) : Vec F S1x128x2048 .f32 :=
  (cfg0.win 3).fill (cfg0.grid.coords t) (fun _ => Scalar.ofBits .f32 0#32) (iblk m c 3 t)

theorem xs0 : ∀ t : Fin cfg0.N, win0_3.xsize (grid0.coords t) 0 = 1 ∧ win0_3.xsize (grid0.coords t) 1 = 8 ∧ win0_3.xsize (grid0.coords t) 2 = 2048 :=
  (by decide +kernel : ∀ t : Fin grid0.N, _)

theorem moved_row (t : Fin cfg0.N) (l : Fin 128) (k : Fin 2048) (hl : (l : ℕ) < 8) :
    (cfg0.win 3).moved (cfg0.grid.coords t) (ix3 0 l k) = true := by
  rw [Window.moved_iff]
  intro a
  obtain ⟨h0, h1, h2⟩ := xs0 t
  match a with
  | ⟨0, _⟩ => exact lt_of_lt_of_eq Nat.zero_lt_one h0.symm
  | ⟨1, _⟩ => exact lt_of_lt_of_eq hl h1.symm
  | ⟨2, _⟩ => exact lt_of_lt_of_eq k.isLt h2.symm

/-- Whatever fills the buffer below the array's rows. -/
theorem pay5_fill (c : Dev nD) (t : Fin cfg0.N) (d : Vec F S1x128x2048 .f32) :
    k0_pay5 (F := F) (View.ld (Val := Elt F) (e' := .f32) ((cfg0.win 3).fill (cfg0.grid.coords t) d (iblk m c 3 t) : Vec F S1x128x2048 .f32) rW)
      = k0_pay5 (View.ld (Val := Elt F) (e' := .f32) (wblk m c t) rW) := by
  refine pay5_congr _ _ fun l k hl => ?_
  have e : ∀ X : Vec F S1x128x2048 .f32, (View.ld (Val := Elt F) (e' := .f32) X rW : Vec F S1x128x2048 .f32) (ix3 0 l k) = X (ix3 0 l k) := by
    intro X
    show X _ = X _
    refine congrArg X ?_
    funext a
    apply Fin.ext
    match a with
    | ⟨0, _⟩ => rfl
    | ⟨1, _⟩ => show 0 + 1 * (l : ℕ) = l; omega
    | ⟨2, _⟩ => show 0 + 1 * (k : ℕ) = k; omega
  rw [e, e]
  unfold wblk Window.fill
  rw [dif_pos (moved_row t l k hl), dif_pos (moved_row t l k hl)]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => wblk m c t
    | ⟨4, _⟩ => iblk m c 4 t
    | ⟨5, _⟩ => outH (iblk m c 0 t) (iblk m c 1 t) (iblk m c 2 t)
    | ⟨6, _⟩ => outG (iblk m c 0 t) (iblk m c 1 t) (iblk m c 2 t) (wblk m c t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = wblk m c t := by dsimp only [dats]
theorem after4 (c : Dev nD) (t : Fin cfg0.N) : (dats m 0 c).after 4 t = iblk m c 4 t := by dsimp only [dats]
theorem after5 (c : Dev nD) (t : Fin cfg0.N) : (dats m 0 c).after 5 t = outH (iblk m c 0 t) (iblk m c 1 t) (iblk m c 2 t) := by dsimp only [dats]
theorem after6 (c : Dev nD) (t : Fin cfg0.N) :
    (dats m 0 c).after 6 t = outG (iblk m c 0 t) (iblk m c 1 t) (iblk m c 2 t) (wblk m c t) (iblk m c 4 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before4 (c : Dev nD) (t : Fin cfg0.N) (d) : (dats m 0 c).before 4 t d = iblk m c 4 t :=
  before0_4_of m (dats m 0 c) (A_eq m c 4) (after4 m c) t d

theorem cut3 (c : Dev nD) (t : Fin cfg0.N) : (cfg0.win 3).cut (cfg0.grid.coords t) (wblk m c t) = iblk m c 3 t :=
  (cfg0.win 3).cut_fill _ _ _

/-- The weights' buffer holds the array's rows, and below them anything. -/
theorem before3 (c : Dev nD) (t : Fin cfg0.N) (d) : (dats m 0 c).before 3 t d = (cfg0.win 3).fill (cfg0.grid.coords t) d (iblk m c 3 t) :=
  ((dats m 0 c).before_in_eq_fetched 3 rfl (fun _ => rfl) (fun _ _ _ => rfl)
    (fun t => by rw [after3, cut3]; unfold Dat.blockOf iblk; rw [A_eq]) t d).trans
    (by unfold Dat.fetched Dat.blockOf iblk; rw [A_eq])

/-! ## The body -/

set_option maxHeartbeats 1000000 in
theorem sound_kernel (c : Dev nD) (E : Set ℕ) (i : grid0.Coords) (arg1 : Memref sig .tc .vmem S512x2048 .f32) (harg1 : arg1.IsWhole) (arg2 : Memref sig .tc .vmem S1x2048 .f32) (harg2 : arg2.IsWhole) (arg3 : Memref sig .tc .vmem S1x6x2048 .f32) (harg3 : arg3.IsWhole) (arg4 : Memref sig .tc .vmem S1x128x2048 .f32) (harg4 : arg4.IsWhole) (arg5 : Memref sig .tc .vmem S1x128 .f32) (harg5 : arg5.IsWhole) (arg6 : Memref sig .tc .vmem S512x2048 .bf16) (harg6 : arg6.IsWhole) (arg7 : Memref sig .tc .vmem S512x128 .f32) (harg7 : arg7.IsWhole)
    (x0 : Vec F S512x2048 .f32) (x1 : Vec F S1x2048 .f32) (x2 : Vec F S1x6x2048 .f32) (x3 : Vec F S1x128x2048 .f32) (x4 : Vec F S1x128 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outH x0 x1 x2) ∗ owns (c : Thread nD τ) arg7 fullShare (outG x0 x1 x2 x3 x4)) -∗ K ⟨⟩))
      ⊢ wp frame (wpE (defs₀ (F := F)) Variants.none c none) E (cc0_norm_mod i arg1 harg1 arg2 harg2 arg3 harg3 arg4 harg4 arg5 harg5 arg6 harg6 arg7 harg7) K := by
  simp only [cc0_norm_mod_eq_skeleton]; unfold cc0_norm_mod_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverH _)
  iexists _; isplitr
  swap; · iexact H6
  ipureintro
  exact View.read_writes_eq_canon _ _ _ (coverG _)

/-- Whatever is below the array's rows of the weights, the gates are the same. -/
theorem outG_fill (c : Dev nD) (t : Fin cfg0.N) (x0 : Vec F S512x2048 .f32) (x1 : Vec F S1x2048 .f32) (x2 : Vec F S1x6x2048 .f32) (x4 : Vec F S1x128 .f32)
    (d : Vec F S1x128x2048 .f32) :
    outG x0 x1 x2 ((cfg0.win 3).fill (cfg0.grid.coords t) d (iblk m c 3 t)) x4 = outG x0 x1 x2 (wblk m c t) x4 := by
  unfold outG
  rw [pay5_fill]

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare ((cfg0.win 3).fill (cfg0.grid.coords t) d ((cfg0.win 3).cut (cfg0.grid.coords t) ((dats m 0 c).after 3 t))))
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, cut3]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t)
    ((cfg0.win 3).fill (cfg0.grid.coords t) d3 (iblk m c 3 t)) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  rw [outG_fill m c t]
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexists d3; iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-- The run with each result array named, the arguments unchanged. -/
theorem run_blocks : θ_run defs (onTc (τ := τ) (main (F := F))) ⟨m, fun _ => 0, ρ⟩ (fun r => ∀ c : Dev nD,
      r.2.mem ((c.tc : Thread nD τ).loc main_v11_0) = (dats m 0 c).arrAt 5 cfg0.N
      ∧ r.2.mem ((c.tc : Thread nD τ).loc main_v11_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).1 5, (h.1 c).1 6, h.2 c⟩)
    (θ_run_and (run_main m ρ) (unchanged m ρ))

end Cert.Kernel5Ideal.Norm

end
-- ==== Proof.Norm.Arr.lean ====
/- The first norm's two result arrays as functions of its arguments. -/
module

public import proofs.«01_k».proof.Proof.Norm.FrameI
public import proofs.«01_k».proof.Proof.Tail.Rows
public import proofs.«01_k».proof.Proof.Tail.Form
public import Idealize.ShloMosaic.Lib.Pointwise
public import Idealize.ShloMosaic.Lib.Claim
public import Idealize.ShloMosaic.Lib.StableHlo.RunRead
public import Idealize.ShloMosaic.Lib.Pipeline.ValueKit

@[expose] public section

set_option maxRecDepth 16384

noncomputable section

namespace Cert.Norm

open Cert.Kernel5Ideal Cert.Kernel5Ideal.Gen Cert.Kernel5Ideal.Norm Idealize.ShloMosaic Idealize.ShloMosaic.TcCoe Idealize.SL.Sem
open Idealize.ShloMosaic.Pipeline (Dat Window)
open Cert.Tail (Mat Cube Row normed bt set_cells)

/-! ### The formulas -/

/-- The first norm of a row and its modulation. -/
def ho (X : Mat 8192 2048) (nw : Row 2048) (M : Cube 4 6 2048) (R : Fin 8192) (d : Fin 2048) : EReal :=
  normed (fun d => X (ix2 R d)) (nw (ix1 d)) (M (ix3 (bt R) 1 d)) (M (ix3 (bt R) 0 d)) d

/-- The gates' offsets, the input gates' first, and zeros. -/
def off (ib fb : Row 4) (l : Fin 128) : EReal :=
  if h : (l : ℕ) < 4 then ib (ix1 ⟨l, h⟩) else if h' : (l : ℕ) < 8 then fb (ix1 ⟨l - 4, by omega⟩) else 0

/-- The gates of a row `h`: 4 input gates, 4 forget gates, zeros. -/
def gate (W : Cube 4 2048 11272) (ib fb : Row 4) (h : Fin 2048 → EReal) (l : Fin 128) : EReal :=
  (if h8 : (l : ℕ) < 8 then ∑ k : Fin 2048, h k * W (ix3 0 k ⟨11264 + l, by omega⟩) else 0) + off ib fb l

/-! ### The body's payloads at an index -/

theorem pay2_at (x : FVec Ideal S512x2048 .f32) (nw : FVec Ideal S1x2048 .f32) (sc sh : FVec Ideal S1x1x2048 .f32) (ρ : Fin 512) (d : Fin 2048) :
    k0_pay2 (F := Ideal) x nw sc sh (ix2 ρ d) = normed (fun d => x (ix2 ρ d)) (nw (ix2 0 d)) (sc (ix3 0 0 d)) (sh (ix3 0 0 d)) d := by
  unfold normed
  pointwise [k0_pay2]

theorem pay3_at (x : FVec Ideal S512x2048 .f32) (nw : FVec Ideal S1x2048 .f32) (sc sh : FVec Ideal S1x1x2048 .f32) (ρ : Fin 512) (d : Fin 2048) :
    k0_pay3 (F := Ideal) x nw sc sh (ix2 ρ d) = k0_pay2 (F := Ideal) x nw sc sh (ix2 ρ d) := by
  pointwise [k0_pay3]

theorem pay4_at (x : FVec Ideal S512x2048 .f32) (nw : FVec Ideal S1x2048 .f32) (sc sh : FVec Ideal S1x1x2048 .f32) (ρ : Fin 512) (d : Fin 2048) :
    k0_pay4 (F := Ideal) x nw sc sh (ix2 ρ d) = k0_pay2 (F := Ideal) x nw sc sh (ix2 ρ d) := by
  pointwise [k0_pay4]

theorem pay5_at (w : FVec Ideal S1x128x2048 .f32) (l : Fin 128) (k : Fin 2048) :
    k0_pay5 (F := Ideal) w (ix2 l k) = if (l : ℕ) < 8 then w (ix3 0 l k) else (0 : EReal) := by
  pointwise [k0_pay5]
  rw [slt8]
  by_cases hl : (l : ℕ) < 8
  · simp [hl, Scalar.select]
  · simp [hl, Scalar.select]

theorem pay1_at (h : FVec Ideal S512x2048 .bf16) (w : FVec Ideal S128x2048 .bf16) (b : FVec Ideal S1x128 .f32) (ρ : Fin 512) (l : Fin 128) :
    k0_pay1 (F := Ideal) h w (constant S512x128 .f32 0x00000000#32) b (ix2 ρ l) = (∑ k : Fin 2048, h (ix2 ρ k) * w (ix2 l k)) + b (ix2 0 l) := by
  pointwise [k0_pay1]

/-! ### The arrays the caller prepares -/

variable (m : (ℓ : Loc nD τ sig) → Buf (Elt Ideal) ℓ)

section
variable (c : Dev nD)
abbrev aX : Mat 8192 2048 := m ((c : Thread nD τ).loc main_arg0)
abbrev aN : Row 2048 := m ((c : Thread nD τ).loc main_arg1)
abbrev aM : Cube 4 6 2048 := m ((c : Thread nD τ).loc main_arg2)
abbrev aW : Cube 4 2048 11272 := m ((c : Thread nD τ).loc main_arg3)
abbrev aI : Row 4 := m ((c : Thread nD τ).loc main_arg4)
abbrev aF : Row 4 := m ((c : Thread nD τ).loc main_arg5)

theorem host10 (d : Fin 2048) : (V m c main_v10 : FVec Ideal S1x2048 .f32) (ix2 0 d) = aN m c (ix1 d) := by
  have e : (V m c main_v10 : FVec Ideal S1x2048 .f32) = shapeCast _ (m ((c : Thread nD τ).loc main_arg1) : FVec Ideal S2048 .f32) shapeCasts_S2048_S1x2048 := by
    show StableHlo.after hostOps0 _ _ = _
    after_reads_simp
    rfl
  rw [e]; pointwise

theorem host0 (b : Fin 4) (j : Fin 11272) (k : Fin 2048) : (V m c main_v0 : FVec Ideal S4x11272x2048 .f32) (ix3 b j k) = aW m c (ix3 b k j) := by
  have e : (V m c main_v0 : FVec Ideal S4x11272x2048 .f32)
      = transpose S4x11272x2048 [0, 2, 1] (m ((c : Thread nD τ).loc main_arg3) : FVec Ideal S4x2048x11272 .f32) transposes_S4x2048x11272_S4x11272x2048_0_2_1 := by
    show StableHlo.after hostOps0 _ _ = _
    after_reads_simp
  rw [e]; pointwise

theorem host9 (l : Fin 128) : (V m c main_v9 : FVec Ideal S1x128 .f32) (ix2 0 l) = off (aI m c) (aF m c) l := by
  have e : (V m c main_v9 : FVec Ideal S1x128 .f32)
      = Host.scatter scatter_S1x128_S2_S4_0_0_01_0 (fun _ b => b)
          (Host.scatter scatter_S1x128_S2_S4_0_0_01_0 (fun _ b => b)
            (broadcastInDim S1x128 ![] bcast_S_S1x128 (constant (F := Ideal) S_ .f32 0x00000000#32))
            (concatenate S2 0 [⟨S1, broadcastInDim S1 ![] bcast_S_S1 (constantI S_ 32 0#32)⟩, ⟨S1, broadcastInDim S1 ![] bcast_S_S1 (constantI S_ 32 0#32)⟩] concatenates_S1_S1_S2_d0)
            (m ((c : Thread nD τ).loc main_arg4) : FVec Ideal S4 .f32))
          (concatenate S2 0 [⟨S1, broadcastInDim S1 ![] bcast_S_S1 (constantI S_ 32 0#32)⟩, ⟨S1, broadcastInDim S1 ![] bcast_S_S1 (constantI S_ 32 4#32)⟩] concatenates_S1_S1_S2_d0)
          (m ((c : Thread nD τ).loc main_arg5) : FVec Ideal S4 .f32) := by
    show StableHlo.after hostOps0 _ _ = _
    after_reads_simp
    rfl
  rw [e]
  unfold off
  refine (set_cells _ _ _ _ 4 (by pointwise; rfl) (by pointwise; rfl) l).trans ?_
  by_cases h : (l : ℕ) < 4
  · rw [dif_neg (by omega), dif_pos h]
    refine (set_cells _ _ _ _ 0 (by pointwise; rfl) (by pointwise; rfl) l).trans ?_
    rw [dif_pos (by omega)]
    rfl
  · rw [dif_neg h]
    by_cases h' : (l : ℕ) < 8
    · rw [dif_pos (by omega), dif_pos h']
      rfl
    · rw [dif_neg (by omega), dif_neg h']
      refine (set_cells _ _ _ _ 0 (by pointwise; rfl) (by pointwise; rfl) l).trans ?_
      rw [dif_neg (by omega)]
      pointwise

/-! ### The blocks -/

theorem idx : ∀ t : Fin cfg0.N, win0_0.index t = ![t.val, 0] ∧ win0_1.index t = ![0, 0] ∧ win0_2.index t = ![t.val / 4, 0, 0] ∧ win0_3.index t = ![0, 88, 0]
    ∧ win0_4.index t = ![0, 0] ∧ win0_5.index t = ![t.val, 0] ∧ win0_6.index t = ![t.val, 0] :=
  (by decide +kernel : ∀ t : Fin grid0.N, _)

/-- The row of the arrays that row `ρ` of block `t` is. -/
abbrev rw' (t : Fin cfg0.N) (ρ : Fin 512) : Fin 8192 := ⟨t.val * 512 + ρ, by have : t.val < 16 := t.isLt; omega⟩

variable (t : Fin cfg0.N)

theorem b0 (ρ : Fin 512) (k : Fin 2048) : (iblk m c 0 t : FVec Ideal S512x2048 .f32) (ix2 ρ k) = aX m c (ix2 (rw' t ρ) k) := by
  show _ = (m ((c : Thread nD τ).loc main_arg0) : FVec Ideal S8192x2048 .f32) _
  rw [← V_main_arg0 m c]
  blk_ext [iblk, idx t]
theorem b1 (d : Fin 2048) : (iblk m c 1 t : FVec Ideal S1x2048 .f32) (ix2 0 d) = aN m c (ix1 d) := by
  rw [← host10 m c]
  blk_ext [iblk, idx t]
theorem b2 (ρ : Fin 512) (j : Fin 6) (d : Fin 2048) : (iblk m c 2 t : FVec Ideal S1x6x2048 .f32) (ix3 0 j d) = aM m c (ix3 (bt (rw' t ρ)) j d) := by
  have h : (bt (rw' t ρ)) = ⟨t.val / 4, by have : t.val < 16 := t.isLt; omega⟩ :=
    Fin.ext (by show (t.val * 512 + (ρ : ℕ)) / 2048 = t.val / 4; omega)
  show _ = (m ((c : Thread nD τ).loc main_arg2) : FVec Ideal S4x6x2048 .f32) _
  rw [h, ← V_main_arg2 m c]
  blk_ext [iblk, idx t]
theorem b4 (l : Fin 128) : (iblk m c 4 t : FVec Ideal S1x128 .f32) (ix2 0 l) = off (aI m c) (aF m c) l := by
  rw [← host9 m c]
  unfold iblk
  generalize V m c = W
  show W main_v9 _ = W main_v9 _
  refine congrArg _ ?_
  funext a
  apply Fin.ext
  match a with
  | ⟨0, _⟩ => blk_simp [idx t]
  | ⟨1, _⟩ => blk_simp [idx t]

/-- The first eight rows of the weights' block. -/
theorem b3 (l : Fin 128) (k : Fin 2048) (hl : (l : ℕ) < 8) : (wblk m c t : FVec Ideal S1x128x2048 .f32) (ix3 0 l k) = aW m c (ix3 0 k ⟨11264 + l, by omega⟩) := by
  rw [← host0 m c]
  unfold wblk Window.fill
  rw [dif_pos (moved_row t l k hl)]
  unfold iblk
  generalize V m c = W
  show W main_v0 _ = W main_v0 _
  refine congrArg _ ?_
  funext a
  apply Fin.ext
  match a with
  | ⟨0, _⟩ => blk_simp [idx t]; rfl
  | ⟨1, _⟩ => blk_simp [idx t]
  | ⟨2, _⟩ => blk_simp [idx t]

theorem ldC (x : FVec Ideal S1x6x2048 .f32) (d : Fin 2048) :
    (View.ld (Val := Elt Ideal) (e' := .f32) x rC : FVec Ideal S1x1x2048 .f32) (ix3 0 0 d) = x (ix3 0 1 d) := by
  show x _ = x _
  refine congrArg x ?_
  funext a
  apply Fin.ext
  match a with
  | ⟨0, _⟩ => rfl
  | ⟨1, _⟩ => rfl
  | ⟨2, _⟩ => show 0 + 1 * (d : ℕ) = d; omega

theorem ldS (x : FVec Ideal S1x6x2048 .f32) (d : Fin 2048) :
    (View.ld (Val := Elt Ideal) (e' := .f32) x rS : FVec Ideal S1x1x2048 .f32) (ix3 0 0 d) = x (ix3 0 0 d) := by
  show x _ = x _
  refine congrArg x ?_
  funext a
  apply Fin.ext
  match a with
  | ⟨0, _⟩ => rfl
  | ⟨1, _⟩ => rfl
  | ⟨2, _⟩ => show 0 + 1 * (d : ℕ) = d; omega

/-! ### One block -/

abbrev HO (R : Fin 8192) (d : Fin 2048) : EReal := ho (aX m c) (aN m c) (aM m c) R d
abbrev GO (R : Fin 8192) (l : Fin 128) : EReal := gate (aW m c) (aI m c) (aF m c) (HO m c R) l

theorem pt_h (sc sh : FVec Ideal S1x1x2048 .f32) (ρ : Fin 512) (d : Fin 2048)
    (hsc : sc (ix3 0 0 d) = aM m c (ix3 (bt (rw' t ρ)) 1 d)) (hsh : sh (ix3 0 0 d) = aM m c (ix3 (bt (rw' t ρ)) 0 d)) :
    k0_pay2 (F := Ideal) (iblk m c 0 t) (iblk m c 1 t) sc sh (ix2 ρ d) = HO m c (rw' t ρ) d := by
  rw [pay2_at, b1, hsc, hsh]
  unfold HO ho
  rw [show (fun d => (iblk m c 0 t : FVec Ideal S512x2048 .f32) (ix2 ρ d)) = fun d => aX m c (ix2 (rw' t ρ) d) from funext fun d => b0 m c t ρ d]

theorem pt_g (sc sh : FVec Ideal S1x1x2048 .f32) (ρ : Fin 512) (l : Fin 128)
    (hsc : ∀ d, sc (ix3 0 0 d) = aM m c (ix3 (bt (rw' t ρ)) 1 d)) (hsh : ∀ d, sh (ix3 0 0 d) = aM m c (ix3 (bt (rw' t ρ)) 0 d)) :
    k0_pay1 (F := Ideal) (k0_pay4 (F := Ideal) (iblk m c 0 t) (iblk m c 1 t) sc sh) (k0_pay5 (F := Ideal) (wblk m c t))
      (constant S512x128 .f32 0x00000000#32) (iblk m c 4 t) (ix2 ρ l) = GO m c (rw' t ρ) l := by
  rw [pay1_at, b4]
  unfold GO gate
  refine congrArg₂ _ ?_ rfl
  by_cases h8 : (l : ℕ) < 8
  · rw [dif_pos h8]
    refine Finset.sum_congr rfl fun k _ => ?_
    rw [pay4_at, pt_h m c t sc sh ρ k (hsc k) (hsh k), pay5_at, if_pos h8, b3 m c t l k h8]
  · rw [dif_neg h8]
    refine Finset.sum_eq_zero fun k _ => ?_
    rw [pay5_at, if_neg h8]
    exact mul_zero _

/-! ### The arrays -/

theorem final5 : (dats m 0 c).arrAt 5 (cfgs 0).N = (fun i => HO m c (i 0) (i 1) : FVec Ideal S8192x2048 .bf16) := by
  refine (dats m 0 c).arrAt_eq_of_covers 5 _ (by decide +kernel) fun t _ y => ?_
  blk_simp
  rw [after5]
  obtain ⟨ρ, d, rfl⟩ : ∃ (ρ : Fin 512) (d : Fin 2048), y = ix2 ρ d := ⟨y 0, y 1, by idx_vars y⟩
  have h0 : (win0_5.blk t).view.emb (ix2 ρ d) 0 = rw' t ρ := Fin.ext (by blk_simp [idx t])
  have h1 : (win0_5.blk t).view.emb (ix2 ρ d) 1 = d := Fin.ext (by blk_simp [idx t])
  rw [h0, h1]
  unfold outH
  frame_out
  refine (pay3_at _ _ _ _ ρ d).trans ?_
  exact pt_h m c t _ _ ρ d ((ldC _ d).trans (b2 m c t ρ 1 d)) ((ldS _ d).trans (b2 m c t ρ 0 d))

theorem final6 : (dats m 0 c).arrAt 6 (cfgs 0).N = (fun i => GO m c (i 0) (i 1) : FVec Ideal S8192x128 .f32) := by
  refine (dats m 0 c).arrAt_eq_of_covers 6 _ (by decide +kernel) fun t _ y => ?_
  blk_simp
  rw [after6]
  obtain ⟨ρ, l, rfl⟩ : ∃ (ρ : Fin 512) (l : Fin 128), y = ix2 ρ l := ⟨y 0, y 1, by idx_vars y⟩
  have h0 : (win0_6.blk t).view.emb (ix2 ρ l) 0 = rw' t ρ := Fin.ext (by blk_simp [idx t])
  have h1 : (win0_6.blk t).view.emb (ix2 ρ l) 1 = l := Fin.ext (by blk_simp [idx t])
  rw [h0, h1]
  unfold outG
  frame_out
  exact pt_g m c t _ _ ρ l (fun d => (ldC _ d).trans (b2 m c t ρ 1 d)) (fun d => (ldS _ d).trans (b2 m c t ρ 0 d))

end

end Cert.Norm

end
-- ==== Proof.Norm.Ref.lean ====
/- The reference's first norm and gates as the same formulas. -/
module

public import proofs.«01_k».proof.Proof.Gen.Reference5Ideal.Read
public import proofs.«01_k».proof.Proof.Norm.Arr
public import Idealize.ShloMosaic.Lib.Pointwise

@[expose] public section

set_option maxRecDepth 16384

noncomputable section

namespace Cert.Norm

open Cert.Reference5Ideal Cert.Reference5Ideal.Read Idealize.ShloMosaic
open Cert.Tail (normed bt)

variable (X : FVec Ideal S8192x2048 .f32) (nw : FVec Ideal S2048 .f32) (M : FVec Ideal S4x6x2048 .f32) (W : FVec Ideal S4x2048x11272 .f32)
    (ib fb : FVec Ideal S4 .f32)

/-- Row `s` of batch `b`. -/
abbrev row (b : Fin 4) (s : Fin 2048) : Fin 8192 := ⟨b * 2048 + s, by omega⟩

theorem bt_row (b : Fin 4) (s : Fin 2048) : bt (row b s) = b := Fin.ext (by show ((b : ℕ) * 2048 + s) / 2048 = b; omega)
theorem row_split (R : Fin 8192) : row ⟨R / 2048, by omega⟩ ⟨R % 2048, by omega⟩ = R := Fin.ext (by show (R : ℕ) / 2048 * 2048 + R % 2048 = R; omega)

theorem r21 (b : Fin 4) (s d : Fin 2048) : val_main_v21 (F := Ideal) X nw M (ix3 b s d) = ho X nw M (row b s) d := by
  unfold ho normed
  rw [bt_row]
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1, val_main_v0,
    val_main_cst, val_main_cst_0, val_main_cst_1, val_main_cst_2]

theorem r22 (R : Fin 8192) (d : Fin 2048) : val_main_v22 (F := Ideal) X nw M (ix2 R d) = ho X nw M R d := by
  pointwise [val_main_v22]
  rw [r21, row_split]

theorem r36 (R : Fin 8192) (d : Fin 2048) : val_main_v36 (F := Ideal) X nw M (ix2 R d) = ho X nw M R d := by
  pointwise [val_main_v36]
  exact r22 X nw M R d

theorem r37 (R : Fin 8192) (l : Fin 128) : val_main_v37 (F := Ideal) X nw M W ib fb (ix2 R l) = gate W ib fb (ho X nw M R) l := by
  unfold gate off
  pointwise [val_main_v37, val_main_v35, val_main_v34, val_main_v33, val_main_v32, val_main_v31, val_main_v30, val_main_v29, val_main_v28, val_main_v27,
    val_main_v26, val_main_v25, val_main_v24, val_main_v23, val_main_call0_v0, val_main_c]
  simp only [r22]
  have z : (FloatOps.sitofp (F := Ideal) FTy.f32 0#32 : EReal) = 0 := by
    show (((0#32 : BitVec 32).toInt : ℝ) : EReal) = 0
    simp
  by_cases h4 : (l : ℕ) < 4
  · rw [dif_pos (by omega), dif_pos h4, dif_pos (by omega), dif_pos h4]
  · by_cases h8 : (l : ℕ) < 8
    · simp only [dif_pos h8, dif_neg h4]
      have e : 4 + ((l : ℕ) - 4) = l := by omega
      simp only [e]
    · simp only [dif_neg h8, dif_neg h4]
      exact z.trans (add_zero _).symm

end Cert.Norm

end
-- ==== Proof.Norm.Claims.lean ====
/- The claims about the first norm. -/
module

public import proofs.«01_k».proof.Defs
public import proofs.«01_k».proof.Proof.Gen.Kernel5
public import proofs.«01_k».proof.Proof.Norm.FrameI
public import proofs.«01_k».proof.Proof.Gen.Reference5Ideal.Run
public import proofs.«01_k».proof.Proof.Gen.Reference5Ideal.Read
public import proofs.«01_k».proof.Proof.Norm.Arr
public import proofs.«01_k».proof.Proof.Norm.Ref
public import Idealize.ShloMosaic.Init

@[expose] public section

noncomputable section

namespace Cert.NormClaims

open Idealize.ShloMosaic Idealize.SL.Sem

/-- The two programs' bodies are the same. -/
theorem defs₀_eq : Cert.Kernel5.defs₀ (F := Bits) = Cert.Kernel5Ideal.defs₀ := by
  unfold Cert.Kernel5.defs₀ Cert.Kernel5Ideal.defs₀
  refine congrArg Defs.onTc ?_
  funext b x
  match b, x with
  | 0, (t, s) => rfl

theorem defs_eq : Cert.Kernel5.defs (F := Bits) = Cert.Kernel5Ideal.defs := congrArg (Pipeline.defs Cert.Kernel5.pcfgs) defs₀_eq

theorem frame_k : Cert.quiescent_Kernel5 := fun m ρ _ => by
  rw [defs_eq]
  exact Cert.Kernel5Ideal.Norm.frame (F := Bits) m ρ
theorem frame_ki : Cert.quiescent_Kernel5Ideal := fun m ρ _ => Cert.Kernel5Ideal.Norm.frame m ρ

theorem frame_r : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem preserves : Cert.preserves_Kernel5_Kernel5Ideal := trivial

/-- Both programs run, and their results agree at every index. -/
theorem algebraic : Cert.algebraic_Kernel5Ideal_Reference5Ideal := by
  intro m g m' g' hpre hagree
  refine ⟨fun c => (Cert.Kernel5Ideal.Norm.dats m 0 c).arrAt 5 (Cert.Kernel5Ideal.cfgs 0).N,
    fun c => (Cert.Kernel5Ideal.Norm.dats m 0 c).arrAt 6 (Cert.Kernel5Ideal.cfgs 0).N, ?_, ?_⟩
  · exact Cert.Kernel5Ideal.Norm.run_blocks (F := Ideal) m g
  refine (θ_run Cert.Reference5Ideal.defs _ _).mono (fun _ h c => ⟨(h c).1.trans ?_, (h c).2.1.trans ?_, (h c).2.2⟩)
    (Cert.Reference5Ideal.Value.run (F := Ideal) m' g')
  all_goals obtain ⟨e0, e1, e2, e3, e4, e5⟩ := hagree c
  · refine (Cert.Reference5Ideal.Read.val_main_v36_eq _ _ _).trans ?_
    refine Eq.trans ?_ (Cert.Norm.final5 m c).symm
    rw [e0, e1, e2]
    funext i
    rw [ValueIdx.eq_ix2 i]
    exact Cert.Norm.r36 _ _ _ (i 0) (i 1)
  · refine (Cert.Reference5Ideal.Read.val_main_v37_eq _ _).trans ?_
    refine Eq.trans ?_ (Cert.Norm.final6 m c).symm
    rw [e0, e1, e2, e3, e4, e5]
    funext i
    rw [ValueIdx.eq_ix2 i]
    exact Cert.Norm.r37 _ _ _ _ _ _ (i 0) (i 1)

end Cert.NormClaims

end
-- ==== Proof.lean ====
/- The proof of the claims of Defs.lean, assembled. -/
module

public import proofs.«01_k».proof.Proof.Attn.Claims
public import proofs.«01_k».proof.Proof.Proj.Claims
public import proofs.«01_k».proof.Proof.Tail.Claims
public import proofs.«01_k».proof.Proof.Ada.Claims
public import proofs.«01_k».proof.Proof.Route.Claims
public import proofs.«01_k».proof.Proof.Norm.Claims
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite6
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read

public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_finite3.Gen.facts, Cert.Pre_finite4.Gen.facts, Cert.Pre_finite6.Gen.facts,
  Cert.AttnClaims.frame_k, Cert.AttnClaims.frame_ki, Cert.AttnClaims.frame_kif, Cert.AttnClaims.frame_r, Cert.AttnClaims.frame_rf,
  Cert.ProjClaims.frame_k, Cert.ProjClaims.frame_ki, Cert.ProjClaims.frame_r,
  Cert.TailClaims.frame_k, Cert.TailClaims.frame_ki, Cert.TailClaims.frame_kif, Cert.TailClaims.frame_r, Cert.TailClaims.frame_rf,
  Cert.AdaClaims.frame_k, Cert.AdaClaims.frame_ki, Cert.AdaClaims.frame_kif, Cert.AdaClaims.frame_r, Cert.AdaClaims.frame_rf,
  Cert.NormClaims.frame_k, Cert.NormClaims.frame_ki, Cert.NormClaims.frame_r,
  Cert.RouteClaims.frame_k, Cert.RouteClaims.frame_ki, Cert.RouteClaims.frame_kif, Cert.RouteClaims.frame_r, Cert.RouteClaims.frame_rf,
  Cert.AttnClaims.preserves, Cert.AttnClaims.algebraic, Cert.ProjClaims.preserves, Cert.ProjClaims.algebraic,
  Cert.TailClaims.preserves, Cert.TailClaims.algebraic,
  Cert.AdaClaims.preserves, Cert.AdaClaims.algebraic,
  Cert.NormClaims.preserves, Cert.NormClaims.algebraic,
  Cert.RouteClaims.preserves, Cert.RouteClaims.algebraic⟩

end Cert.Proof

end
